-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_inputs_tame [hPre_inputs_tame : Cert.Pre_inputs_tame.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_tame [hPre_inputs_tame : Cert.Pre_inputs_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_inputs_tame [hKernelIdeal : Cert.KernelIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_tame m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_inputs_tame [hReferenceIdeal : Cert.ReferenceIdeal.Facts] [hPre_inputs_tame : Cert.Pre_inputs_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_inputs_tame [hKernelIdeal : Cert.KernelIdeal.Facts] [hReferenceIdeal : Cert.ReferenceIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_inputs_tame : Cert.Pre_inputs_tame.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_inputs_tame (hKernelIdeal := hKernelIdeal) (hPre_inputs_tame := hPre_inputs_tame)
    ∧ quiescent_ReferenceIdeal (hReferenceIdeal := hReferenceIdeal)
    ∧ quiescent_ReferenceIdeal_pre_inputs_tame (hReferenceIdeal := hReferenceIdeal) (hPre_inputs_tame := hPre_inputs_tame)
    ∧ preserves_Kernel_KernelIdeal
    ∧ algebraic_KernelIdeal_ReferenceIdeal_pre_inputs_tame (hKernelIdeal := hKernelIdeal) (hReferenceIdeal := hReferenceIdeal) (hPre_inputs_tame := hPre_inputs_tame)
-- ==== Pre_ids_in_range.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S128x64 .f32) (main_arg3 : FVec F S64 .f32) (main_arg4 : FVec F S128x1 .f32) (main_arg5 : FVec F S1 .f32) (main_arg6 : FVec F S128x1 .f32) (main_arg7 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 256#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_inputs_tame.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_
  bcast_S_S100000x128 : S_.BroadcastsInDim S100000x128 (![] : Fin 0 → Fin S100000x128.rank)
  reducesTo_S100000x128_S_d0_1 : S100000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg6 : FVec F S128x1 .f32) (main_v5 : IVec S_ 1) (main_v9 : IVec S_ 1) (main_v33 : IVec S_ 1) : IVec S_ 1 :=
  let main_v34 : FVec F S128x1 .f32 := Host.absf main_arg6
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : IVec S_ 1 := andi main_v5 main_v9
  let main_v40 : IVec S_ 1 := andi main_v39 main_v38
  main_v40

def fn_part1 {F : FTy → Type} [FloatOps F] (main_arg3 : FVec F S64 .f32) (main_arg4 : FVec F S128x1 .f32) (main_arg5 : FVec F S1 .f32) (main_arg6 : FVec F S128x1 .f32) (main_v5 : IVec S_ 1) (main_v9 : IVec S_ 1) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg3
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x1 .f32 := Host.absf main_arg4
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg5
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg6 main_v5 main_v9 main_v33

def fn {F : FTy → Type} [FloatOps F] (main_arg0 : FVec F S100000x128 .f32) (main_arg1 : IVec S100000 32) (main_arg2 : FVec F S128x64 .f32) (main_arg3 : FVec F S64 .f32) (main_arg4 : FVec F S128x1 .f32) (main_arg5 : FVec F S1 .f32) (main_arg6 : FVec F S128x1 .f32) (main_arg7 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 256#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![0] · slices_S100000_S99999_0) main_arg1
  let main_v7 : IVec S99999 32 := (extractStridedSlice S99999 ![1] · slices_S100000_S99999_1) main_arg1
  let main_v8 : IVec S99999 1 := cmpi .sle main_v6 main_v7
  let main_c_2 : IVec S_ 1 := constantI S_ 1 1#1
  let main_v9 : IVec S_ 1 := (fun x v => Host.reduce IntOp.andi x v reducesTo_S99999_S_d0 h_S_) main_v8 main_c_2
  let main_v10 : FVec F S100000x128 .f32 := Host.absf main_arg0
  let main_cst : FVec F S_ .f32 := constant S_ .f32 0x7F800000#32
  let main_v11 : FVec F S100000x128 .f32 := broadcastInDim S100000x128 ![] bcast_S_S100000x128 main_cst
  let main_v12 : IVec S100000x128 1 := cmpf .olt main_v10 main_v11
  let main_c_3 : IVec S_ 1 := constantI S_ 1 1#1
  let main_v13 : IVec S_ 1 := (fun x v => Host.reduce IntOp.andi x v reducesTo_S100000x128_S_d0_1 h_S_) main_v12 main_c_3
  let main_v14 : FVec F S128x64 .f32 := Host.absf main_arg2
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg3 main_arg4 main_arg5 main_arg6 main_v5 main_v9 main_v13 main_v16
-- ==== Kernel.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S16384x128 : Shape := ⟨2, ![16384, 128]⟩
abbrev S16384 : Shape := ⟨1, ![16384]⟩
abbrev S64x1 : Shape := ⟨2, ![64, 1]⟩
abbrev S64x2 : Shape := ⟨2, ![64, 2]⟩
abbrev S128x2 : Shape := ⟨2, ![128, 2]⟩
abbrev S16384x2 : Shape := ⟨2, ![16384, 2]⟩
abbrev S2x16384 : Shape := ⟨2, ![2, 16384]⟩
abbrev S1x16384 : Shape := ⟨2, ![1, 16384]⟩
abbrev S32x256 : Shape := ⟨2, ![32, 256]⟩
abbrev S3136 : Shape := ⟨1, ![3136]⟩
abbrev S256 : Shape := ⟨1, ![256]⟩
abbrev S_ : Shape := ⟨0, ![]⟩
abbrev S2784 : Shape := ⟨1, ![2784]⟩
abbrev S352 : Shape := ⟨1, ![352]⟩
abbrev S16 : Shape := ⟨1, ![16]⟩
abbrev S15 : Shape := ⟨1, ![15]⟩
abbrev S2 : Shape := ⟨1, ![2]⟩
abbrev S14 : Shape := ⟨1, ![14]⟩
abbrev S4 : Shape := ⟨1, ![4]⟩
abbrev S12 : Shape := ⟨1, ![12]⟩
abbrev S8 : Shape := ⟨1, ![8]⟩
abbrev S1x256 : Shape := ⟨2, ![1, 256]⟩
abbrev S1x64 : Shape := ⟨2, ![1, 64]⟩
abbrev S1x1 : Shape := ⟨2, ![1, 1]⟩

abbrev nBuf : Table → Nat
  | .hbm => 17
  | .local .tc .vmem => 16
  | .local .scVector .vmem => 6
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S128x1, .f32⟩
  | .hbm, ⟨5, _⟩ => ⟨S1, .f32⟩
  | .hbm, ⟨6, _⟩ => ⟨S128x1, .f32⟩
  | .hbm, ⟨7, _⟩ => ⟨S1, .f32⟩
  | .hbm, ⟨8, _⟩ => ⟨S100000, .f32⟩
  | .hbm, ⟨9, _⟩ => ⟨S100000, .f32⟩
  | .hbm, ⟨10, _⟩ => ⟨S32x256, .f32⟩
  | .hbm, ⟨11, _⟩ => ⟨S32x256, .f32⟩
  | .hbm, ⟨12, _⟩ => ⟨S32x256, .f32⟩
  | .hbm, ⟨13, _⟩ => ⟨S1x64, .f32⟩
  | .hbm, ⟨14, _⟩ => ⟨S1x1, .f32⟩
  | .hbm, ⟨15, _⟩ => ⟨S1x256, .f32⟩
  | .hbm, ⟨16, _⟩ => ⟨S256, .f32⟩
  | .local .tc .vmem, ⟨0, _⟩ => ⟨S16384x128, .f32⟩
  | .local .tc .vmem, ⟨1, _⟩ => ⟨S16384x128, .f32⟩
  | .local .tc .vmem, ⟨2, _⟩ => ⟨S128x64, .f32⟩
  | .local .tc .vmem, ⟨3, _⟩ => ⟨S128x1, .f32⟩
  | .local .tc .vmem, ⟨4, _⟩ => ⟨S128x1, .f32⟩
  | .local .tc .vmem, ⟨5, _⟩ => ⟨S16384, .f32⟩
  | .local .tc .vmem, ⟨6, _⟩ => ⟨S16384, .f32⟩
  | .local .tc .vmem, ⟨7, _⟩ => ⟨S16384, .f32⟩
  | .local .tc .vmem, ⟨8, _⟩ => ⟨S16384, .f32⟩
  | .local .tc .vmem, ⟨9, _⟩ => ⟨S32x256, .f32⟩
  | .local .tc .vmem, ⟨10, _⟩ => ⟨S32x256, .f32⟩
  | .local .tc .vmem, ⟨11, _⟩ => ⟨S32x256, .f32⟩
  | .local .tc .vmem, ⟨12, _⟩ => ⟨S1x64, .f32⟩
  | .local .tc .vmem, ⟨13, _⟩ => ⟨S128x1, .f32⟩
  | .local .tc .vmem, ⟨14, _⟩ => ⟨S1x1, .f32⟩
  | .local .tc .vmem, ⟨15, _⟩ => ⟨S1x256, .f32⟩
  | .local .scVector .vmem, ⟨0, _⟩ => ⟨S3136, .f32⟩
  | .local .scVector .vmem, ⟨1, _⟩ => ⟨S3136, .f32⟩
  | .local .scVector .vmem, ⟨2, _⟩ => ⟨S3136, .i32⟩
  | .local .scVector .vmem, ⟨3, _⟩ => ⟨S256, .f32⟩
  | .local .scVector .vmem, ⟨4, _⟩ => ⟨S256, .f32⟩
  | .local .scVector .vmem, ⟨5, _⟩ => ⟨S256, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v0_0_scv : Ref sig .scVector := ⟨.hbm, 8, rfl⟩
abbrev main_v0_1_scv : Ref sig .scVector := ⟨.hbm, 9, rfl⟩
abbrev main_arg1_scv : Ref sig .scVector := ⟨.hbm, 1, rfl⟩
abbrev main_v1_0_scv : Ref sig .scVector := ⟨.hbm, 10, rfl⟩
abbrev main_v1_1_scv : Ref sig .scVector := ⟨.hbm, 11, rfl⟩
abbrev main_v1_2_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  ![v2.toNat]
def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_7 : BitVec 32 := 31#32
  let v20 : BitVec 1 := Scalar.cmpi .slt v1 c31_i32_7
  let v21 : BitVec 32 := Scalar.extui v20
  let c0_i32_8 : BitVec 32 := 0#32
  let v22 : BitVec 1 := Scalar.cmpi .ne v21 c0_i32_8
  v22

def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  let c2784_i32 : BitVec 32 := 2784#32
  let v5 : BitVec 32 := Scalar.addi v2 c2784_i32
  ![v5.toNat]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_15 : BitVec 32 := 31#32
  let v35 : BitVec 1 := Scalar.cmpi .slt v1 c31_i32_15
  let v36 : BitVec 32 := Scalar.extui v35
  let c0_i32_16 : BitVec 32 := 0#32
  let v37 : BitVec 1 := Scalar.cmpi .ne v36 c0_i32_16
  v37

def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  let c2784_i32 : BitVec 32 := 2784#32
  let v5 : BitVec 32 := Scalar.addi v2 c2784_i32
  ![v5.toNat]
@[reducible] def k1_t1_loop : Scf.Loop 32 :=
  let c0_i32_18 : BitVec 32 := 0#32
  let c16_i32 : BitVec 32 := 16#32
  let v40 : BitVec 32 := Scalar.addi c0_i32_18 c16_i32
  let c1_i32 : BitVec 32 := 1#32
  ⟨c0_i32_18, v40, c1_i32⟩
def k1_mult1 (k1_t1 : Fin k1_t1_loop.trips) : BitVec 32 :=
  let c0_i32_43 : BitVec 32 := 0#32
  let c0_i32_18 : BitVec 32 := 0#32
  let c1_i32 : BitVec 32 := 1#32
  let arg18 : BitVec 32 := Scf.iv c0_i32_18 c1_i32 k1_t1
  let c16_i32_42 : BitVec 32 := 16#32
  let v86 : BitVec 32 := Scalar.muli arg18 c16_i32_42
  let v87 : BitVec 32 := Scalar.addi c0_i32_43 v86
  v87
def k1_off4 (k1_t1 : Fin k1_t1_loop.trips) : Fin 1 → Nat :=
  let c0_i32_43 : BitVec 32 := 0#32
  let c0_i32_18 : BitVec 32 := 0#32
  let c1_i32 : BitVec 32 := 1#32
  let arg18 : BitVec 32 := Scf.iv c0_i32_18 c1_i32 k1_t1
  let c16_i32_42 : BitVec 32 := 16#32
  let v86 : BitVec 32 := Scalar.muli arg18 c16_i32_42
  let v87 : BitVec 32 := Scalar.addi c0_i32_43 v86
  let v88 : BitVec 32 := v87
  let v89 : Index := Scalar.indexCast v88
  ![v89.toNat]
@[reducible] def k1_t2_loop (i : grid1.Coords) : Scf.Loop 32 :=
  let c0_i32_27 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .eq v1 c31_i32
  let c174_i32 : BitVec 32 := 174#32
  let c196_i32 : BitVec 32 := 196#32
  let v4 : BitVec 32 := Scalar.select v3 c174_i32 c196_i32
  let c0_i32_21 : BitVec 32 := 0#32
  let v43 : BitVec 1 := Scalar.cmpi .sgt v4 c0_i32_21
  let v44 : BitVec 32 := Scalar.extui v43
  let c0_i32_22 : BitVec 32 := 0#32
  let v45 : BitVec 1 := Scalar.cmpi .slt v4 c0_i32_22
  let v46 : BitVec 32 := Scalar.extui v45
  let v47 : BitVec 32 := Scalar.subi v44 v46
  let c2_i32_20 : BitVec 32 := 2#32
  let c0_i32_23 : BitVec 32 := 0#32
  let v48 : BitVec 1 := Scalar.cmpi .sgt c2_i32_20 c0_i32_23
  let v49 : BitVec 32 := Scalar.extui v48
  let c0_i32_24 : BitVec 32 := 0#32
  let v50 : BitVec 1 := Scalar.cmpi .slt c2_i32_20 c0_i32_24
  let v51 : BitVec 32 := Scalar.extui v50
  let v52 : BitVec 32 := Scalar.subi v49 v51
  let v53 : BitVec 1 := Scalar.cmpi .ne v47 v52
  let v54 : BitVec 32 := Scalar.remsi v4 c2_i32_20
  let c0_i32_25 : BitVec 32 := 0#32
  let v55 : BitVec 1 := Scalar.cmpi .ne v54 c0_i32_25
  let v56 : BitVec 1 := Scalar.andi v53 v55
  let v42 : BitVec 32 := Scalar.divsi v4 c2_i32_20
  let c1_i32_26 : BitVec 32 := 1#32
  let v57 : BitVec 32 := Scalar.subi v42 c1_i32_26
  let v58 : BitVec 32 := Scalar.select v56 v57 v42
  let v59 : BitVec 32 := Scalar.subi v58 c0_i32_27
  let c1_i32_28 : BitVec 32 := 1#32
  let v61 : BitVec 32 := Scalar.divsi v59 c1_i32_28
  let v62 : BitVec 32 := Scalar.muli v61 c1_i32_28
  let v63 : BitVec 32 := Scalar.addi c0_i32_27 v62
  let c1_i32_29 : BitVec 32 := 1#32
  ⟨c0_i32_27, v63, c1_i32_29⟩
def k1_mult2 (i : grid1.Coords) (k1_t2 : Fin (k1_t2_loop i).trips) : BitVec 32 :=
  let c0_i32_27 : BitVec 32 := 0#32
  let c1_i32_29 : BitVec 32 := 1#32
  let arg18 : BitVec 32 := Scf.iv c0_i32_27 c1_i32_29 k1_t2
  let c32_i32 : BitVec 32 := 32#32
  let v86 : BitVec 32 := Scalar.muli arg18 c32_i32
  v86
def k1_off5 (i : grid1.Coords) (k1_t2 : Fin (k1_t2_loop i).trips) : Fin 1 → Nat :=
  let c0_i32_27 : BitVec 32 := 0#32
  let c1_i32_29 : BitVec 32 := 1#32
  let arg18 : BitVec 32 := Scf.iv c0_i32_27 c1_i32_29 k1_t2
  let c32_i32 : BitVec 32 := 32#32
  let v86 : BitVec 32 := Scalar.muli arg18 c32_i32
  let v87 : BitVec 32 := v86
  let v88 : Index := Scalar.indexCast v87
  ![v88.toNat]
def k1_off6 (i : grid1.Coords) (k1_t2 : Fin (k1_t2_loop i).trips) : Fin 1 → Nat :=
  let c0_i32_27 : BitVec 32 := 0#32
  let c1_i32_29 : BitVec 32 := 1#32
  let arg18 : BitVec 32 := Scf.iv c0_i32_27 c1_i32_29 k1_t2
  let c32_i32 : BitVec 32 := 32#32
  let v86 : BitVec 32 := Scalar.muli arg18 c32_i32
  let v87 : BitVec 32 := v86
  let c16_i32_46 : BitVec 32 := 16#32
  let v151 : BitVec 32 := Scalar.addi v87 c16_i32_46
  let v152 : Index := Scalar.indexCast v151
  ![v152.toNat]

def k1_chk1 (v89 : IVec S16 32) : Prop :=
  (∀ a x, ((![v89] : Fin 1 → IVec S16 32) a x).toNat < S256.size a) ∧
  (∀ a x, ((![v89] : Fin 1 → IVec S16 32) a x).toNat < S256.size a)
theorem k1_idx1_inb : ∀ (v89 : IVec S16 32) (k1_hw1 : k1_chk1 v89), ∀ a x, ((![v89] : Fin 1 → IVec S16 32) a x).toNat < S256.size a := fun v89 k1_hw1 => k1_hw1.1
theorem k1_idx2_inb : ∀ (v89 : IVec S16 32) (k1_hw1 : k1_chk1 v89), ∀ a x, ((![v89] : Fin 1 → IVec S16 32) a x).toNat < S256.size a := fun v89 k1_hw1 => k1_hw1.2

def k1_chk2 (v153 : IVec S16 32) : Prop :=
  (∀ a x, ((![v153] : Fin 1 → IVec S16 32) a x).toNat < S256.size a) ∧
  (∀ a x, ((![v153] : Fin 1 → IVec S16 32) a x).toNat < S256.size a)
theorem k1_idx3_inb : ∀ (v153 : IVec S16 32) (k1_hw2 : k1_chk2 v153), ∀ a x, ((![v153] : Fin 1 → IVec S16 32) a x).toNat < S256.size a := fun v153 k1_hw2 => k1_hw2.1
theorem k1_idx4_inb : ∀ (v153 : IVec S16 32) (k1_hw2 : k1_chk2 v153), ∀ a x, ((![v153] : Fin 1 → IVec S16 32) a x).toNat < S256.size a := fun v153 k1_hw2 => k1_hw2.2
@[reducible] def k1_t3_loop (i : grid1.Coords) : Scf.Loop 32 :=
  let c0_i32_27 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .eq v1 c31_i32
  let c174_i32 : BitVec 32 := 174#32
  let c196_i32 : BitVec 32 := 196#32
  let v4 : BitVec 32 := Scalar.select v3 c174_i32 c196_i32
  let c0_i32_21 : BitVec 32 := 0#32
  let v43 : BitVec 1 := Scalar.cmpi .sgt v4 c0_i32_21
  let v44 : BitVec 32 := Scalar.extui v43
  let c0_i32_22 : BitVec 32 := 0#32
  let v45 : BitVec 1 := Scalar.cmpi .slt v4 c0_i32_22
  let v46 : BitVec 32 := Scalar.extui v45
  let v47 : BitVec 32 := Scalar.subi v44 v46
  let c2_i32_20 : BitVec 32 := 2#32
  let c0_i32_23 : BitVec 32 := 0#32
  let v48 : BitVec 1 := Scalar.cmpi .sgt c2_i32_20 c0_i32_23
  let v49 : BitVec 32 := Scalar.extui v48
  let c0_i32_24 : BitVec 32 := 0#32
  let v50 : BitVec 1 := Scalar.cmpi .slt c2_i32_20 c0_i32_24
  let v51 : BitVec 32 := Scalar.extui v50
  let v52 : BitVec 32 := Scalar.subi v49 v51
  let v53 : BitVec 1 := Scalar.cmpi .ne v47 v52
  let v54 : BitVec 32 := Scalar.remsi v4 c2_i32_20
  let c0_i32_25 : BitVec 32 := 0#32
  let v55 : BitVec 1 := Scalar.cmpi .ne v54 c0_i32_25
  let v56 : BitVec 1 := Scalar.andi v53 v55
  let v42 : BitVec 32 := Scalar.divsi v4 c2_i32_20
  let c1_i32_26 : BitVec 32 := 1#32
  let v57 : BitVec 32 := Scalar.subi v42 c1_i32_26
  let v58 : BitVec 32 := Scalar.select v56 v57 v42
  let v59 : BitVec 32 := Scalar.subi v58 c0_i32_27
  let c1_i32_28 : BitVec 32 := 1#32
  let v61 : BitVec 32 := Scalar.divsi v59 c1_i32_28
  let v62 : BitVec 32 := Scalar.muli v61 c1_i32_28
  let v63 : BitVec 32 := Scalar.addi c0_i32_27 v62
  let v60 : BitVec 32 := Scalar.addi c0_i32_27 v59
  let c1_i32_30 : BitVec 32 := 1#32
  ⟨v63, v60, c1_i32_30⟩
def k1_mult3 (i : grid1.Coords) (k1_t3 : Fin (k1_t3_loop i).trips) : BitVec 32 :=
  let c0_i32_27 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .eq v1 c31_i32
  let c174_i32 : BitVec 32 := 174#32
  let c196_i32 : BitVec 32 := 196#32
  let v4 : BitVec 32 := Scalar.select v3 c174_i32 c196_i32
  let c0_i32_21 : BitVec 32 := 0#32
  let v43 : BitVec 1 := Scalar.cmpi .sgt v4 c0_i32_21
  let v44 : BitVec 32 := Scalar.extui v43
  let c0_i32_22 : BitVec 32 := 0#32
  let v45 : BitVec 1 := Scalar.cmpi .slt v4 c0_i32_22
  let v46 : BitVec 32 := Scalar.extui v45
  let v47 : BitVec 32 := Scalar.subi v44 v46
  let c2_i32_20 : BitVec 32 := 2#32
  let c0_i32_23 : BitVec 32 := 0#32
  let v48 : BitVec 1 := Scalar.cmpi .sgt c2_i32_20 c0_i32_23
  let v49 : BitVec 32 := Scalar.extui v48
  let c0_i32_24 : BitVec 32 := 0#32
  let v50 : BitVec 1 := Scalar.cmpi .slt c2_i32_20 c0_i32_24
  let v51 : BitVec 32 := Scalar.extui v50
  let v52 : BitVec 32 := Scalar.subi v49 v51
  let v53 : BitVec 1 := Scalar.cmpi .ne v47 v52
  let v54 : BitVec 32 := Scalar.remsi v4 c2_i32_20
  let c0_i32_25 : BitVec 32 := 0#32
  let v55 : BitVec 1 := Scalar.cmpi .ne v54 c0_i32_25
  let v56 : BitVec 1 := Scalar.andi v53 v55
  let v42 : BitVec 32 := Scalar.divsi v4 c2_i32_20
  let c1_i32_26 : BitVec 32 := 1#32
  let v57 : BitVec 32 := Scalar.subi v42 c1_i32_26
  let v58 : BitVec 32 := Scalar.select v56 v57 v42
  let v59 : BitVec 32 := Scalar.subi v58 c0_i32_27
  let c1_i32_28 : BitVec 32 := 1#32
  let v61 : BitVec 32 := Scalar.divsi v59 c1_i32_28
  let v62 : BitVec 32 := Scalar.muli v61 c1_i32_28
  let v63 : BitVec 32 := Scalar.addi c0_i32_27 v62
  let c1_i32_30 : BitVec 32 := 1#32
  let arg18 : BitVec 32 := Scf.iv v63 c1_i32_30 k1_t3
  let c32_i32 : BitVec 32 := 32#32
  let v86 : BitVec 32 := Scalar.muli arg18 c32_i32
  v86
def k1_off7 (i : grid1.Coords) (k1_t3 : Fin (k1_t3_loop i).trips) : Fin 1 → Nat :=
  let c0_i32_27 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .eq v1 c31_i32
  let c174_i32 : BitVec 32 := 174#32
  let c196_i32 : BitVec 32 := 196#32
  let v4 : BitVec 32 := Scalar.select v3 c174_i32 c196_i32
  let c0_i32_21 : BitVec 32 := 0#32
  let v43 : BitVec 1 := Scalar.cmpi .sgt v4 c0_i32_21
  let v44 : BitVec 32 := Scalar.extui v43
  let c0_i32_22 : BitVec 32 := 0#32
  let v45 : BitVec 1 := Scalar.cmpi .slt v4 c0_i32_22
  let v46 : BitVec 32 := Scalar.extui v45
  let v47 : BitVec 32 := Scalar.subi v44 v46
  let c2_i32_20 : BitVec 32 := 2#32
  let c0_i32_23 : BitVec 32 := 0#32
  let v48 : BitVec 1 := Scalar.cmpi .sgt c2_i32_20 c0_i32_23
  let v49 : BitVec 32 := Scalar.extui v48
  let c0_i32_24 : BitVec 32 := 0#32
  let v50 : BitVec 1 := Scalar.cmpi .slt c2_i32_20 c0_i32_24
  let v51 : BitVec 32 := Scalar.extui v50
  let v52 : BitVec 32 := Scalar.subi v49 v51
  let v53 : BitVec 1 := Scalar.cmpi .ne v47 v52
  let v54 : BitVec 32 := Scalar.remsi v4 c2_i32_20
  let c0_i32_25 : BitVec 32 := 0#32
  let v55 : BitVec 1 := Scalar.cmpi .ne v54 c0_i32_25
  let v56 : BitVec 1 := Scalar.andi v53 v55
  let v42 : BitVec 32 := Scalar.divsi v4 c2_i32_20
  let c1_i32_26 : BitVec 32 := 1#32
  let v57 : BitVec 32 := Scalar.subi v42 c1_i32_26
  let v58 : BitVec 32 := Scalar.select v56 v57 v42
  let v59 : BitVec 32 := Scalar.subi v58 c0_i32_27
  let c1_i32_28 : BitVec 32 := 1#32
  let v61 : BitVec 32 := Scalar.divsi v59 c1_i32_28
  let v62 : BitVec 32 := Scalar.muli v61 c1_i32_28
  let v63 : BitVec 32 := Scalar.addi c0_i32_27 v62
  let c1_i32_30 : BitVec 32 := 1#32
  let arg18 : BitVec 32 := Scf.iv v63 c1_i32_30 k1_t3
  let c32_i32 : BitVec 32 := 32#32
  let v86 : BitVec 32 := Scalar.muli arg18 c32_i32
  let v87 : BitVec 32 := v86
  let v88 : Index := Scalar.indexCast v87
  ![v88.toNat]
def k1_off8 (i : grid1.Coords) (k1_t3 : Fin (k1_t3_loop i).trips) : Fin 1 → Nat :=
  let c0_i32_27 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .eq v1 c31_i32
  let c174_i32 : BitVec 32 := 174#32
  let c196_i32 : BitVec 32 := 196#32
  let v4 : BitVec 32 := Scalar.select v3 c174_i32 c196_i32
  let c0_i32_21 : BitVec 32 := 0#32
  let v43 : BitVec 1 := Scalar.cmpi .sgt v4 c0_i32_21
  let v44 : BitVec 32 := Scalar.extui v43
  let c0_i32_22 : BitVec 32 := 0#32
  let v45 : BitVec 1 := Scalar.cmpi .slt v4 c0_i32_22
  let v46 : BitVec 32 := Scalar.extui v45
  let v47 : BitVec 32 := Scalar.subi v44 v46
  let c2_i32_20 : BitVec 32 := 2#32
  let c0_i32_23 : BitVec 32 := 0#32
  let v48 : BitVec 1 := Scalar.cmpi .sgt c2_i32_20 c0_i32_23
  let v49 : BitVec 32 := Scalar.extui v48
  let c0_i32_24 : BitVec 32 := 0#32
  let v50 : BitVec 1 := Scalar.cmpi .slt c2_i32_20 c0_i32_24
  let v51 : BitVec 32 := Scalar.extui v50
  let v52 : BitVec 32 := Scalar.subi v49 v51
  let v53 : BitVec 1 := Scalar.cmpi .ne v47 v52
  let v54 : BitVec 32 := Scalar.remsi v4 c2_i32_20
  let c0_i32_25 : BitVec 32 := 0#32
  let v55 : BitVec 1 := Scalar.cmpi .ne v54 c0_i32_25
  let v56 : BitVec 1 := Scalar.andi v53 v55
  let v42 : BitVec 32 := Scalar.divsi v4 c2_i32_20
  let c1_i32_26 : BitVec 32 := 1#32
  let v57 : BitVec 32 := Scalar.subi v42 c1_i32_26
  let v58 : BitVec 32 := Scalar.select v56 v57 v42
  let v59 : BitVec 32 := Scalar.subi v58 c0_i32_27
  let c1_i32_28 : BitVec 32 := 1#32
  let v61 : BitVec 32 := Scalar.divsi v59 c1_i32_28
  let v62 : BitVec 32 := Scalar.muli v61 c1_i32_28
  let v63 : BitVec 32 := Scalar.addi c0_i32_27 v62
  let c1_i32_30 : BitVec 32 := 1#32
  let arg18 : BitVec 32 := Scf.iv v63 c1_i32_30 k1_t3
  let c32_i32 : BitVec 32 := 32#32
  let v86 : BitVec 32 := Scalar.muli arg18 c32_i32
  let v87 : BitVec 32 := v86
  let c16_i32_46 : BitVec 32 := 16#32
  let v151 : BitVec 32 := Scalar.addi v87 c16_i32_46
  let v152 : Index := Scalar.indexCast v151
  ![v152.toNat]

def k1_chk3 (i : grid1.Coords) (k1_t3 : Fin (k1_t3_loop i).trips) (v89 : IVec S16 32) : Prop :=
  (∀ a x, ((![v89] : Fin 1 → IVec S16 32) a x).toNat < S256.size a) ∧
  (∀ a x, ((![v89] : Fin 1 → IVec S16 32) a x).toNat < S256.size a)
theorem k1_idx5_inb : ∀ (i : grid1.Coords) (k1_t3 : Fin (k1_t3_loop i).trips) (v89 : IVec S16 32) (k1_hw3 : k1_chk3 i k1_t3 v89), ∀ a x, ((![v89] : Fin 1 → IVec S16 32) a x).toNat < S256.size a := fun i k1_t3 v89 k1_hw3 => k1_hw3.1
theorem k1_idx6_inb : ∀ (i : grid1.Coords) (k1_t3 : Fin (k1_t3_loop i).trips) (v89 : IVec S16 32) (k1_hw3 : k1_chk3 i k1_t3 v89), ∀ a x, ((![v89] : Fin 1 → IVec S16 32) a x).toNat < S256.size a := fun i k1_t3 v89 k1_hw3 => k1_hw3.2

def k1_chk4 (i : grid1.Coords) (k1_t3 : Fin (k1_t3_loop i).trips) (v153 : IVec S16 32) : Prop :=
  (∀ a x, ((![v153] : Fin 1 → IVec S16 32) a x).toNat < S256.size a) ∧
  (∀ a x, ((![v153] : Fin 1 → IVec S16 32) a x).toNat < S256.size a)
theorem k1_idx7_inb : ∀ (i : grid1.Coords) (k1_t3 : Fin (k1_t3_loop i).trips) (v153 : IVec S16 32) (k1_hw4 : k1_chk4 i k1_t3 v153), ∀ a x, ((![v153] : Fin 1 → IVec S16 32) a x).toNat < S256.size a := fun i k1_t3 v153 k1_hw4 => k1_hw4.1
theorem k1_idx8_inb : ∀ (i : grid1.Coords) (k1_t3 : Fin (k1_t3_loop i).trips) (v153 : IVec S16 32) (k1_hw4 : k1_chk4 i k1_t3 v153), ∀ a x, ((![v153] : Fin 1 → IVec S16 32) a x).toNat < S256.size a := fun i k1_t3 v153 k1_hw4 => k1_hw4.2
@[reducible] def k1_t4_loop (i : grid1.Coords) : Scf.Loop 32 :=
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .eq v1 c31_i32
  let c174_i32 : BitVec 32 := 174#32
  let c196_i32 : BitVec 32 := 196#32
  let v4 : BitVec 32 := Scalar.select v3 c174_i32 c196_i32
  let c0_i32_32 : BitVec 32 := 0#32
  let v65 : BitVec 1 := Scalar.cmpi .sgt v4 c0_i32_32
  let v66 : BitVec 32 := Scalar.extui v65
  let c0_i32_33 : BitVec 32 := 0#32
  let v67 : BitVec 1 := Scalar.cmpi .slt v4 c0_i32_33
  let v68 : BitVec 32 := Scalar.extui v67
  let v69 : BitVec 32 := Scalar.subi v66 v68
  let c2_i32_31 : BitVec 32 := 2#32
  let c0_i32_34 : BitVec 32 := 0#32
  let v70 : BitVec 1 := Scalar.cmpi .sgt c2_i32_31 c0_i32_34
  let v71 : BitVec 32 := Scalar.extui v70
  let c0_i32_35 : BitVec 32 := 0#32
  let v72 : BitVec 1 := Scalar.cmpi .slt c2_i32_31 c0_i32_35
  let v73 : BitVec 32 := Scalar.extui v72
  let v74 : BitVec 32 := Scalar.subi v71 v73
  let v75 : BitVec 1 := Scalar.cmpi .ne v69 v74
  let v76 : BitVec 32 := Scalar.remsi v4 c2_i32_31
  let c0_i32_36 : BitVec 32 := 0#32
  let v77 : BitVec 1 := Scalar.cmpi .ne v76 c0_i32_36
  let v78 : BitVec 1 := Scalar.andi v75 v77
  let v64 : BitVec 32 := Scalar.divsi v4 c2_i32_31
  let c1_i32_37 : BitVec 32 := 1#32
  let v79 : BitVec 32 := Scalar.subi v64 c1_i32_37
  let v80 : BitVec 32 := Scalar.select v78 v79 v64
  let v81 : BitVec 32 := Scalar.subi v80 c0_i32_38
  let c1_i32_39 : BitVec 32 := 1#32
  let v83 : BitVec 32 := Scalar.divsi v81 c1_i32_39
  let v84 : BitVec 32 := Scalar.muli v83 c1_i32_39
  let v85 : BitVec 32 := Scalar.addi c0_i32_38 v84
  let c1_i32_40 : BitVec 32 := 1#32
  ⟨c0_i32_38, v85, c1_i32_40⟩
def k1_mult4 (i : grid1.Coords) (k1_t4 : Fin (k1_t4_loop i).trips) : BitVec 32 :=
  let c0_i32_38 : BitVec 32 := 0#32
  let c1_i32_40 : BitVec 32 := 1#32
  let arg18 : BitVec 32 := Scf.iv c0_i32_38 c1_i32_40 k1_t4
  let c32_i32 : BitVec 32 := 32#32
  let v86 : BitVec 32 := Scalar.muli arg18 c32_i32
  v86
def k1_off9 (i : grid1.Coords) (k1_t4 : Fin (k1_t4_loop i).trips) : Fin 1 → Nat :=
  let c0_i32_38 : BitVec 32 := 0#32
  let c1_i32_40 : BitVec 32 := 1#32
  let arg18 : BitVec 32 := Scf.iv c0_i32_38 c1_i32_40 k1_t4
  let c32_i32 : BitVec 32 := 32#32
  let v86 : BitVec 32 := Scalar.muli arg18 c32_i32
  let v87 : BitVec 32 := v86
  let v88 : Index := Scalar.indexCast v87
  ![v88.toNat]
def k1_off10 (i : grid1.Coords) (k1_t4 : Fin (k1_t4_loop i).trips) : Fin 1 → Nat :=
  let c0_i32_38 : BitVec 32 := 0#32
  let c1_i32_40 : BitVec 32 := 1#32
  let arg18 : BitVec 32 := Scf.iv c0_i32_38 c1_i32_40 k1_t4
  let c32_i32 : BitVec 32 := 32#32
  let v86 : BitVec 32 := Scalar.muli arg18 c32_i32
  let v87 : BitVec 32 := v86
  let c16_i32_52 : BitVec 32 := 16#32
  let v199 : BitVec 32 := Scalar.addi v87 c16_i32_52
  let v200 : Index := Scalar.indexCast v199
  ![v200.toNat]

def k1_chk5 (v89 : IVec S16 32) : Prop :=
  (∀ a x, ((![v89] : Fin 1 → IVec S16 32) a x).toNat < S256.size a) ∧
  (∀ a x, ((![v89] : Fin 1 → IVec S16 32) a x).toNat < S256.size a) ∧
  (∀ a x, ((![v89] : Fin 1 → IVec S16 32) a x).toNat < S256.size a)
theorem k1_idx9_inb : ∀ (v89 : IVec S16 32) (k1_hw5 : k1_chk5 v89), ∀ a x, ((![v89] : Fin 1 → IVec S16 32) a x).toNat < S256.size a := fun v89 k1_hw5 => k1_hw5.1
theorem k1_idx11_inb : ∀ (v89 : IVec S16 32) (k1_hw5 : k1_chk5 v89), ∀ a x, ((![v89] : Fin 1 → IVec S16 32) a x).toNat < S256.size a := fun v89 k1_hw5 => k1_hw5.2.1
theorem k1_idx12_inb : ∀ (v89 : IVec S16 32) (k1_hw5 : k1_chk5 v89), ∀ a x, ((![v89] : Fin 1 → IVec S16 32) a x).toNat < S256.size a := fun v89 k1_hw5 => k1_hw5.2.2

def k1_chk6 (v201 : IVec S16 32) : Prop :=
  (∀ a x, ((![v201] : Fin 1 → IVec S16 32) a x).toNat < S256.size a) ∧
  (∀ a x, ((![v201] : Fin 1 → IVec S16 32) a x).toNat < S256.size a) ∧
  (∀ a x, ((![v201] : Fin 1 → IVec S16 32) a x).toNat < S256.size a)
theorem k1_idx10_inb : ∀ (v201 : IVec S16 32) (k1_hw6 : k1_chk6 v201), ∀ a x, ((![v201] : Fin 1 → IVec S16 32) a x).toNat < S256.size a := fun v201 k1_hw6 => k1_hw6.1
theorem k1_idx13_inb : ∀ (v201 : IVec S16 32) (k1_hw6 : k1_chk6 v201), ∀ a x, ((![v201] : Fin 1 → IVec S16 32) a x).toNat < S256.size a := fun v201 k1_hw6 => k1_hw6.2.1
theorem k1_idx14_inb : ∀ (v201 : IVec S16 32) (k1_hw6 : k1_chk6 v201), ∀ a x, ((![v201] : Fin 1 → IVec S16 32) a x).toNat < S256.size a := fun v201 k1_hw6 => k1_hw6.2.2
@[reducible] def k1_t5_loop (i : grid1.Coords) : Scf.Loop 32 :=
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .eq v1 c31_i32
  let c174_i32 : BitVec 32 := 174#32
  let c196_i32 : BitVec 32 := 196#32
  let v4 : BitVec 32 := Scalar.select v3 c174_i32 c196_i32
  let c0_i32_32 : BitVec 32 := 0#32
  let v65 : BitVec 1 := Scalar.cmpi .sgt v4 c0_i32_32
  let v66 : BitVec 32 := Scalar.extui v65
  let c0_i32_33 : BitVec 32 := 0#32
  let v67 : BitVec 1 := Scalar.cmpi .slt v4 c0_i32_33
  let v68 : BitVec 32 := Scalar.extui v67
  let v69 : BitVec 32 := Scalar.subi v66 v68
  let c2_i32_31 : BitVec 32 := 2#32
  let c0_i32_34 : BitVec 32 := 0#32
  let v70 : BitVec 1 := Scalar.cmpi .sgt c2_i32_31 c0_i32_34
  let v71 : BitVec 32 := Scalar.extui v70
  let c0_i32_35 : BitVec 32 := 0#32
  let v72 : BitVec 1 := Scalar.cmpi .slt c2_i32_31 c0_i32_35
  let v73 : BitVec 32 := Scalar.extui v72
  let v74 : BitVec 32 := Scalar.subi v71 v73
  let v75 : BitVec 1 := Scalar.cmpi .ne v69 v74
  let v76 : BitVec 32 := Scalar.remsi v4 c2_i32_31
  let c0_i32_36 : BitVec 32 := 0#32
  let v77 : BitVec 1 := Scalar.cmpi .ne v76 c0_i32_36
  let v78 : BitVec 1 := Scalar.andi v75 v77
  let v64 : BitVec 32 := Scalar.divsi v4 c2_i32_31
  let c1_i32_37 : BitVec 32 := 1#32
  let v79 : BitVec 32 := Scalar.subi v64 c1_i32_37
  let v80 : BitVec 32 := Scalar.select v78 v79 v64
  let v81 : BitVec 32 := Scalar.subi v80 c0_i32_38
  let c1_i32_39 : BitVec 32 := 1#32
  let v83 : BitVec 32 := Scalar.divsi v81 c1_i32_39
  let v84 : BitVec 32 := Scalar.muli v83 c1_i32_39
  let v85 : BitVec 32 := Scalar.addi c0_i32_38 v84
  let v82 : BitVec 32 := Scalar.addi c0_i32_38 v81
  let c1_i32_41 : BitVec 32 := 1#32
  ⟨v85, v82, c1_i32_41⟩
def k1_mult5 (i : grid1.Coords) (k1_t5 : Fin (k1_t5_loop i).trips) : BitVec 32 :=
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .eq v1 c31_i32
  let c174_i32 : BitVec 32 := 174#32
  let c196_i32 : BitVec 32 := 196#32
  let v4 : BitVec 32 := Scalar.select v3 c174_i32 c196_i32
  let c0_i32_32 : BitVec 32 := 0#32
  let v65 : BitVec 1 := Scalar.cmpi .sgt v4 c0_i32_32
  let v66 : BitVec 32 := Scalar.extui v65
  let c0_i32_33 : BitVec 32 := 0#32
  let v67 : BitVec 1 := Scalar.cmpi .slt v4 c0_i32_33
  let v68 : BitVec 32 := Scalar.extui v67
  let v69 : BitVec 32 := Scalar.subi v66 v68
  let c2_i32_31 : BitVec 32 := 2#32
  let c0_i32_34 : BitVec 32 := 0#32
  let v70 : BitVec 1 := Scalar.cmpi .sgt c2_i32_31 c0_i32_34
  let v71 : BitVec 32 := Scalar.extui v70
  let c0_i32_35 : BitVec 32 := 0#32
  let v72 : BitVec 1 := Scalar.cmpi .slt c2_i32_31 c0_i32_35
  let v73 : BitVec 32 := Scalar.extui v72
  let v74 : BitVec 32 := Scalar.subi v71 v73
  let v75 : BitVec 1 := Scalar.cmpi .ne v69 v74
  let v76 : BitVec 32 := Scalar.remsi v4 c2_i32_31
  let c0_i32_36 : BitVec 32 := 0#32
  let v77 : BitVec 1 := Scalar.cmpi .ne v76 c0_i32_36
  let v78 : BitVec 1 := Scalar.andi v75 v77
  let v64 : BitVec 32 := Scalar.divsi v4 c2_i32_31
  let c1_i32_37 : BitVec 32 := 1#32
  let v79 : BitVec 32 := Scalar.subi v64 c1_i32_37
  let v80 : BitVec 32 := Scalar.select v78 v79 v64
  let v81 : BitVec 32 := Scalar.subi v80 c0_i32_38
  let c1_i32_39 : BitVec 32 := 1#32
  let v83 : BitVec 32 := Scalar.divsi v81 c1_i32_39
  let v84 : BitVec 32 := Scalar.muli v83 c1_i32_39
  let v85 : BitVec 32 := Scalar.addi c0_i32_38 v84
  let c1_i32_41 : BitVec 32 := 1#32
  let arg18 : BitVec 32 := Scf.iv v85 c1_i32_41 k1_t5
  let c32_i32 : BitVec 32 := 32#32
  let v86 : BitVec 32 := Scalar.muli arg18 c32_i32
  v86
def k1_off11 (i : grid1.Coords) (k1_t5 : Fin (k1_t5_loop i).trips) : Fin 1 → Nat :=
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .eq v1 c31_i32
  let c174_i32 : BitVec 32 := 174#32
  let c196_i32 : BitVec 32 := 196#32
  let v4 : BitVec 32 := Scalar.select v3 c174_i32 c196_i32
  let c0_i32_32 : BitVec 32 := 0#32
  let v65 : BitVec 1 := Scalar.cmpi .sgt v4 c0_i32_32
  let v66 : BitVec 32 := Scalar.extui v65
  let c0_i32_33 : BitVec 32 := 0#32
  let v67 : BitVec 1 := Scalar.cmpi .slt v4 c0_i32_33
  let v68 : BitVec 32 := Scalar.extui v67
  let v69 : BitVec 32 := Scalar.subi v66 v68
  let c2_i32_31 : BitVec 32 := 2#32
  let c0_i32_34 : BitVec 32 := 0#32
  let v70 : BitVec 1 := Scalar.cmpi .sgt c2_i32_31 c0_i32_34
  let v71 : BitVec 32 := Scalar.extui v70
  let c0_i32_35 : BitVec 32 := 0#32
  let v72 : BitVec 1 := Scalar.cmpi .slt c2_i32_31 c0_i32_35
  let v73 : BitVec 32 := Scalar.extui v72
  let v74 : BitVec 32 := Scalar.subi v71 v73
  let v75 : BitVec 1 := Scalar.cmpi .ne v69 v74
  let v76 : BitVec 32 := Scalar.remsi v4 c2_i32_31
  let c0_i32_36 : BitVec 32 := 0#32
  let v77 : BitVec 1 := Scalar.cmpi .ne v76 c0_i32_36
  let v78 : BitVec 1 := Scalar.andi v75 v77
  let v64 : BitVec 32 := Scalar.divsi v4 c2_i32_31
  let c1_i32_37 : BitVec 32 := 1#32
  let v79 : BitVec 32 := Scalar.subi v64 c1_i32_37
  let v80 : BitVec 32 := Scalar.select v78 v79 v64
  let v81 : BitVec 32 := Scalar.subi v80 c0_i32_38
  let c1_i32_39 : BitVec 32 := 1#32
  let v83 : BitVec 32 := Scalar.divsi v81 c1_i32_39
  let v84 : BitVec 32 := Scalar.muli v83 c1_i32_39
  let v85 : BitVec 32 := Scalar.addi c0_i32_38 v84
  let c1_i32_41 : BitVec 32 := 1#32
  let arg18 : BitVec 32 := Scf.iv v85 c1_i32_41 k1_t5
  let c32_i32 : BitVec 32 := 32#32
  let v86 : BitVec 32 := Scalar.muli arg18 c32_i32
  let v87 : BitVec 32 := v86
  let v88 : Index := Scalar.indexCast v87
  ![v88.toNat]
def k1_off12 (i : grid1.Coords) (k1_t5 : Fin (k1_t5_loop i).trips) : Fin 1 → Nat :=
  let c0_i32_38 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .eq v1 c31_i32
  let c174_i32 : BitVec 32 := 174#32
  let c196_i32 : BitVec 32 := 196#32
  let v4 : BitVec 32 := Scalar.select v3 c174_i32 c196_i32
  let c0_i32_32 : BitVec 32 := 0#32
  let v65 : BitVec 1 := Scalar.cmpi .sgt v4 c0_i32_32
  let v66 : BitVec 32 := Scalar.extui v65
  let c0_i32_33 : BitVec 32 := 0#32
  let v67 : BitVec 1 := Scalar.cmpi .slt v4 c0_i32_33
  let v68 : BitVec 32 := Scalar.extui v67
  let v69 : BitVec 32 := Scalar.subi v66 v68
  let c2_i32_31 : BitVec 32 := 2#32
  let c0_i32_34 : BitVec 32 := 0#32
  let v70 : BitVec 1 := Scalar.cmpi .sgt c2_i32_31 c0_i32_34
  let v71 : BitVec 32 := Scalar.extui v70
  let c0_i32_35 : BitVec 32 := 0#32
  let v72 : BitVec 1 := Scalar.cmpi .slt c2_i32_31 c0_i32_35
  let v73 : BitVec 32 := Scalar.extui v72
  let v74 : BitVec 32 := Scalar.subi v71 v73
  let v75 : BitVec 1 := Scalar.cmpi .ne v69 v74
  let v76 : BitVec 32 := Scalar.remsi v4 c2_i32_31
  let c0_i32_36 : BitVec 32 := 0#32
  let v77 : BitVec 1 := Scalar.cmpi .ne v76 c0_i32_36
  let v78 : BitVec 1 := Scalar.andi v75 v77
  let v64 : BitVec 32 := Scalar.divsi v4 c2_i32_31
  let c1_i32_37 : BitVec 32 := 1#32
  let v79 : BitVec 32 := Scalar.subi v64 c1_i32_37
  let v80 : BitVec 32 := Scalar.select v78 v79 v64
  let v81 : BitVec 32 := Scalar.subi v80 c0_i32_38
  let c1_i32_39 : BitVec 32 := 1#32
  let v83 : BitVec 32 := Scalar.divsi v81 c1_i32_39
  let v84 : BitVec 32 := Scalar.muli v83 c1_i32_39
  let v85 : BitVec 32 := Scalar.addi c0_i32_38 v84
  let c1_i32_41 : BitVec 32 := 1#32
  let arg18 : BitVec 32 := Scf.iv v85 c1_i32_41 k1_t5
  let c32_i32 : BitVec 32 := 32#32
  let v86 : BitVec 32 := Scalar.muli arg18 c32_i32
  let v87 : BitVec 32 := v86
  let c16_i32_52 : BitVec 32 := 16#32
  let v199 : BitVec 32 := Scalar.addi v87 c16_i32_52
  let v200 : Index := Scalar.indexCast v199
  ![v200.toNat]

def k1_chk7 (i : grid1.Coords) (k1_t5 : Fin (k1_t5_loop i).trips) (v89 : IVec S16 32) : Prop :=
  (∀ a x, ((![v89] : Fin 1 → IVec S16 32) a x).toNat < S256.size a) ∧
  (∀ a x, ((![v89] : Fin 1 → IVec S16 32) a x).toNat < S256.size a) ∧
  (∀ a x, ((![v89] : Fin 1 → IVec S16 32) a x).toNat < S256.size a)
theorem k1_idx15_inb : ∀ (i : grid1.Coords) (k1_t5 : Fin (k1_t5_loop i).trips) (v89 : IVec S16 32) (k1_hw7 : k1_chk7 i k1_t5 v89), ∀ a x, ((![v89] : Fin 1 → IVec S16 32) a x).toNat < S256.size a := fun i k1_t5 v89 k1_hw7 => k1_hw7.1
theorem k1_idx17_inb : ∀ (i : grid1.Coords) (k1_t5 : Fin (k1_t5_loop i).trips) (v89 : IVec S16 32) (k1_hw7 : k1_chk7 i k1_t5 v89), ∀ a x, ((![v89] : Fin 1 → IVec S16 32) a x).toNat < S256.size a := fun i k1_t5 v89 k1_hw7 => k1_hw7.2.1
theorem k1_idx18_inb : ∀ (i : grid1.Coords) (k1_t5 : Fin (k1_t5_loop i).trips) (v89 : IVec S16 32) (k1_hw7 : k1_chk7 i k1_t5 v89), ∀ a x, ((![v89] : Fin 1 → IVec S16 32) a x).toNat < S256.size a := fun i k1_t5 v89 k1_hw7 => k1_hw7.2.2

def k1_chk8 (i : grid1.Coords) (k1_t5 : Fin (k1_t5_loop i).trips) (v201 : IVec S16 32) : Prop :=
  (∀ a x, ((![v201] : Fin 1 → IVec S16 32) a x).toNat < S256.size a) ∧
  (∀ a x, ((![v201] : Fin 1 → IVec S16 32) a x).toNat < S256.size a) ∧
  (∀ a x, ((![v201] : Fin 1 → IVec S16 32) a x).toNat < S256.size a)
theorem k1_idx16_inb : ∀ (i : grid1.Coords) (k1_t5 : Fin (k1_t5_loop i).trips) (v201 : IVec S16 32) (k1_hw8 : k1_chk8 i k1_t5 v201), ∀ a x, ((![v201] : Fin 1 → IVec S16 32) a x).toNat < S256.size a := fun i k1_t5 v201 k1_hw8 => k1_hw8.1
theorem k1_idx19_inb : ∀ (i : grid1.Coords) (k1_t5 : Fin (k1_t5_loop i).trips) (v201 : IVec S16 32) (k1_hw8 : k1_chk8 i k1_t5 v201), ∀ a x, ((![v201] : Fin 1 → IVec S16 32) a x).toNat < S256.size a := fun i k1_t5 v201 k1_hw8 => k1_hw8.2.1
theorem k1_idx20_inb : ∀ (i : grid1.Coords) (k1_t5 : Fin (k1_t5_loop i).trips) (v201 : IVec S16 32) (k1_hw8 : k1_chk8 i k1_t5 v201), ∀ a x, ((![v201] : Fin 1 → IVec S16 32) a x).toNat < S256.size a := fun i k1_t5 v201 k1_hw8 => k1_hw8.2.2
def k1_off13 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42_r0 : BitVec 32 := 0#32
  ![v1.toNat, 0]
abbrev grid2 : Pipeline.Grid := .none

abbrev stage2_0 : Fin 1 → Memref sig .tc .vmem S32x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S128x1 : Shape := ⟨2, ![128, 1]⟩
abbrev S1 : Shape := ⟨1, ![1]⟩
abbrev S100000x64 : Shape := ⟨2, ![100000, 64]⟩
abbrev S1x64 : Shape := ⟨2, ![1, 64]⟩
abbrev S100000x1 : Shape := ⟨2, ![100000, 1]⟩
abbrev S1x1 : Shape := ⟨2, ![1, 1]⟩
abbrev S256 : Shape := ⟨1, ![256]⟩
abbrev S1x256 : Shape := ⟨2, ![1, 256]⟩
abbrev S100000x256 : Shape := ⟨2, ![100000, 256]⟩
abbrev S_ : Shape := ⟨0, ![]⟩
abbrev S256x128 : Shape := ⟨2, ![256, 128]⟩
abbrev S256x1 : Shape := ⟨2, ![256, 1]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S128x1, .f32⟩
  | .hbm, ⟨5, _⟩ => ⟨S1, .f32⟩
  | .hbm, ⟨6, _⟩ => ⟨S128x1, .f32⟩
  | .hbm, ⟨7, _⟩ => ⟨S1, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S100000x128, .f32⟩
  | .hbm, ⟨13, _⟩ => ⟨S100000x1, .f32⟩
  | .hbm, ⟨14, _⟩ => ⟨S1x1, .f32⟩
  | .hbm, ⟨15, _⟩ => ⟨S100000x1, .f32⟩
  | .hbm, ⟨16, _⟩ => ⟨S100000x1, .f32⟩
  | .hbm, ⟨17, _⟩ => ⟨S100000, .f32⟩
  | .hbm, ⟨18, _⟩ => ⟨S100000x1, .i32⟩
  | .hbm, ⟨19, _⟩ => ⟨S256, .i32⟩
  | .hbm, ⟨20, _⟩ => ⟨S1x256, .i32⟩
  | .hbm, ⟨21, _⟩ => ⟨S100000x256, .i32⟩
  | .hbm, ⟨22, _⟩ => ⟨S100000x256, .i32⟩
  | .hbm, ⟨23, _⟩ => ⟨S100000x256, .i1⟩
  | .hbm, ⟨24, _⟩ => ⟨S100000x1, .f32⟩
  | .hbm, ⟨25, _⟩ => ⟨S_, .f32⟩
  | .hbm, ⟨26, _⟩ => ⟨S_, .f32⟩
  | .hbm, ⟨27, _⟩ => ⟨S100000x256, .f32⟩
  | .hbm, ⟨28, _⟩ => ⟨S100000x256, .f32⟩
  | .hbm, ⟨29, _⟩ => ⟨S100000x256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .i1⟩
  | .hbm, ⟨36, _⟩ => ⟨S_, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S_, .i32⟩
  | .hbm, ⟨41, _⟩ => ⟨S100000, .i32⟩
  | .hbm, ⟨42, _⟩ => ⟨S100000, .i1⟩
  | .hbm, ⟨43, _⟩ => ⟨S_, .i32⟩
  | .hbm, ⟨44, _⟩ => ⟨S100000, .i32⟩
  | .hbm, ⟨45, _⟩ => ⟨S100000, .i32⟩
  | .hbm, ⟨46, _⟩ => ⟨S100000, .i32⟩
  | .hbm, ⟨47, _⟩ => ⟨S100000x1, .i32⟩
  | .hbm, ⟨48, _⟩ => ⟨S100000, .f32⟩
  | .hbm, ⟨49, _⟩ => ⟨S100000, .f32⟩
  | .hbm, ⟨50, _⟩ => ⟨S100000, .f32⟩
  | .hbm, ⟨51, _⟩ => ⟨S_, .f32⟩
  | .hbm, ⟨52, _⟩ => ⟨S256, .f32⟩
  | .hbm, ⟨53, _⟩ => ⟨S100000x1, .i32⟩
  | .hbm, ⟨54, _⟩ => ⟨S256, .f32⟩
  | .hbm, ⟨55, _⟩ => ⟨S_, .i32⟩
  | .hbm, ⟨56, _⟩ => ⟨S100000, .i32⟩
  | .hbm, ⟨57, _⟩ => ⟨S100000, .i1⟩
  | .hbm, ⟨58, _⟩ => ⟨S_, .i32⟩
  | .hbm, ⟨59, _⟩ => ⟨S100000, .i32⟩
  | .hbm, ⟨60, _⟩ => ⟨S100000, .i32⟩
  | .hbm, ⟨61, _⟩ => ⟨S100000, .i32⟩
  | .hbm, ⟨62, _⟩ => ⟨S100000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S256x128, .f32⟩
  | .hbm, ⟨73, _⟩ => ⟨S100000x1, .i32⟩
  | .hbm, ⟨74, _⟩ => ⟨S256x128, .f32⟩
  | .hbm, ⟨75, _⟩ => ⟨S256x1, .f32⟩
  | .hbm, ⟨76, _⟩ => ⟨S1x1, .f32⟩
  | .hbm, ⟨77, _⟩ => ⟨S256x1, .f32⟩
  | .hbm, ⟨78, _⟩ => ⟨S256x1, .f32⟩
  | .hbm, ⟨79, _⟩ => ⟨S256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Proof.Tables.lean ====
/-
  What one tile computes, as functions of the whole arrays: the table of per-segment maxima of its nodes' scores, and the
  tables of per-segment sums of the exponentials and of the weighted exponentials. A tile takes its nodes thirty-two at a
  time, as two registers of sixteen lanes; each step below is one trip of the tile's loop.
-/
module

public import proofs.«01_k».proof.Defs
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic

variable {F : FTy → Type} [FloatOps F]

/-- Node `n` as an index of the arrays over the nodes; past the end, the last one. -/
def node (n : ℕ) : S100000.Idx := Shape.ofLane (d := ![100000]) ⟨min n 99999, by show min n 99999 < 100000; omega⟩

/-- A node's number below 100000 is its index. -/
theorem node_val {n : ℕ} (h : n < 100000) : (node n 0).val = n := by
  show min n 99999 = n
  omega

/-- Every index is its number's node. -/
theorem node_eq (j : S100000.Idx) : node (j 0).val = j := by
  funext a
  obtain rfl : a = 0 := Subsingleton.elim _ _
  exact Fin.ext (node_val (j 0).isLt)

/-- Sixteen consecutive nodes' words, from node `o` on. -/
def lanes {α : Type} (x : S100000.Idx → α) (o : ℕ) : S16.Idx → α := fun l => x (node (o + (l 0).val))

/-- Every segment id names one of the 256 segments. -/
def InRange (ids : S100000.Idx → BitVec 32) : Prop := ∀ j, (ids j).toNat < 256

/-- Ids in range stay in range in a register. -/
theorem InRange.lanes {ids : S100000.Idx → BitVec 32} (h : InRange ids) (o : ℕ) :
    ∀ a x, ((![lanes ids o] : Fin 1 → IVec S16 32) a x).toNat < S256.size a := by
  intro a x
  obtain rfl : a = 0 := Subsingleton.elim _ _
  exact h _

/-- The lanes' numbers. -/
abbrev io : IVec S16 32 := iota .scVector S16 32 [0] iota_S16_d0_w32_scVector

/-- A register's ids are all below 256. -/
abbrev Small (v : IVec S16 32) : Prop := ∀ a x, ((![v] : Fin 1 → IVec S16 32) a x).toNat < S256.size a

/-- One trip of the maxima loop: the two registers' running segment maxima taken into the table at the last lane of each run. -/
def mStep (i1 i2 : IVec S16 32) (h1 : Small i1) (h2 : Small i2) (s1 s2 : FVec F S16 .f32) (M : S256.Idx → Elt F .f32) : S256.Idx → Elt F .f32 :=
  let M1 : Vec F S256 .f32 := storeIdx (F := F) (s := S256) (e := .f32) M ![i1]
    (k1_pay64 (k1_pay5 (k1_pay1 i1 s1) (k1_pay2 (F := F) i1) (k1_pay3 i1 s1) (k1_pay4 i1 s1)) (loadIdx (F := F) (s := S256) (e := .f32) M ![i1] h1))
    (k1_pay6 (F := F) io i1) false h1
  storeIdx (F := F) (s := S256) (e := .f32) M1 ![i2]
    (k1_pay65 i2 (k1_pay7 i2 s2) (k1_pay8 i2 s2) (loadIdx (F := F) (s := S256) (e := .f32) M1 ![i2] h2)) (k1_pay63 (F := F) i2) false h2

/-- One trip of the sums loop, the denominators' table: `m1`, `m2` are the lanes' segment maxima. -/
def dStep (i1 i2 : IVec S16 32) (h1 : Small i1) (h2 : Small i2) (s1 s2 m1 m2 : FVec F S16 .f32) (T : S256.Idx → Elt F .f32) : S256.Idx → Elt F .f32 :=
  let T1 : Vec F S256 .f32 := storeIdx (F := F) (s := S256) (e := .f32) T ![i1]
    (k1_pay27 (k1_pay17 s1 m1) (k1_pay19 (F := F) io i1) (k1_pay20 (F := F) io i1) (k1_pay21 (F := F) io i1) (k1_pay22 (F := F) io i1))
    (k1_pay25 (k1_pay23 (F := F) i1) (k1_pay24 io)) true h1
  storeIdx (F := F) (s := S256) (e := .f32) T1 ![i2]
    (k1_pay69 (k1_pay34 (F := F) io i2)
      (k1_pay36 (k1_pay29 s2 m2) (k1_pay31 (F := F) io i2) (k1_pay32 (F := F) io i2) (k1_pay33 (F := F) io i2))
      (k1_pay38 (k1_pay29 s2 m2) (k1_pay31 (F := F) io i2) (k1_pay32 (F := F) io i2) (k1_pay33 (F := F) io i2)))
    (k1_pay35 (F := F) io i2) true h2

/-- The same trip, the numerators' table. -/
def tStep (i1 i2 : IVec S16 32) (h1 : Small i1) (h2 : Small i2) (s1 s2 t1 t2 m1 m2 : FVec F S16 .f32) (T : S256.Idx → Elt F .f32) : S256.Idx → Elt F .f32 :=
  let T1 : Vec F S256 .f32 := storeIdx (F := F) (s := S256) (e := .f32) T ![i1]
    (k1_pay28 (k1_pay22 (F := F) io i1) (k1_pay26 (k1_pay18 s1 t1 m1) (k1_pay19 (F := F) io i1) (k1_pay20 (F := F) io i1) (k1_pay21 (F := F) io i1)))
    (k1_pay25 (k1_pay23 (F := F) i1) (k1_pay24 io)) true h1
  storeIdx (F := F) (s := S256) (e := .f32) T1 ![i2]
    (k1_pay70 (k1_pay34 (F := F) io i2)
      (k1_pay37 (k1_pay30 s2 t2 m2) (k1_pay31 (F := F) io i2) (k1_pay32 (F := F) io i2) (k1_pay33 (F := F) io i2)))
    (k1_pay35 (F := F) io i2) true h2

section
variable (s t : S100000.Idx → Elt F .f32) (ids : S100000.Idx → BitVec 32) (hr : InRange ids) (base : ℕ)

/-- The maxima table after `k` trips over the nodes from `base` on. -/
def mTab : ℕ → S256.Idx → Elt F .f32
  | 0 => fun _ => (Scalar.ofBits .f32 0xFF800000#32 : F .f32)
  | k + 1 => mStep (lanes ids (base + 32 * k)) (lanes ids (base + 32 * k + 16)) (hr.lanes _) (hr.lanes _)
      (lanes s (base + 32 * k)) (lanes s (base + 32 * k + 16)) (mTab k)

/-- The lanes' segment maxima, read from a maxima table. -/
def mLanes (M : S256.Idx → Elt F .f32) (o : ℕ) : FVec F S16 .f32 := loadIdx (F := F) (s := S256) (e := .f32) M ![lanes ids o] (hr.lanes o)

/-- The denominators' table after `k` trips, the maxima table `M`. -/
def dTab (M : S256.Idx → Elt F .f32) : ℕ → S256.Idx → Elt F .f32
  | 0 => fun _ => (Scalar.ofBits .f32 0x00000000#32 : F .f32)
  | k + 1 => dStep (lanes ids (base + 32 * k)) (lanes ids (base + 32 * k + 16)) (hr.lanes _) (hr.lanes _)
      (lanes s (base + 32 * k)) (lanes s (base + 32 * k + 16))
      (mLanes ids hr M (base + 32 * k)) (mLanes ids hr M (base + 32 * k + 16)) (dTab M k)

/-- The numerators' table after `k` trips, the maxima table `M`. -/
def tTab (M : S256.Idx → Elt F .f32) : ℕ → S256.Idx → Elt F .f32
  | 0 => fun _ => (Scalar.ofBits .f32 0x00000000#32 : F .f32)
  | k + 1 => tStep (lanes ids (base + 32 * k)) (lanes ids (base + 32 * k + 16)) (hr.lanes _) (hr.lanes _)
      (lanes s (base + 32 * k)) (lanes s (base + 32 * k + 16)) (lanes t (base + 32 * k)) (lanes t (base + 32 * k + 16))
      (mLanes ids hr M (base + 32 * k)) (mLanes ids hr M (base + 32 * k + 16)) (tTab M k)
end

/-- How many trips tile `w` makes: the last has the nodes that are left. -/
def tripsOf (w : ℕ) : ℕ := if w = 31 then 87 else 98

/-- Tile `w`'s finished maxima. -/
def tileM (s : S100000.Idx → Elt F .f32) (ids : S100000.Idx → BitVec 32) (hr : InRange ids) (w : ℕ) : S256.Idx → Elt F .f32 :=
  mTab s ids hr (3136 * w) (tripsOf w)
/-- Tile `w`'s finished denominators. -/
def tileD (s : S100000.Idx → Elt F .f32) (ids : S100000.Idx → BitVec 32) (hr : InRange ids) (w : ℕ) : S256.Idx → Elt F .f32 :=
  dTab s ids hr (3136 * w) (tileM s ids hr w) (tripsOf w)
/-- Tile `w`'s finished numerators. -/
def tileT (s t : S100000.Idx → Elt F .f32) (ids : S100000.Idx → BitVec 32) (hr : InRange ids) (w : ℕ) : S256.Idx → Elt F .f32 :=
  tTab s t ids hr (3136 * w) (tileM s ids hr w) (tripsOf w)

end Cert.Proof.Pool

end
-- ==== Proof.Setup.lean ====
/-
  The pooling program as the launch theorem sees it: its configuration, the ghost state, where its arrays live, what the
  first TensorCore call leaves in the two per-node arrays, and what the handshakes with the SparseCore carry: to each of
  the 32 tiles a read share of the scores, of the weights and of the segment ids, and its own row of the three arrays
  of partial results; back from it the share of the ids and the rows, holding that tile's tables.
-/
module

public import proofs.«01_k».proof.Proof.Tables
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.VecWindow
public import proofs.«01_k».proof.Proof.Gen.KernelIdeal.Launch

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on sixteen tiles of a core. -/
theorem nSub_zero : (K (F := F)).nSub 0 = 16 := rfl
/-- The call runs on two cores. -/
theorem nCore_zero : (K (F := F)).nCore 0 = 2 := rfl

/-- The facts of the program's SparseCore configuration. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the staging cells' rounds, the transfers' counters -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ
local notation "𝕄" => MM F

abbrev EH : Emb UH (MT nD τ sig (HIx 1) (Elt F) ℕ UU ℕ) := embL
/-- The staging cells' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
omit [FloatOps F] in
/-- The pipelines' counters land in the model's cells. -/
instance EP_landsIn : (EP : Emb UP (MM F)).LandsIn (upEmb : UEmb _ (MM F)) := by unfold EP; infer_instance

/-! ## Where the arrays live -/

variable (m : (ℓ : Loc nD τ sig) → Buf (Elt F) ℓ)

abbrev annLoc (d : Dev nD) : Loc nD τ sig := (SparseCore.T d).loc main_arg0
abbrev idLoc (d : Dev nD) : Loc nD τ sig := (SparseCore.T d).loc main_arg1
abbrev wredLoc (d : Dev nD) : Loc nD τ sig := (SparseCore.T d).loc main_arg2
abbrev bredLoc (d : Dev nD) : Loc nD τ sig := (SparseCore.T d).loc main_arg3
abbrev wgLoc (d : Dev nD) : Loc nD τ sig := (SparseCore.T d).loc main_arg4
abbrev bgLoc (d : Dev nD) : Loc nD τ sig := (SparseCore.T d).loc main_arg5
abbrev woLoc (d : Dev nD) : Loc nD τ sig := (SparseCore.T d).loc main_arg6
abbrev boLoc (d : Dev nD) : Loc nD τ sig := (SparseCore.T d).loc main_arg7
abbrev sLoc (d : Dev nD) : Loc nD τ sig := (SparseCore.T d).loc main_v0_0
abbrev tLoc (d : Dev nD) : Loc nD τ sig := (SparseCore.T d).loc main_v0_1
abbrev moLoc (d : Dev nD) : Loc nD τ sig := (SparseCore.T d).loc main_v1_0
abbrev doLoc (d : Dev nD) : Loc nD τ sig := (SparseCore.T d).loc main_v1_1
abbrev toLoc (d : Dev nD) : Loc nD τ sig := (SparseCore.T d).loc main_v1_2

/-- Row `w` of the arrays of partial results. -/
def rowSet (w : ℕ) : Finset S32x256.Idx := Finset.univ.filter fun j => (j 0).val = w

/-- The tile on subcore `i` of SparseCore `c`. -/
abbrev wid (c : Fin 2) (i : Fin 16) : ℕ := 2 * i.val + c.val

/-- An element is in row `w` where its first coordinate is `w`. -/
theorem mem_rowSet {w : ℕ} {j : S32x256.Idx} : j ∈ rowSet w ↔ (j 0).val = w := by simp [rowSet]

/-! ## What the first call leaves -/

/-- The upper and the lower half of one of the gate's or the output's weight columns. -/
abbrev topHalf (w : S128x1.Idx → Elt F .f32) : S64x1.Idx → Elt F .f32 :=
  View.ld (Val := Elt F) (e' := .f32) w (Rect.unit (s := S128x1) ![0, 0] S64x1.size inb_S128x1_S64x1_0_0)
abbrev botHalf (w : S128x1.Idx → Elt F .f32) : S64x1.Idx → Elt F .f32 :=
  View.ld (Val := Elt F) (e' := .f32) w (Rect.unit (s := S128x1) ![64, 0] S64x1.size inb_S128x1_S64x1_64_0)

/-- `s` and `t` hold, for every node, what the first call computes from the block of 16384 rows the node lies in; the rows
    of the last block past the end of the array are any rows. -/
def IsStage1 (d : Dev nD) (s t : S100000.Idx → Elt F .f32) : Prop :=
  ∀ blk : Fin 7, (∃ B : S16384x128.Idx → Elt F .f32,
      (∀ (x : S16384x128.Idx) (j : S100000x128.Idx), (j 0).val = 16384 * blk.val + (x 0).val → (j 1).val = (x 1).val → B x = m (annLoc d) j)
      ∧ ∀ (x : S16384.Idx) (j : S100000.Idx), (j 0).val = 16384 * blk.val + (x 0).val →
        s j = k0_pay2 (topHalf (m (wgLoc d))) (botHalf (m (wgLoc d))) (topHalf (m (woLoc d))) (botHalf (m (woLoc d))) (m (wredLoc d)) B x)
    ∧ ∃ B : S16384x128.Idx → Elt F .f32,
      (∀ (x : S16384x128.Idx) (j : S100000x128.Idx), (j 0).val = 16384 * blk.val + (x 0).val → (j 1).val = (x 1).val → B x = m (annLoc d) j)
      ∧ ∀ (x : S16384.Idx) (j : S100000.Idx), (j 0).val = 16384 * blk.val + (x 0).val →
        t j = k0_pay3 (topHalf (m (wgLoc d))) (botHalf (m (wgLoc d))) (topHalf (m (woLoc d))) (botHalf (m (woLoc d))) (m (wredLoc d)) B x

/-! ## What the handshakes carry -/

/-- Every launched device's segment ids are below 256. -/
def PreOK : Prop := ∀ d : Dev nD, InRange (m (idLoc d))

/-- Row `w` of the three arrays holds tile `w`'s tables of scores and weights the first call can have left. -/
def IsRow (hpre : PreOK m) (d : Dev nD) (w : ℕ) (fM fD fT : S32x256.Idx → Elt F .f32) : Prop :=
  ∃ s t : S100000.Idx → Elt F .f32, IsStage1 m d s t ∧ ∀ (j : S32x256.Idx) (b : S256.Idx), (j 0).val = w → (j 1).val = (b 0).val →
    fM j = tileM s (m (idLoc d)) (hpre d) w b ∧ fD j = tileD s (m (idLoc d)) (hpre d) w b ∧ fT j = tileT s t (m (idLoc d)) (hpre d) w b

/-- Tile `w`'s read share. -/
abbrev tok (w : ℕ) : PosShare TreeShare := Transfers.shareTokN fullShare w

/-- What tile `w` is sent. -/
def goAt (d : Dev nD) (w : ℕ) : sProp 𝕄 :=
  iprop((∃ (s : Buf (Elt F) (sLoc d)) (t : Buf (Elt F) (tLoc d)), ⌜IsStage1 m d s t⌝ ∗ (sLoc d ↦{tok w} s) ∗ (tLoc d ↦{tok w} t))
    ∗ (idLoc d ↦{tok w} m (idLoc d))
    ∗ (∃ f, moLoc d ↦[rowSet w]{fullShare} f) ∗ (∃ f, doLoc d ↦[rowSet w]{fullShare} f) ∗ (∃ f, toLoc d ↦[rowSet w]{fullShare} f))

/-- What tile `w` sends back. -/
def tdAt (hpre : PreOK m) (d : Dev nD) (w : ℕ) : sProp 𝕄 :=
  iprop((idLoc d ↦{tok w} m (idLoc d))
    ∗ ∃ (fM : Buf (Elt F) (moLoc d)) (fD : Buf (Elt F) (doLoc d)) (fT : Buf (Elt F) (toLoc d)), ⌜IsRow m hpre d w fM fD fT⌝
      ∗ (moLoc d ↦[rowSet w]{fullShare} fM) ∗ (doLoc d ↦[rowSet w]{fullShare} fD) ∗ (toLoc d ↦[rowSet w]{fullShare} fT))

set_option synthInstance.maxHeartbeats 400000 in
/-- What a tile is handed can be stored. -/
instance goAt_storable (d : Dev nD) (w : ℕ) : BI.Storable (upEmb : UEmb _ 𝕄) (goAt m d w) := by
  unfold goAt; infer_instance
set_option synthInstance.maxHeartbeats 400000 in
/-- What a tile hands back can be stored. -/
instance tdAt_storable (hpre : PreOK m) (d : Dev nD) (w : ℕ) : BI.Storable (upEmb : UEmb _ 𝕄) (tdAt m hpre d w) := by
  unfold tdAt; infer_instance

/-- The one SparseCore call hands each SparseCore its tiles' parts, and takes them back. -/
def P (hpre : PreOK m) : (K (F := F)).Pay (nD := nD) (Val := Elt F) (Name := ℕ) (U := UU) where
  st := fun q d c => match q with | 0 => bigSep Finset.univ fun i : Fin 16 => goAt m d (wid (Fin.cast nCore_zero c) i)
  dn := fun q d c => match q with | 0 => bigSep Finset.univ fun i : Fin 16 => tdAt m hpre d (wid (Fin.cast nCore_zero c) i)
  go := fun q d c i => match q with | 0 => goAt m d (wid (Fin.cast nCore_zero c) (Fin.cast nSub_zero i))
  td := fun q d c i => match q with | 0 => tdAt m hpre d (wid (Fin.cast nCore_zero c) (Fin.cast nSub_zero i))
  x := fun _ _ => iprop(emp)

/-- What the call hands over can be stored. -/
instance P_storable (hpre : PreOK m) : (P (F := F) m hpre).IsStorable where
  st q d c := match q with
    | 0 => (inferInstance : BI.Storable (upEmb : UEmb _ 𝕄) (bigSep Finset.univ fun i : Fin 16 => goAt m d (wid (Fin.cast nCore_zero c) i)))
  dn q d c := match q with
    | 0 => (inferInstance : BI.Storable (upEmb : UEmb _ 𝕄) (bigSep Finset.univ fun i : Fin 16 => tdAt m hpre d (wid (Fin.cast nCore_zero c) i)))
  go q d c i := match q with
    | 0 => goAt_storable m d (wid (Fin.cast nCore_zero c) (Fin.cast nSub_zero i))
  td q d c i := match q with
    | 0 => tdAt_storable m hpre d (wid (Fin.cast nCore_zero c) (Fin.cast nSub_zero i))

/-- A SparseCore's part is its tiles' parts. -/
theorem vecSplit (hpre : PreOK m) : (K (F := F)).VecSplit' (P m hpre) 0 := by
  intro d c
  show (bigSep Finset.univ fun i : Fin 16 => goAt m d (wid (Fin.cast nCore_zero c) i)) ⊢ |={Set.univ}=> iprop(
      (bigSep Finset.univ fun i : Fin ((K (F := F)).nSub 0) => goAt m d (wid (Fin.cast nCore_zero c) (Fin.cast nSub_zero i)))
      ∗ ((bigSep Finset.univ fun i : Fin ((K (F := F)).nSub 0) => tdAt m hpre d (wid (Fin.cast nCore_zero c) (Fin.cast nSub_zero i)))
          -∗ bigSep Finset.univ fun i : Fin 16 => tdAt m hpre d (wid (Fin.cast nCore_zero c) i)))
  iintro H; imodintro
  isplitl [H]; · iexact H
  iintro H; iexact H

end Cert.Proof.Pool

end
-- ==== Proof.TileGeom.lean ====
/-
  Where a tile's pieces lie: its 3136 nodes within the arrays over the nodes, its row of the arrays of partial results, its
  own buffers and semaphores; and how many trips its loops make.
-/
module

public import proofs.«01_k».proof.Proof.Setup

@[expose] public section

noncomputable section

namespace Cert.Proof.Pool

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The tile's trips -/

abbrev cL (L : grid1.Coords) : Fin 2 := Fin.cast (show grid1.bound 0 = 2 from rfl) (L 0)
abbrev iL (L : grid1.Coords) : Fin 16 := Fin.cast (show grid1.bound 1 = 16 from rfl) (L 1)
/-- The tile's number. -/
abbrev wL (L : grid1.Coords) : ℕ := wid (cL L) (iL L)

/-- A tile's number is below 32. -/
theorem wL_lt (L : grid1.Coords) : wL L < 32 := by
  have h0 : (L 0).val < 2 := (L 0).isLt
  have h1 : (L 1).val < 16 := (L 1).isLt
  show 2 * (L 1).val + (L 0).val < 32
  omega

set_option maxRecDepth 100000 in
/-- The tail's copies are started by every tile but the last. -/
theorem cond1_eq : ∀ L : grid1.Coords, k1_cond1 L = if wL L = 31 then 0#1 else 1#1 := by decide +kernel
set_option maxRecDepth 100000 in
/-- The tail's copies are waited for by every tile but the last. -/
theorem cond2_eq : ∀ L : grid1.Coords, k1_cond2 L = if wL L = 31 then 0#1 else 1#1 := by decide +kernel
set_option maxRecDepth 100000 in
/-- The maxima loop makes the tile's number of trips. -/
theorem trips2_eq : ∀ L : grid1.Coords, (k1_t2_loop L).trips = tripsOf (wL L) := by decide +kernel
set_option maxRecDepth 100000 in
/-- The maxima loop leaves no remainder. -/
theorem trips3_eq : ∀ L : grid1.Coords, (k1_t3_loop L).trips = 0 := by decide +kernel
set_option maxRecDepth 100000 in
/-- The sums loop makes the tile's number of trips. -/
theorem trips4_eq : ∀ L : grid1.Coords, (k1_t4_loop L).trips = tripsOf (wL L) := by decide +kernel
set_option maxRecDepth 100000 in
/-- The sums loop leaves no remainder. -/
theorem trips5_eq : ∀ L : grid1.Coords, (k1_t5_loop L).trips = 0 := by decide +kernel
/-- The tables are filled in sixteen trips. -/
theorem trips1_eq : k1_t1_loop.trips = 16 := by decide +kernel

/-! ## The arrays as the tile names them -/

abbrev sG : Memref sig .scVector .hbm S100000 .f32 := Memref.whole main_v0_0_scv
abbrev tG : Memref sig .scVector .hbm S100000 .f32 := Memref.whole main_v0_1_scv
abbrev iG : Memref sig .scVector .hbm S100000 .i32 := Memref.whole main_arg1_scv
abbrev moG : Memref sig .scVector .hbm S32x256 .f32 := Memref.whole main_v1_0_scv
abbrev doG : Memref sig .scVector .hbm S32x256 .f32 := Memref.whole main_v1_1_scv
abbrev toG : Memref sig .scVector .hbm S32x256 .f32 := Memref.whole main_v1_2_scv
abbrev sB : Memref sig .scVector .vmem S3136 .f32 := Memref.whole cc1_scratch0
abbrev tB : Memref sig .scVector .vmem S3136 .f32 := Memref.whole cc1_scratch1
abbrev iB : Memref sig .scVector .vmem S3136 .i32 := Memref.whole cc1_scratch2
abbrev mB : Memref sig .scVector .vmem S256 .f32 := Memref.whole cc1_scratch3
abbrev dB : Memref sig .scVector .vmem S256 .f32 := Memref.whole cc1_scratch4
abbrev nB : Memref sig .scVector .vmem S256 .f32 := Memref.whole cc1_scratch5

abbrev cV (L : grid1.Coords) : Fin τ.nSC := (L 0).castLE hcore1
abbrev jV (L : grid1.Coords) : Fin τ.nSub := (L 1).castLE hsub1
/-- The tile's thread. -/
abbrev thr (d : Dev nD) (L : grid1.Coords) : Thread nD τ := V d (cV L) (jV L)

abbrev rowRect (L : grid1.Coords) : Rect S32x256 := Rect.unit (s := S32x256) (k1_off13 L) S1x256.size (k1_off13_inb L)
abbrev moRow (L : grid1.Coords) : Memref sig .scVector .hbm S256 .f32 := (moG.slice (rowRect L) (fun _ => rfl)).squeeze S256 squeezes_S1x256_S256
abbrev doRow (L : grid1.Coords) : Memref sig .scVector .hbm S256 .f32 := (doG.slice (rowRect L) (fun _ => rfl)).squeeze S256 squeezes_S1x256_S256
abbrev toRow (L : grid1.Coords) : Memref sig .scVector .hbm S256 .f32 := (toG.slice (rowRect L) (fun _ => rfl)).squeeze S256 squeezes_S1x256_S256

/-- The rectangle that a tile writes is its row. -/
theorem rowRect_set (L : grid1.Coords) : (rowRect L).set = rowSet (wL L) := by
  ext j
  rw [Rect.mem_set_unit, mem_rowSet, k1_off13_eq]
  have h1 : (j 1).val < 256 := (j 1).isLt
  constructor
  · intro h
    have h0 := h 0
    simp only [Matrix.cons_val_zero] at h0
    have e : S1x256.size 0 = 1 := rfl
    show (j 0).val = 2 * (L 1).val + (L 0).val
    omega
  · intro h a
    replace h : (j 0).val = 2 * (L 1).val + (L 0).val := h
    match a with
    | 0 => show 2 * (L 1).val + (L 0).val ≤ (j 0).val ∧ (j 0).val < 2 * (L 1).val + (L 0).val + 1; omega
    | 1 => show 0 ≤ (j 1).val ∧ (j 1).val < 0 + 256; omega

/-- The view of the maxima that a tile writes is its row. -/
theorem set_moRow (L : grid1.Coords) : (moRow L).view.set = rowSet (wL L) := by
  show ((moG.view.slice (rowRect L)).reshape S256 squeezes_S1x256_S256.numel_eq).set = _
  rw [View.set_reshape, View.set_slice, ← rowRect_set]; exact Finset.map_refl
/-- The view of the denominators that a tile writes is its row. -/
theorem set_doRow (L : grid1.Coords) : (doRow L).view.set = rowSet (wL L) := by
  show ((doG.view.slice (rowRect L)).reshape S256 squeezes_S1x256_S256.numel_eq).set = _
  rw [View.set_reshape, View.set_slice, ← rowRect_set]; exact Finset.map_refl
/-- The view of the numerators that a tile writes is its row. -/
theorem set_toRow (L : grid1.Coords) : (toRow L).view.set = rowSet (wL L) := by
  show ((toG.view.slice (rowRect L)).reshape S256 squeezes_S1x256_S256.numel_eq).set = _
  rw [View.set_reshape, View.set_slice, ← rowRect_set]; exact Finset.map_refl

section
variable (d : Dev nD) (L : grid1.Coords)

/-- The tile's row of the maxima, as the copy names it. -/
theorem pts_moRow (f : Buf (Elt F) (moLoc d)) :
    ((moRow L).view.loc (thr d L) ↦[(moRow L).view.set]{fullShare} f : sProp 𝕄) = moLoc d ↦[rowSet (wL L)]{fullShare} f := by rw [set_moRow]
/-- The tile's row of the denominators, as the copy names it. -/
theorem pts_doRow (f : Buf (Elt F) (doLoc d)) :
    ((doRow L).view.loc (thr d L) ↦[(doRow L).view.set]{fullShare} f : sProp 𝕄) = doLoc d ↦[rowSet (wL L)]{fullShare} f := by rw [set_doRow]
/-- The tile's row of the numerators, as the copy names it. -/
theorem pts_toRow (f : Buf (Elt F) (toLoc d)) :
    ((toRow L).view.loc (thr d L) ↦[(toRow L).view.set]{fullShare} f : sProp 𝕄) = toLoc d ↦[rowSet (wL L)]{fullShare} f := by rw [set_toRow]

/-- The scores, as the tile names them. -/
theorem pts_sG (q : PosShare TreeShare) (f : Buf (Elt F) (sLoc d)) :
    (sG.view.loc (thr d L) ↦{q} f : sProp 𝕄) = sLoc d ↦{q} f := rfl
/-- The weights, as the tile names them. -/
theorem pts_tG (q : PosShare TreeShare) (f : Buf (Elt F) (tLoc d)) :
    (tG.view.loc (thr d L) ↦{q} f : sProp 𝕄) = tLoc d ↦{q} f := rfl
/-- The ids, as the tile names them. -/
theorem pts_iG (q : PosShare TreeShare) (f : Buf (Elt F) (idLoc d)) :
    (iG.view.loc (thr d L) ↦{q} f : sProp 𝕄) = idLoc d ↦{q} f := rfl

/-! ## The tile's own semaphores and buffers -/

abbrev dcell (X : DmaSems sig S_) : GSem nD τ sig := (thr d L, .dma X.sem)

/-- A scoped DMA semaphore is one of the tile's own. -/
theorem dcell_mem (X : DmaSems sig S_) (h : (SemLoc.dma X.sem : SemLoc sig).isScoped .scVector = true) : dcell d L X ∈ ownCells (thr d L) :=
  mem_ownCells.mpr ⟨rfl, h⟩

/-- Different semaphores have different cells. -/
theorem dcell_ne {X Y : DmaSems sig S_} (h : X.sem ≠ Y.sem) : dcell d L X ≠ dcell d L Y := fun e => h (by
  have e2 := congrArg Prod.snd e
  exact SemLoc.dma.inj e2)

/-- The tile's own semaphores at zero: the seven that it uses, and the rest. -/
theorem ownSems0_V :
    ∃ R : sProp 𝕄, (ownSems0 (thr d L) : sProp 𝕄)
      = iprop(semVal (dcell d L cc1_scratch6) 0 ∗ semVal (dcell d L cc1_scratch7) 0 ∗ semVal (dcell d L cc1_scratch8) 0
          ∗ semVal (dcell d L cc1_scratch9) 0 ∗ semVal (dcell d L cc1_scoped0) 0 ∗ semVal (dcell d L cc1_scoped1) 0
          ∗ semVal (dcell d L cc1_scoped2) 0 ∗ R) := by
  unfold SparseCore.Cfg.ownSems0
  rw [SparseCore.bigSep_erase' (dcell_mem d L cc1_scratch6 (by decide)),
    SparseCore.bigSep_erase' (Finset.mem_erase.mpr ⟨dcell_ne d L (X := cc1_scratch7) (by decide), dcell_mem d L cc1_scratch7 (by decide)⟩),
    SparseCore.bigSep_erase' (Finset.mem_erase.mpr ⟨dcell_ne d L (X := cc1_scratch8) (by decide), Finset.mem_erase.mpr ⟨dcell_ne d L (by decide), dcell_mem d L cc1_scratch8 (by decide)⟩⟩),
    SparseCore.bigSep_erase' (Finset.mem_erase.mpr ⟨dcell_ne d L (X := cc1_scratch9) (by decide), Finset.mem_erase.mpr ⟨dcell_ne d L (by decide), Finset.mem_erase.mpr ⟨dcell_ne d L (by decide), dcell_mem d L cc1_scratch9 (by decide)⟩⟩⟩),
    SparseCore.bigSep_erase' (Finset.mem_erase.mpr ⟨dcell_ne d L (X := cc1_scoped0) (by decide), Finset.mem_erase.mpr ⟨dcell_ne d L (by decide), Finset.mem_erase.mpr ⟨dcell_ne d L (by decide), Finset.mem_erase.mpr ⟨dcell_ne d L (by decide), dcell_mem d L cc1_scoped0 (by decide)⟩⟩⟩⟩),
    SparseCore.bigSep_erase' (Finset.mem_erase.mpr ⟨dcell_ne d L (X := cc1_scoped1) (by decide), Finset.mem_erase.mpr ⟨dcell_ne d L (by decide), Finset.mem_erase.mpr ⟨dcell_ne d L (by decide), Finset.mem_erase.mpr ⟨dcell_ne d L (by decide), Finset.mem_erase.mpr ⟨dcell_ne d L (by decide), dcell_mem d L cc1_scoped1 (by decide)⟩⟩⟩⟩⟩),
    SparseCore.bigSep_erase' (Finset.mem_erase.mpr ⟨dcell_ne d L (X := cc1_scoped2) (by decide), Finset.mem_erase.mpr ⟨dcell_ne d L (by decide), Finset.mem_erase.mpr ⟨dcell_ne d L (by decide), Finset.mem_erase.mpr ⟨dcell_ne d L (by decide), Finset.mem_erase.mpr ⟨dcell_ne d L (by decide), Finset.mem_erase.mpr ⟨dcell_ne d L (by decide), dcell_mem d L cc1_scoped2 (by decide)⟩⟩⟩⟩⟩⟩)]
  exact ⟨_, rfl⟩

abbrev vref (L : grid1.Coords) (b : Ref sig .scVector) : DevRef τ sig := (Proc.scVector (cV L) (jV L)).devRef b

/-- Different buffers of a tile have different places. -/
theorem vref_ne {b b' : Ref sig .scVector} (h : b ≠ b') : vref L b ≠ vref L b' := fun e => h (Proc.devRef_injective _ e)

/-- The tile's own buffers: the six that it uses, and the rest. -/
theorem ownBufs_V :
    ∃ R : sProp 𝕄, (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ (∃ f, (thr d L).loc cc1_scratch4 ↦{fullShare} f) ∗ (∃ f, (thr d L).loc cc1_scratch5 ↦{fullShare} f) ∗ R) := by
  unfold SparseCore.Cfg.ownBufs
  have own : ∀ b : Ref sig .scVector, (vref L b).owner = Owner.proc (Proc.scVector (cV L) (jV L)) → vref L b ∈ ownRefs (τ := τ) (.scVector (cV L) (jV L)) :=
    fun b h => SparseCore.Cfg.mem_ownRefs_of_owner (p := Proc.scVector (cV L) (jV L)) h
  rw [show (bigSep (ownRefs (thr d L).2) fun b => iprop(∃ f, ((thr d L).1, b) ↦{fullShare} f) : sProp 𝕄) = _ from SparseCore.bigSep_erase' (own cc1_scratch0 rfl),
    SparseCore.bigSep_erase' (Finset.mem_erase.mpr ⟨vref_ne L (b := cc1_scratch1) (by decide), own cc1_scratch1 rfl⟩),
    SparseCore.bigSep_erase' (Finset.mem_erase.mpr ⟨vref_ne L (b := cc1_scratch2) (by decide), Finset.mem_erase.mpr ⟨vref_ne L (by decide), own cc1_scratch2 rfl⟩⟩),
    SparseCore.bigSep_erase' (Finset.mem_erase.mpr ⟨vref_ne L (b := cc1_scratch3) (by decide), Finset.mem_erase.mpr ⟨vref_ne L (by decide), Finset.mem_erase.mpr ⟨vref_ne L (by decide), own cc1_scratch3 rfl⟩⟩⟩),
    SparseCore.bigSep_erase' (Finset.mem_erase.mpr ⟨vref_ne L (b := cc1_scratch4) (by decide), Finset.mem_erase.mpr ⟨vref_ne L (by decide), Finset.mem_erase.mpr ⟨vref_ne L (by decide), Finset.mem_erase.mpr ⟨vref_ne L (by decide), own cc1_scratch4 rfl⟩⟩⟩⟩),
    SparseCore.bigSep_erase' (Finset.mem_erase.mpr ⟨vref_ne L (b := cc1_scratch5) (by decide), Finset.mem_erase.mpr ⟨vref_ne L (by decide), Finset.mem_erase.mpr ⟨vref_ne L (by decide), Finset.mem_erase.mpr ⟨vref_ne L (by decide), Finset.mem_erase.mpr ⟨vref_ne L (by decide), own cc1_scratch5 rfl⟩⟩⟩⟩⟩)]
  exact ⟨_, rfl⟩

end

end Cert.Proof.Pool

end
-- ==== Proof.Loops.lean ====
/-
  The tile's loops: each body, run once at a symbolic trip, against the functions of the whole arrays it computes.
-/
module

public import proofs.«01_k».proof.Proof.TileGeom
public import Idealize.ShloMosaic.Lib.LoopRemainder

@[expose] public section

noncomputable section

namespace Cert.Proof.Pool

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- The first `n` words of a tile's buffer are an array's, from word `base` on. -/
def Fetched {α : Type} (f : S3136.Idx → α) (g : S100000.Idx → α) (base n : ℕ) : Prop :=
  ∀ j : S3136.Idx, (j 0).val < n → f j = g (node (base + (j 0).val))

/-- Sixteen words read at `o` from a fetched scores buffer are the nodes' scores from `base + o` on. -/
theorem read_s {f : S3136.Idx → Elt F .f32} {g : S100000.Idx → Elt F .f32} {base n o p : ℕ} (hf : Fetched f g base n)
    (off : Fin 1 → ℕ) (inb : ∀ a, off a + S16.size a ≤ S3136.size a) (ho : off = ![o]) (hn : o + 16 ≤ n) (hp : p = base + o) :
    sB.view.readAt (Elt F) (Rect.unit (s := S3136) off S16.size inb).toLoadRect f = lanes g p := by
  subst ho hp
  funext x
  have hx : ((Rect.unit (s := S3136) ![o] S16.size inb).toLoadRect.idx x 0).val = o + (x 0).val := by
    rw [LoadRect.idx_apply]; show o + 1 * (x 0).val = _; omega
  have h16 : (x 0).val < 16 := (x 0).isLt
  show f ((Rect.unit (s := S3136) ![o] S16.size inb).toLoadRect.idx x) = _
  rw [hf _ (by omega), hx]; unfold lanes; rw [Nat.add_assoc]

/-- The same of the weights buffer. -/
theorem read_t {f : S3136.Idx → Elt F .f32} {g : S100000.Idx → Elt F .f32} {base n o p : ℕ} (hf : Fetched f g base n)
    (off : Fin 1 → ℕ) (inb : ∀ a, off a + S16.size a ≤ S3136.size a) (ho : off = ![o]) (hn : o + 16 ≤ n) (hp : p = base + o) :
    tB.view.readAt (Elt F) (Rect.unit (s := S3136) off S16.size inb).toLoadRect f = lanes g p := by
  subst ho hp
  funext x
  have hx : ((Rect.unit (s := S3136) ![o] S16.size inb).toLoadRect.idx x 0).val = o + (x 0).val := by
    rw [LoadRect.idx_apply]; show o + 1 * (x 0).val = _; omega
  have h16 : (x 0).val < 16 := (x 0).isLt
  show f ((Rect.unit (s := S3136) ![o] S16.size inb).toLoadRect.idx x) = _
  rw [hf _ (by omega), hx]; unfold lanes; rw [Nat.add_assoc]

/-- The same of the ids buffer. -/
theorem read_i {f : S3136.Idx → Elt F .i32} {g : S100000.Idx → Elt F .i32} {base n o p : ℕ} (hf : Fetched f g base n)
    (off : Fin 1 → ℕ) (inb : ∀ a, off a + S16.size a ≤ S3136.size a) (ho : off = ![o]) (hn : o + 16 ≤ n) (hp : p = base + o) :
    iB.view.readAt (Elt F) (Rect.unit (s := S3136) off S16.size inb).toLoadRect f = lanes g p := by
  subst ho hp
  funext x
  have hx : ((Rect.unit (s := S3136) ![o] S16.size inb).toLoadRect.idx x 0).val = o + (x 0).val := by
    rw [LoadRect.idx_apply]; show o + 1 * (x 0).val = _; omega
  have h16 : (x 0).val < 16 := (x 0).isLt
  show f ((Rect.unit (s := S3136) ![o] S16.size inb).toLoadRect.idx x) = _
  rw [hf _ (by omega), hx]; unfold lanes; rw [Nat.add_assoc]

variable (d : Dev nD) (L : grid1.Coords)

/-- An access to a whole buffer covers every element. -/
theorem access_set (B : Ref sig .scVector) : ((Memref.whole B).access (.whole B.ty.shape)).set = Finset.univ := by
  rw [View.set_slice]; exact (congrArg _ (Rect.set_whole _)).trans (View.setOn_whole_univ B)
/-- An access to a whole buffer reads its contents. -/
theorem access_read (B : Ref sig .scVector) (f : B.ty.Contents (Elt F)) : ((Memref.whole B).access (.whole B.ty.shape)).read (Elt F) f = f :=
  Memref.readAt_whole (Elt F) B f

/-- An indexed load from the maxima table reads the table's words and leaves it as it is. -/
theorem gather_m {idxs : Fin 1 → IVec S16 32} {h : ∀ a x, (idxs a x).toNat < S256.size a}
    {hl : mB.view.Loads} {α : Type} {Q : α → sProp 𝕄} {k : Vec F S16 .f32 → Prog (TpuEff nD τ sig (Elt F) Λ₀ (.scVector (cV L) (jV L))) α}
    {f : Buf (Elt F) ((thr d L).loc cc1_scratch3)} :
    (mB.view.loc (thr d L) ↦{fullShare} f : sProp 𝕄)
      ⊢ iprop(((mB.view.loc (thr d L) ↦{fullShare} f)
          -∗ wp frame (wpE (defs₀ (F := F)) 𝒱₀ (thr d L) none) Set.univ (k (loadIdx (F := F) (s := S256) (e := .f32) f idxs h)) Q)
        -∗ wp frame (wpE (defs₀ (F := F)) 𝒱₀ (thr d L) none) Set.univ (SparseCore.vectorLoadIdx mB idxs h hl >>= k) Q) := by
  have key := SparseCore.wp_vectorLoadIdx (defs := defs₀ (F := F)) 𝒱₀ (thr d L) none Set.univ (Q := Q) (base := mB) (idxs := idxs) (h := h) (hl := hl) (k := k) (f := f) (q := fullShare) (S := Finset.univ) (Finset.subset_univ _)
  rw [show (mB.access (.whole S256)).read (Elt F) f = f from access_read cc1_scratch3 f] at key
  exact key

/-- An indexed store leaves in the maxima table what `storeIdx` says. -/
theorem scatter_m {idxs : Fin 1 → IVec S16 32} {v : Vec F S16 .f32} {mask : IVec S16 1} {add : Bool} {h : ∀ a x, (idxs a x).toNat < S256.size a}
    {hs : (mB.access (.whole S256)).Stores Finset.univ} {α : Type} {Q : α → sProp 𝕄} {k : PUnit → Prog (TpuEff nD τ sig (Elt F) Λ₀ (.scVector (cV L) (jV L))) α}
    {f : Buf (Elt F) ((thr d L).loc cc1_scratch3)} :
    (mB.view.loc (thr d L) ↦{fullShare} f : sProp 𝕄)
      ⊢ iprop(((mB.view.loc (thr d L) ↦{fullShare} (storeIdx (F := F) (s := S256) (e := .f32) f idxs v mask add h : Buf (Elt F) ((thr d L).loc cc1_scratch3)))
          -∗ wp frame (wpE (defs₀ (F := F)) 𝒱₀ (thr d L) none) Set.univ (k ⟨⟩) Q)
        -∗ wp frame (wpE (defs₀ (F := F)) 𝒱₀ (thr d L) none) Set.univ (SparseCore.vectorStoreIdx mB idxs v mask add h hs >>= k) Q) := by
  have hset : (mB.access (.whole S256)).set = Finset.univ := access_set cc1_scratch3
  have key := SparseCore.wp_vectorStoreIdx (defs := defs₀ (F := F)) 𝒱₀ (thr d L) none Set.univ (Q := Q) (base := mB) (idxs := idxs) (v := v) (mask := mask) (add := add) (h := h) (hs := hs) (k := k) (f := f)
  rw [hset] at key
  rw [show (mB.access (.whole S256)).write (Elt F) f (storeIdx ((mB.access (.whole S256)).read (Elt F) f) idxs v mask add h) Finset.univ
      = storeIdx (F := F) (s := S256) (e := .f32) f idxs v mask add h from
      (Memref.write_access_whole_univ (Elt F) cc1_scratch3 f _).trans (congrArg (fun z => storeIdx (F := F) (s := S256) (e := .f32) z idxs v mask add h) (access_read cc1_scratch3 f))] at key
  exact key

/-- The same of the denominators' table. -/
theorem scatter_d {idxs : Fin 1 → IVec S16 32} {v : Vec F S16 .f32} {mask : IVec S16 1} {add : Bool} {h : ∀ a x, (idxs a x).toNat < S256.size a}
    {hs : (dB.access (.whole S256)).Stores Finset.univ} {α : Type} {Q : α → sProp 𝕄} {k : PUnit → Prog (TpuEff nD τ sig (Elt F) Λ₀ (.scVector (cV L) (jV L))) α}
    {f : Buf (Elt F) ((thr d L).loc cc1_scratch4)} :
    (dB.view.loc (thr d L) ↦{fullShare} f : sProp 𝕄)
      ⊢ iprop(((dB.view.loc (thr d L) ↦{fullShare} (storeIdx (F := F) (s := S256) (e := .f32) f idxs v mask add h : Buf (Elt F) ((thr d L).loc cc1_scratch4)))
          -∗ wp frame (wpE (defs₀ (F := F)) 𝒱₀ (thr d L) none) Set.univ (k ⟨⟩) Q)
        -∗ wp frame (wpE (defs₀ (F := F)) 𝒱₀ (thr d L) none) Set.univ (SparseCore.vectorStoreIdx dB idxs v mask add h hs >>= k) Q) := by
  have hset : (dB.access (.whole S256)).set = Finset.univ := access_set cc1_scratch4
  have key := SparseCore.wp_vectorStoreIdx (defs := defs₀ (F := F)) 𝒱₀ (thr d L) none Set.univ (Q := Q) (base := dB) (idxs := idxs) (v := v) (mask := mask) (add := add) (h := h) (hs := hs) (k := k) (f := f)
  rw [hset] at key
  rw [show (dB.access (.whole S256)).write (Elt F) f (storeIdx ((dB.access (.whole S256)).read (Elt F) f) idxs v mask add h) Finset.univ
      = storeIdx (F := F) (s := S256) (e := .f32) f idxs v mask add h from
      (Memref.write_access_whole_univ (Elt F) cc1_scratch4 f _).trans (congrArg (fun z => storeIdx (F := F) (s := S256) (e := .f32) z idxs v mask add h) (access_read cc1_scratch4 f))] at key
  exact key

/-- The same of the numerators' table. -/
theorem scatter_n {idxs : Fin 1 → IVec S16 32} {v : Vec F S16 .f32} {mask : IVec S16 1} {add : Bool} {h : ∀ a x, (idxs a x).toNat < S256.size a}
    {hs : (nB.access (.whole S256)).Stores Finset.univ} {α : Type} {Q : α → sProp 𝕄} {k : PUnit → Prog (TpuEff nD τ sig (Elt F) Λ₀ (.scVector (cV L) (jV L))) α}
    {f : Buf (Elt F) ((thr d L).loc cc1_scratch5)} :
    (nB.view.loc (thr d L) ↦{fullShare} f : sProp 𝕄)
      ⊢ iprop(((nB.view.loc (thr d L) ↦{fullShare} (storeIdx (F := F) (s := S256) (e := .f32) f idxs v mask add h : Buf (Elt F) ((thr d L).loc cc1_scratch5)))
          -∗ wp frame (wpE (defs₀ (F := F)) 𝒱₀ (thr d L) none) Set.univ (k ⟨⟩) Q)
        -∗ wp frame (wpE (defs₀ (F := F)) 𝒱₀ (thr d L) none) Set.univ (SparseCore.vectorStoreIdx nB idxs v mask add h hs >>= k) Q) := by
  have hset : (nB.access (.whole S256)).set = Finset.univ := access_set cc1_scratch5
  have key := SparseCore.wp_vectorStoreIdx (defs := defs₀ (F := F)) 𝒱₀ (thr d L) none Set.univ (Q := Q) (base := nB) (idxs := idxs) (v := v) (mask := mask) (add := add) (h := h) (hs := hs) (k := k) (f := f)
  rw [hset] at key
  rw [show (nB.access (.whole S256)).write (Elt F) f (storeIdx ((nB.access (.whole S256)).read (Elt F) f) idxs v mask add h) Finset.univ
      = storeIdx (F := F) (s := S256) (e := .f32) f idxs v mask add h from
      (Memref.write_access_whole_univ (Elt F) cc1_scratch5 f _).trans (congrArg (fun z => storeIdx (F := F) (s := S256) (e := .f32) z idxs v mask add h) (access_read cc1_scratch5 f))] at key
  exact key

set_option maxHeartbeats 4000000 in
/-- One trip of the maxima loop takes the maxima table to its `mStep` and leaves the fetched buffers as they are. -/
theorem t2_step (s : S100000.Idx → Elt F .f32) (ids : S100000.Idx → BitVec 32) (hr : InRange ids)
    (fs : Buf (Elt F) ((thr d L).loc cc1_scratch0)) (fi : Buf (Elt F) ((thr d L).loc cc1_scratch2)) (M : Buf (Elt F) ((thr d L).loc cc1_scratch3))
    (base n : ℕ) (hs : Fetched fs s base n) (hi : Fetched fi ids base n) (v1 v4 : BitVec 32) (k : Fin (k1_t2_loop L).trips) (hk : 32 * k.val + 32 ≤ n) :
    iprop((sB.view.loc (thr d L) ↦{fullShare} fs) ∗ (iB.view.loc (thr d L) ↦{fullShare} fi) ∗ (mB.view.loc (thr d L) ↦{fullShare} M))
      ⊢ (wp frame (wpE (defs₀ (F := F)) 𝒱₀ (thr d L) none) Set.univ
          (k1_t2_body L sG (Memref.isWhole_whole _) tG (Memref.isWhole_whole _) iG (Memref.isWhole_whole _)
            moG (Memref.isWhole_whole _) doG (Memref.isWhole_whole _) toG (Memref.isWhole_whole _)
            sB (Memref.isWhole_whole _) tB (Memref.isWhole_whole _) iB (Memref.isWhole_whole _)
            mB (Memref.isWhole_whole _) dB (Memref.isWhole_whole _) nB (Memref.isWhole_whole _)
            cc1_scratch6 cc1_scratch7 cc1_scratch8 cc1_scratch9 cc1_scoped0 cc1_scoped1 cc1_scoped2 v1 v4 io k ⟨⟩)
          fun _ => iprop((sB.view.loc (thr d L) ↦{fullShare} fs) ∗ (iB.view.loc (thr d L) ↦{fullShare} fi) ∗ (mB.view.loc (thr d L) ↦{fullShare}
            (mStep (lanes ids (base + 32 * k.val)) (lanes ids (base + 32 * k.val + 16)) (hr.lanes _) (hr.lanes _)
      (lanes s (base + 32 * k.val)) (lanes s (base + 32 * k.val + 16)) M : Buf (Elt F) ((thr d L).loc cc1_scratch3)))) : sProp 𝕄) := by
  have e5 : k1_off5 L k = ![32 * k.val] := k1_off5_eq L k
  have e6 : k1_off6 L k = ![32 * k.val + 16] := k1_off6_eq L k
  unfold k1_t2_body
  simp only [k1_part1_eq_skeleton, k1_part2_eq_skeleton]; unfold k1_part1_skel k1_part2_skel
  simp only [Prog.lift, Prog.bind_op, Prog.bind_ret, Prog.pure_eq_ret]
  iintro ⟨Hs, Hi, Hm⟩
  iapply (wp_load 𝒱₀ (thr d L) none Set.univ (m := iB) (S := Finset.univ) (Finset.subset_univ _)) $$ Hi; iintro Hi
  rw [read_i hi _ _ e5 (by omega) rfl, wp_assume_of _ _ _ _ (show k1_chk1 (lanes ids (base + 32 * k.val)) from ⟨hr.lanes _, hr.lanes _⟩)]
  iapply (wp_load 𝒱₀ (thr d L) none Set.univ (m := sB) (S := Finset.univ) (Finset.subset_univ _)) $$ Hs; iintro Hs
  rw [read_s hs _ _ e5 (by omega) rfl]
  iapply (wp_load 𝒱₀ (thr d L) none Set.univ (m := iB) (S := Finset.univ) (Finset.subset_univ _)) $$ Hi; iintro Hi
  rw [read_i hi _ _ e6 (by omega) (Nat.add_assoc _ _ _), wp_assume_of _ _ _ _ (show k1_chk2 (lanes ids (base + 32 * k.val + 16)) from ⟨hr.lanes _, hr.lanes _⟩)]
  iapply (wp_load 𝒱₀ (thr d L) none Set.univ (m := sB) (S := Finset.univ) (Finset.subset_univ _)) $$ Hs; iintro Hs
  rw [read_s hs _ _ e6 (by omega) (Nat.add_assoc _ _ _)]
  simp only [Prog.bind_ret]
  iapply (gather_m d L) $$ Hm; iintro Hm
  iapply (scatter_m d L) $$ Hm; iintro Hm
  iapply (gather_m d L) $$ Hm; iintro Hm
  iapply (scatter_m d L) $$ Hm; iintro Hm
  sl_steps
  isplitl [Hs]; · iexact Hs
  isplitl [Hi]; · iexact Hi
  iexact Hm

set_option maxHeartbeats 8000000 in
/-- One trip of the sums loop takes the two sums' tables to their `dStep` and `tStep` and leaves the rest as it is. -/
theorem t4_step (s t : S100000.Idx → Elt F .f32) (ids : S100000.Idx → BitVec 32) (hr : InRange ids)
    (fs : Buf (Elt F) ((thr d L).loc cc1_scratch0)) (ft : Buf (Elt F) ((thr d L).loc cc1_scratch1)) (fi : Buf (Elt F) ((thr d L).loc cc1_scratch2))
    (M : Buf (Elt F) ((thr d L).loc cc1_scratch3)) (TD : Buf (Elt F) ((thr d L).loc cc1_scratch4)) (TT : Buf (Elt F) ((thr d L).loc cc1_scratch5))
    (base n : ℕ) (hs : Fetched fs s base n) (ht : Fetched ft t base n) (hi : Fetched fi ids base n) (v4 c2 v64 : BitVec 32) (k : Fin (k1_t4_loop L).trips) (hk : 32 * k.val + 32 ≤ n) :
    iprop((sB.view.loc (thr d L) ↦{fullShare} fs) ∗ (tB.view.loc (thr d L) ↦{fullShare} ft) ∗ (iB.view.loc (thr d L) ↦{fullShare} fi)
        ∗ (mB.view.loc (thr d L) ↦{fullShare} M) ∗ (dB.view.loc (thr d L) ↦{fullShare} TD) ∗ (nB.view.loc (thr d L) ↦{fullShare} TT))
      ⊢ (wp frame (wpE (defs₀ (F := F)) 𝒱₀ (thr d L) none) Set.univ
          (k1_t4_body L sG (Memref.isWhole_whole _) tG (Memref.isWhole_whole _) iG (Memref.isWhole_whole _)
            moG (Memref.isWhole_whole _) doG (Memref.isWhole_whole _) toG (Memref.isWhole_whole _)
            sB (Memref.isWhole_whole _) tB (Memref.isWhole_whole _) iB (Memref.isWhole_whole _)
            mB (Memref.isWhole_whole _) dB (Memref.isWhole_whole _) nB (Memref.isWhole_whole _)
            cc1_scratch6 cc1_scratch7 cc1_scratch8 cc1_scratch9 cc1_scoped0 cc1_scoped1 cc1_scoped2 v4 io c2 v64 k ⟨⟩)
          fun _ => iprop((sB.view.loc (thr d L) ↦{fullShare} fs) ∗ (tB.view.loc (thr d L) ↦{fullShare} ft) ∗ (iB.view.loc (thr d L) ↦{fullShare} fi)
            ∗ (mB.view.loc (thr d L) ↦{fullShare} M)
            ∗ (dB.view.loc (thr d L) ↦{fullShare} (dStep (lanes ids (base + 32 * k.val)) (lanes ids (base + 32 * k.val + 16)) (hr.lanes _) (hr.lanes _)
              (lanes s (base + 32 * k.val)) (lanes s (base + 32 * k.val + 16))
              (mLanes ids hr M (base + 32 * k.val)) (mLanes ids hr M (base + 32 * k.val + 16)) TD : Buf (Elt F) ((thr d L).loc cc1_scratch4)))
            ∗ (nB.view.loc (thr d L) ↦{fullShare} (tStep (lanes ids (base + 32 * k.val)) (lanes ids (base + 32 * k.val + 16)) (hr.lanes _) (hr.lanes _)
              (lanes s (base + 32 * k.val)) (lanes s (base + 32 * k.val + 16)) (lanes t (base + 32 * k.val)) (lanes t (base + 32 * k.val + 16))
              (mLanes ids hr M (base + 32 * k.val)) (mLanes ids hr M (base + 32 * k.val + 16)) TT : Buf (Elt F) ((thr d L).loc cc1_scratch5)))) : sProp 𝕄) := by
  have e9 : k1_off9 L k = ![32 * k.val] := k1_off9_eq L k
  have e10 : k1_off10 L k = ![32 * k.val + 16] := k1_off10_eq L k
  unfold k1_t4_body
  simp only [k1_part5_eq_skeleton, k1_part6_eq_skeleton, k1_part7_eq_skeleton, k1_part8_eq_skeleton]; unfold k1_part5_skel k1_part6_skel k1_part7_skel k1_part8_skel
  simp only [Prog.lift, Prog.bind_op, Prog.bind_ret, Prog.pure_eq_ret]
  iintro ⟨Hs, Ht, Hi, Hm, Hd, Hn⟩
  iapply (wp_load 𝒱₀ (thr d L) none Set.univ (m := iB) (S := Finset.univ) (Finset.subset_univ _)) $$ Hi; iintro Hi
  rw [read_i hi _ _ e9 (by omega) rfl, wp_assume_of _ _ _ _ (show k1_chk5 (lanes ids (base + 32 * k.val)) from ⟨hr.lanes _, hr.lanes _, hr.lanes _⟩)]
  iapply (wp_load 𝒱₀ (thr d L) none Set.univ (m := sB) (S := Finset.univ) (Finset.subset_univ _)) $$ Hs; iintro Hs
  rw [read_s hs _ _ e9 (by omega) rfl]
  iapply (wp_load 𝒱₀ (thr d L) none Set.univ (m := tB) (S := Finset.univ) (Finset.subset_univ _)) $$ Ht; iintro Ht
  rw [read_t ht _ _ e9 (by omega) rfl]
  simp only [Prog.bind_ret, Prog.bind_assoc]
  iapply (gather_m d L) $$ Hm; iintro Hm
  simp only [Prog.bind_ret, Prog.bind_op]
  iapply (wp_load 𝒱₀ (thr d L) none Set.univ (m := iB) (S := Finset.univ) (Finset.subset_univ _)) $$ Hi; iintro Hi
  rw [read_i hi _ _ e10 (by omega) (Nat.add_assoc _ _ _), wp_assume_of _ _ _ _ (show k1_chk6 (lanes ids (base + 32 * k.val + 16)) from ⟨hr.lanes _, hr.lanes _, hr.lanes _⟩)]
  iapply (wp_load 𝒱₀ (thr d L) none Set.univ (m := sB) (S := Finset.univ) (Finset.subset_univ _)) $$ Hs; iintro Hs
  rw [read_s hs _ _ e10 (by omega) (Nat.add_assoc _ _ _)]
  iapply (wp_load 𝒱₀ (thr d L) none Set.univ (m := tB) (S := Finset.univ) (Finset.subset_univ _)) $$ Ht; iintro Ht
  rw [read_t ht _ _ e10 (by omega) (Nat.add_assoc _ _ _)]
  simp only [Prog.bind_ret, Prog.bind_assoc]
  iapply (gather_m d L) $$ Hm; iintro Hm
  simp only [Prog.bind_ret]
  iapply (scatter_d d L) $$ Hd; iintro Hd
  iapply (scatter_n d L) $$ Hn; iintro Hn
  iapply (scatter_d d L) $$ Hd; iintro Hd
  iapply (scatter_n d L) $$ Hn; iintro Hn
  sl_steps
  isplitl [Hs]; · iexact Hs
  isplitl [Ht]; · iexact Ht
  isplitl [Hi]; · iexact Hi
  isplitl [Hm]; · iexact Hm
  isplitl [Hd]; · iexact Hd
  iexact Hn

/-- What the clearing loop has filled so far. -/
def Filled (c : F .f32) (n : ℕ) (f : S256.Idx → Elt F .f32) : Prop := ∀ j : S256.Idx, (j 0).val < n → f j = c

/-- Sixteen more words stored with `c` after the first `n` make `n + 16` words of `c`. -/
theorem Filled.step {c : F .f32} (v : View sig .scVector .vmem S256 .f32) (f : v.ty.Contents (Elt F)) {n : ℕ} (off : Fin 1 → ℕ) (inb : ∀ a, off a + S16.size a ≤ S256.size a)
    (ho : off = ![n]) (w : S16.Idx → Elt F .f32) (hw : ∀ x, w x = c) (h : Filled c n (v.read (Elt F) f)) :
    Filled c (n + 16) (v.read (Elt F) (v.writes (Elt F) f [⟨Rect.unit (s := S256) off S16.size inb, w⟩])) := by
  subst ho
  intro j hj
  by_cases hjn : (j 0).val < n
  · rw [View.read_writes_cons_miss_of_axis v f _ _ j 0 n 16 rfl rfl rfl (Or.inl hjn)]
    exact h j hjn
  · rw [View.read_writes_cons_hit_of_coords v f (Rect.unit (s := S256) ![n] S16.size inb) w [] (Shape.ofLane (d := ![16]) ⟨(j 0).val - n, by show (j 0).val - n < 16; omega⟩) j]
    · exact hw _
    · intro a
      obtain rfl : a = 0 := Subsingleton.elim _ _
      show (j 0).val = n + 1 * ((j 0).val - n)
      omega

/-- Minus infinity and zero, the words the tables start from. -/
abbrev negInf : F .f32 := Scalar.ofBits .f32 0xFF800000#32
abbrev zero32 : F .f32 := Scalar.ofBits .f32 0x00000000#32

/-- The three tables, filled up to word `n`. -/
def tablesFilled (n : ℕ) : sProp 𝕄 :=
  iprop(∃ (fM : Buf (Elt F) ((thr d L).loc cc1_scratch3)) (fD : Buf (Elt F) ((thr d L).loc cc1_scratch4)) (fT : Buf (Elt F) ((thr d L).loc cc1_scratch5)),
    ⌜Filled (F := F) negInf n fM ∧ Filled (F := F) zero32 n fD ∧ Filled (F := F) zero32 n fT⌝
    ∗ (mB.view.loc (thr d L) ↦{fullShare} fM) ∗ (dB.view.loc (thr d L) ↦{fullShare} fD) ∗ (nB.view.loc (thr d L) ↦{fullShare} fT))

/-- The clearing loop's trip. -/
theorem t1_step (v1 v4 : BitVec 32) (k : Fin k1_t1_loop.trips) :
    tablesFilled (F := F) d L (16 * k.val)
      ⊢ (wp frame (wpE (defs₀ (F := F)) 𝒱₀ (thr d L) none) Set.univ
          (k1_t1_body L sG (Memref.isWhole_whole _) tG (Memref.isWhole_whole _) iG (Memref.isWhole_whole _)
            moG (Memref.isWhole_whole _) doG (Memref.isWhole_whole _) toG (Memref.isWhole_whole _)
            sB (Memref.isWhole_whole _) tB (Memref.isWhole_whole _) iB (Memref.isWhole_whole _)
            mB (Memref.isWhole_whole _) dB (Memref.isWhole_whole _) nB (Memref.isWhole_whole _)
            cc1_scratch6 cc1_scratch7 cc1_scratch8 cc1_scratch9 cc1_scoped0 cc1_scoped1 cc1_scoped2 v1 v4 k ⟨⟩)
          fun _ => tablesFilled (F := F) d L (16 * (k.val + 1)) : sProp 𝕄) := by
  have e4 : k1_off4 k = ![16 * k.val] := k1_off4_eq k
  unfold k1_t1_body tablesFilled
  iintro ⟨%fM, %fD, %fT, %hf, Hm, Hd, Hn⟩
  sl_exec
  sl_steps
  iexists _; iexists _; iexists _
  isplitr
  · ipureintro
    exact ⟨Filled.step mB.view fM _ (k1_off4_inb k) e4 _ (fun _ => rfl) hf.1, Filled.step dB.view fD _ (k1_off4_inb k) e4 _ (fun _ => rfl) hf.2.1,
      Filled.step nB.view fT _ (k1_off4_inb k) e4 _ (fun _ => rfl) hf.2.2⟩
  isplitl [Hm]; · iexact Hm
  isplitl [Hd]; · iexact Hd
  iexact Hn

end Cert.Proof.Pool

end
-- ==== Proof.Tile.lean ====
module

public import proofs.«01_k».proof.Proof.Loops

@[expose] public section

noncomputable section

namespace Cert.Proof.Pool

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (m : (ℓ : Loc nD τ sig) → Buf (Elt F) ℓ) (d : Dev nD) (L : grid1.Coords)

abbrev kern : Prog (TpuEff nD τ sig (Elt F) Λ₀ (.scVector (cV L) (jV L))) PUnit :=
  cc1_sc_kernel L sG (Memref.isWhole_whole _) tG (Memref.isWhole_whole _) iG (Memref.isWhole_whole _)
    moG (Memref.isWhole_whole _) doG (Memref.isWhole_whole _) toG (Memref.isWhole_whole _)
    sB (Memref.isWhole_whole _) tB (Memref.isWhole_whole _) iB (Memref.isWhole_whole _)
    mB (Memref.isWhole_whole _) dB (Memref.isWhole_whole _) nB (Memref.isWhole_whole _)
    cc1_scratch6 cc1_scratch7 cc1_scratch8 cc1_scratch9 cc1_scoped0 cc1_scoped1 cc1_scoped2

/-- The clearing loop's invariant. -/
def inv1 (k : ℕ) (_ : Unit) : sProp 𝕄 := tablesFilled (F := F) d L (16 * k)

/-- The maxima loop's. -/
def inv2 (s : S100000.Idx → Elt F .f32) (ids : S100000.Idx → BitVec 32) (hr : InRange ids)
    (fs : Buf (Elt F) ((thr d L).loc cc1_scratch0)) (fi : Buf (Elt F) ((thr d L).loc cc1_scratch2)) (k : ℕ) (_ : Unit) : sProp 𝕄 :=
  iprop((sB.view.loc (thr d L) ↦{fullShare} fs) ∗ (iB.view.loc (thr d L) ↦{fullShare} fi)
    ∗ (mB.view.loc (thr d L) ↦{fullShare} (mTab s ids hr (3136 * wL L) k : Buf (Elt F) ((thr d L).loc cc1_scratch3))))

/-- The sums loop's. -/
def inv4 (s t : S100000.Idx → Elt F .f32) (ids : S100000.Idx → BitVec 32) (hr : InRange ids)
    (fs : Buf (Elt F) ((thr d L).loc cc1_scratch0)) (ft : Buf (Elt F) ((thr d L).loc cc1_scratch1)) (fi : Buf (Elt F) ((thr d L).loc cc1_scratch2))
    (k : ℕ) (_ : Unit) : sProp 𝕄 :=
  iprop((sB.view.loc (thr d L) ↦{fullShare} fs) ∗ (tB.view.loc (thr d L) ↦{fullShare} ft) ∗ (iB.view.loc (thr d L) ↦{fullShare} fi)
    ∗ (mB.view.loc (thr d L) ↦{fullShare} (tileM s ids hr (wL L) : Buf (Elt F) ((thr d L).loc cc1_scratch3)))
    ∗ (dB.view.loc (thr d L) ↦{fullShare} (dTab s ids hr (3136 * wL L) (tileM s ids hr (wL L)) k : Buf (Elt F) ((thr d L).loc cc1_scratch4)))
    ∗ (nB.view.loc (thr d L) ↦{fullShare} (tTab s t ids hr (3136 * wL L) (tileM s ids hr (wL L)) k : Buf (Elt F) ((thr d L).loc cc1_scratch5))))

/-- 256 words of `c` are the whole table. -/
theorem Filled.all {c : F .f32} {f : S256.Idx → Elt F .f32} (h : Filled c 256 f) : f = fun _ => c :=
  funext fun j => h j (j 0).isLt

/-- A fetch of 2784 words. -/
theorem fetched_main {e : EltTy} (v : View sig .scVector .vmem S3136 e) (b : v.ty.Contents (Elt F)) (w : S2784.Idx → Elt F e) (g : S100000.Idx → Elt F e) (base : ℕ)
    (hw : ∀ x, w x = g (node (base + (x 0).val))) :
    Fetched (v.read (Elt F) (v.writes (Elt F) b [⟨Rect.unit (s := S3136) ![0] S2784.size inb_S3136_S2784_0, w⟩])) g base 2784 := by
  intro j hj
  rw [View.read_writes_cons_hit_of_coords v b (Rect.unit (s := S3136) ![0] S2784.size inb_S3136_S2784_0) w [] (Shape.ofLane (d := ![2784]) ⟨(j 0).val, hj⟩) j]
  · exact hw _
  · intro a
    obtain rfl : a = 0 := Subsingleton.elim _ _
    show (j 0).val = 0 + 1 * (j 0).val
    omega

/-- A tile's nodes, as a fetch reads them. -/
theorem read_part {e : EltTy} {n : ℕ} (off : Fin 1 → ℕ) (inb : ∀ a, off a + (![n] : Fin 1 → ℕ) a ≤ S100000.size a) (o : ℕ) (ho : off = ![o])
    (g : S100000.Idx → Elt F e) (x : (⟨1, ![n]⟩ : Shape).Idx) :
    g ((Rect.unit (s := S100000) off ![n] inb).emb x) = g (node (o + (x 0).val)) := by
  subst ho
  have hin : o + n ≤ 100000 := inb 0
  have hx : (x 0).val < n := (x 0).isLt
  congr 1
  funext a
  obtain rfl : a = 0 := Subsingleton.elim _ _
  apply Fin.ext
  show o + 1 * (x 0).val = min (o + (x 0).val) 99999
  omega

/-- A tile's nodes begin at 3136 times its number. -/
theorem hoff (L : grid1.Coords) : (![6272 * (L 1).val + 3136 * (L 0).val] : Fin 1 → ℕ) = ![3136 * wL L] := by
  congr 1; show _ = 3136 * (2 * (L 1).val + (L 0).val); omega
/-- A tile's tail begins 2784 nodes later. -/
theorem hoff2 (L : grid1.Coords) : (![6272 * (L 1).val + 3136 * (L 0).val + 2784] : Fin 1 → ℕ) = ![3136 * wL L + 2784] := by
  congr 1; show _ = 3136 * (2 * (L 1).val + (L 0).val) + 2784; omega

/-! What the fetches land in the tile's three buffers: its nodes' words. -/

/-- The part of a tile's buffer the fetch of 2784 words fills, -/
abbrev lo {e : EltTy} (B : Memref sig .scVector .vmem S3136 e) : Memref sig .scVector .vmem S2784 e :=
  B.slice (Rect.unit (s := S3136) ![0] S2784.size inb_S3136_S2784_0) (fun _ => rfl)
/-- and the part the fetch of 352 fills. -/
abbrev hi {e : EltTy} (B : Memref sig .scVector .vmem S3136 e) : Memref sig .scVector .vmem S352 e :=
  B.slice (Rect.unit (s := S3136) ![2784] S352.size inb_S3136_S352_2784) (fun _ => rfl)

/-- A buffer's first 2784 words and its tail are disjoint. -/
theorem lo_hi_disjoint {e : EltTy} (B : Memref sig .scVector .vmem S3136 e) : Disjoint (lo B).view.set (hi B).view.set :=
  View.disjoint_slice_of_sep B.view _ _ 0 rfl rfl (Or.inl (le_refl _))

/-- The two fetches of a tile read apart. -/
theorem src_disjoint (L : grid1.Coords) (hc : k1_cond1 L = 1#1) {κ : Kind} {sp : Space} {e : EltTy} (v : View sig κ sp S100000 e) :
    Disjoint (v.slice (Rect.unit (s := S100000) (k1_off1 L) S2784.size (k1_off1_inb L))).set (v.slice (Rect.unit (s := S100000) (k1_off2 L) S352.size (k1_off2_inb L hc))).set := by
  refine View.disjoint_slice_of_sep v _ _ 0 rfl rfl (Or.inl ?_)
  show k1_off1 L 0 + 2784 ≤ k1_off2 L 0
  rw [k1_off1_eq, k1_off2_eq]
  exact le_refl _

/-- The part of an array a tile's fetch of 2784 words reads, -/
abbrev src1 (L : grid1.Coords) {e : EltTy} (G : Memref sig .scVector .hbm S100000 e) : Memref sig .scVector .hbm S2784 e :=
  G.slice (Rect.unit (s := S100000) (k1_off1 L) S2784.size (k1_off1_inb L)) (fun _ => rfl)
/-- and the part its fetch of 352 reads. -/
abbrev src2 (L : grid1.Coords) (hc : k1_cond1 L = 1#1) {e : EltTy} (G : Memref sig .scVector .hbm S100000 e) : Memref sig .scVector .hbm S352 e :=
  G.slice (Rect.unit (s := S100000) (k1_off2 L) S352.size (k1_off2_inb L hc)) (fun _ => rfl)

/-- A buffer's first 2784 words and its tail are all of it. -/
theorem lo_hi_univ {e : EltTy} (B : Memref sig .scVector .vmem S3136 e) (hB : ∀ j, ∃ i, B.view.emb i = j) :
    (lo B).view.set ∪ (hi B).view.set = Finset.univ := by
  ext j
  simp only [Finset.mem_union, Finset.mem_univ, iff_true]
  obtain ⟨i, rfl⟩ := hB j
  by_cases h : (i 0).val < 2784
  · refine Or.inl (Finset.mem_map.mpr ⟨Shape.ofLane (d := ![2784]) ⟨(i 0).val, h⟩, Finset.mem_univ _, congrArg B.view.emb ?_⟩)
    funext a; obtain rfl : a = 0 := Subsingleton.elim _ _
    exact Fin.ext (show 0 + 1 * (i 0).val = (i 0).val by omega)
  · have hi := (i 0).isLt
    refine Or.inr (Finset.mem_map.mpr ⟨Shape.ofLane (d := ![352]) ⟨(i 0).val - 2784, by change (i 0).val < 3136 at hi; show (i 0).val - 2784 < 352; omega⟩, Finset.mem_univ _, congrArg B.view.emb ?_⟩)
    funext a; obtain rfl : a = 0 := Subsingleton.elim _ _
    exact Fin.ext (show 2784 + 1 * ((i 0).val - 2784) = (i 0).val by omega)

/-- The two fetches of a tile, each landed in its part of the buffer. -/
theorem fetched_halves {e : EltTy} (v : View sig .scVector .vmem S3136 e) (b f : v.ty.Contents (Elt F)) (w : S2784.Idx → Elt F e) (w' : S352.Idx → Elt F e)
    (g : S100000.Idx → Elt F e) (base : ℕ)
    (hw : ∀ x, w x = g (node (base + (x 0).val))) (hw' : ∀ x, w' x = g (node (base + 2784 + (x 0).val)))
    (h1 : ∀ j ∈ (v.slice (Rect.unit (s := S3136) ![0] S2784.size inb_S3136_S2784_0)).set,
      f j = (v.slice (Rect.unit (s := S3136) ![0] S2784.size inb_S3136_S2784_0)).writes (Elt F) b [⟨Rect.whole S2784, w⟩] j)
    (h2 : ∀ j ∈ (v.slice (Rect.unit (s := S3136) ![2784] S352.size inb_S3136_S352_2784)).set,
      f j = (v.slice (Rect.unit (s := S3136) ![2784] S352.size inb_S3136_S352_2784)).writes (Elt F) b [⟨Rect.whole S352, w'⟩] j) :
    Fetched (v.read (Elt F) f) g base 3136 := by
  intro j hj
  by_cases hj' : (j 0).val < 2784
  · have hx : (Rect.unit (s := S3136) ![0] S2784.size inb_S3136_S2784_0).emb (Shape.ofLane (d := ![2784]) ⟨(j 0).val, hj'⟩) = j := by
      funext a; obtain rfl : a = 0 := Subsingleton.elim _ _
      exact Fin.ext (show 0 + 1 * (j 0).val = (j 0).val by omega)
    have hr := View.read_writes_cons_hit_of_coords (v.slice (Rect.unit (s := S3136) ![0] S2784.size inb_S3136_S2784_0)) b (Rect.whole S2784) w []
      (Shape.ofLane (d := ![2784]) ⟨(j 0).val, hj'⟩) (Shape.ofLane (d := ![2784]) ⟨(j 0).val, hj'⟩) (fun a => by
        obtain rfl : a = 0 := Subsingleton.elim _ _
        show (j 0).val = 0 + 1 * (j 0).val
        omega)
    rw [View.read_apply] at hr
    rw [← h1 _ (Finset.mem_map.mpr ⟨_, Finset.mem_univ _, rfl⟩)] at hr
    have hv : v.read (Elt F) f j = w (Shape.ofLane (d := ![2784]) ⟨(j 0).val, hj'⟩) :=
      (congrArg (v.read (Elt F) f) hx.symm).trans hr
    rw [hv]; exact hw _
  · have hj2 : (j 0).val - 2784 < 352 := by omega
    have hx : (Rect.unit (s := S3136) ![2784] S352.size inb_S3136_S352_2784).emb (Shape.ofLane (d := ![352]) ⟨(j 0).val - 2784, hj2⟩) = j := by
      funext a; obtain rfl : a = 0 := Subsingleton.elim _ _
      exact Fin.ext (show 2784 + 1 * ((j 0).val - 2784) = (j 0).val by omega)
    have hr := View.read_writes_cons_hit_of_coords (v.slice (Rect.unit (s := S3136) ![2784] S352.size inb_S3136_S352_2784)) b (Rect.whole S352) w' []
      (Shape.ofLane (d := ![352]) ⟨(j 0).val - 2784, hj2⟩) (Shape.ofLane (d := ![352]) ⟨(j 0).val - 2784, hj2⟩) (fun a => by
        obtain rfl : a = 0 := Subsingleton.elim _ _
        show (j 0).val - 2784 = 0 + 1 * ((j 0).val - 2784)
        omega)
    rw [View.read_apply] at hr
    rw [← h2 _ (Finset.mem_map.mpr ⟨_, Finset.mem_univ _, rfl⟩)] at hr
    have hv : v.read (Elt F) f j = w' (Shape.ofLane (d := ![352]) ⟨(j 0).val - 2784, hj2⟩) :=
      (congrArg (v.read (Elt F) f) hx.symm).trans hr
    rw [hv, hw']
    exact congrArg (fun n => g (node n)) (show base + 2784 + ((j 0).val - 2784) = base + (j 0).val by omega)

/-- The scores buffer splits into its first 2784 words and its tail. -/
theorem split_s (b : Buf (Elt F) ((thr d L).loc cc1_scratch0)) :
    (sB.view.loc (thr d L) ↦{fullShare} b : sProp 𝕄)
      ⊢ iprop(((lo sB).view.loc (thr d L) ↦[(lo sB).view.set]{fullShare} b) ∗ ((hi sB).view.loc (thr d L) ↦[(hi sB).view.set]{fullShare} b)) := by
  rw [show (sB.view.loc (thr d L) ↦{fullShare} b : sProp 𝕄) = (sB.view.loc (thr d L) ↦[(lo sB).view.set ∪ (hi sB).view.set]{fullShare} b) from
    congrArg (fun z => (sB.view.loc (thr d L) ↦[z]{fullShare} b : sProp 𝕄)) (lo_hi_univ sB (fun j => ⟨j, rfl⟩)).symm]
  exact (pointsTo_union (lo_hi_disjoint sB)).1
/-- The two parts of the scores buffer join to one buffer that agrees with both. -/
theorem join_s (b c : Buf (Elt F) ((thr d L).loc cc1_scratch0)) :
    iprop(((lo sB).view.loc (thr d L) ↦[(lo sB).view.set]{fullShare} b) ∗ ((hi sB).view.loc (thr d L) ↦[(hi sB).view.set]{fullShare} c))
      ⊢ (iprop(∃ f : Buf (Elt F) ((thr d L).loc cc1_scratch0), ⌜(∀ j ∈ (lo sB).view.set, f j = b j) ∧ ∀ j ∈ (hi sB).view.set, f j = c j⌝
        ∗ sB.view.loc (thr d L) ↦{fullShare} f) : sProp 𝕄) := by
  iintro H
  ihave H := (pointsTo_join (lo_hi_disjoint sB)) $$ H
  iexists _; isplitr; swap
  · ihave H := (Entails.of_eq (congrArg (fun z => (sB.view.loc (thr d L) ↦[z]{fullShare} _ : sProp 𝕄)) (lo_hi_univ sB (fun j => ⟨j, rfl⟩)))) $$ H
    iexact H
  · ipureintro
    exact ⟨fun j hj => Finset.piecewise_eq_of_notMem _ _ _ (Finset.disjoint_left.mp (lo_hi_disjoint sB) hj), fun j hj => Finset.piecewise_eq_of_mem _ _ _ hj⟩
/-- The scores split into what the two copies of a tile read and the rest, and join again. -/
theorem source_s (hc : k1_cond1 L = 1#1) (q : PosShare TreeShare) (g : Buf (Elt F) (sLoc d)) :
    (sG.view.loc (thr d L) ↦{q} g : sProp 𝕄)
      ⊣⊢ iprop(((src1 L sG).view.loc (thr d L) ↦[(src1 L sG).view.set]{q} g) ∗ ((src2 L hc sG).view.loc (thr d L) ↦[(src2 L hc sG).view.set]{q} g)
        ∗ sG.view.loc (thr d L) ↦[(Finset.univ \ (src1 L sG).view.set) \ (src2 L hc sG).view.set]{q} g) := by
  have h1 : (sG.view.loc (thr d L) ↦{q} g : sProp 𝕄) ⊣⊢ iprop((sG.view.loc (thr d L) ↦[(src1 L sG).view.set]{q} g) ∗ (sG.view.loc (thr d L) ↦[Finset.univ \ (src1 L sG).view.set]{q} g)) :=
    pointsTo_split_subset (Finset.subset_univ _)
  have h2 : (sG.view.loc (thr d L) ↦[Finset.univ \ (src1 L sG).view.set]{q} g : sProp 𝕄)
      ⊣⊢ iprop((sG.view.loc (thr d L) ↦[(src2 L hc sG).view.set]{q} g) ∗ (sG.view.loc (thr d L) ↦[(Finset.univ \ (src1 L sG).view.set) \ (src2 L hc sG).view.set]{q} g)) :=
    pointsTo_split_subset fun j hj => Finset.mem_sdiff.mpr ⟨Finset.mem_univ _, fun h => Finset.disjoint_left.mp (src_disjoint L hc sG.view) h hj⟩
  exact ⟨h1.1.trans (sep_mono_right h2.1), (sep_mono_right h2.2).trans h1.2⟩

/-- The weights buffer splits into its first 2784 words and its tail. -/
theorem split_t (b : Buf (Elt F) ((thr d L).loc cc1_scratch1)) :
    (tB.view.loc (thr d L) ↦{fullShare} b : sProp 𝕄)
      ⊢ iprop(((lo tB).view.loc (thr d L) ↦[(lo tB).view.set]{fullShare} b) ∗ ((hi tB).view.loc (thr d L) ↦[(hi tB).view.set]{fullShare} b)) := by
  rw [show (tB.view.loc (thr d L) ↦{fullShare} b : sProp 𝕄) = (tB.view.loc (thr d L) ↦[(lo tB).view.set ∪ (hi tB).view.set]{fullShare} b) from
    congrArg (fun z => (tB.view.loc (thr d L) ↦[z]{fullShare} b : sProp 𝕄)) (lo_hi_univ tB (fun j => ⟨j, rfl⟩)).symm]
  exact (pointsTo_union (lo_hi_disjoint tB)).1
/-- The two parts of the weights buffer join to one buffer that agrees with both. -/
theorem join_t (b c : Buf (Elt F) ((thr d L).loc cc1_scratch1)) :
    iprop(((lo tB).view.loc (thr d L) ↦[(lo tB).view.set]{fullShare} b) ∗ ((hi tB).view.loc (thr d L) ↦[(hi tB).view.set]{fullShare} c))
      ⊢ (iprop(∃ f : Buf (Elt F) ((thr d L).loc cc1_scratch1), ⌜(∀ j ∈ (lo tB).view.set, f j = b j) ∧ ∀ j ∈ (hi tB).view.set, f j = c j⌝
        ∗ tB.view.loc (thr d L) ↦{fullShare} f) : sProp 𝕄) := by
  iintro H
  ihave H := (pointsTo_join (lo_hi_disjoint tB)) $$ H
  iexists _; isplitr; swap
  · ihave H := (Entails.of_eq (congrArg (fun z => (tB.view.loc (thr d L) ↦[z]{fullShare} _ : sProp 𝕄)) (lo_hi_univ tB (fun j => ⟨j, rfl⟩)))) $$ H
    iexact H
  · ipureintro
    exact ⟨fun j hj => Finset.piecewise_eq_of_notMem _ _ _ (Finset.disjoint_left.mp (lo_hi_disjoint tB) hj), fun j hj => Finset.piecewise_eq_of_mem _ _ _ hj⟩
/-- The weights split into what the two copies of a tile read and the rest, and join again. -/
theorem source_t (hc : k1_cond1 L = 1#1) (q : PosShare TreeShare) (g : Buf (Elt F) (tLoc d)) :
    (tG.view.loc (thr d L) ↦{q} g : sProp 𝕄)
      ⊣⊢ iprop(((src1 L tG).view.loc (thr d L) ↦[(src1 L tG).view.set]{q} g) ∗ ((src2 L hc tG).view.loc (thr d L) ↦[(src2 L hc tG).view.set]{q} g)
        ∗ tG.view.loc (thr d L) ↦[(Finset.univ \ (src1 L tG).view.set) \ (src2 L hc tG).view.set]{q} g) := by
  have h1 : (tG.view.loc (thr d L) ↦{q} g : sProp 𝕄) ⊣⊢ iprop((tG.view.loc (thr d L) ↦[(src1 L tG).view.set]{q} g) ∗ (tG.view.loc (thr d L) ↦[Finset.univ \ (src1 L tG).view.set]{q} g)) :=
    pointsTo_split_subset (Finset.subset_univ _)
  have h2 : (tG.view.loc (thr d L) ↦[Finset.univ \ (src1 L tG).view.set]{q} g : sProp 𝕄)
      ⊣⊢ iprop((tG.view.loc (thr d L) ↦[(src2 L hc tG).view.set]{q} g) ∗ (tG.view.loc (thr d L) ↦[(Finset.univ \ (src1 L tG).view.set) \ (src2 L hc tG).view.set]{q} g)) :=
    pointsTo_split_subset fun j hj => Finset.mem_sdiff.mpr ⟨Finset.mem_univ _, fun h => Finset.disjoint_left.mp (src_disjoint L hc tG.view) h hj⟩
  exact ⟨h1.1.trans (sep_mono_right h2.1), (sep_mono_right h2.2).trans h1.2⟩

/-- The ids buffer splits into its first 2784 words and its tail. -/
theorem split_i (b : Buf (Elt F) ((thr d L).loc cc1_scratch2)) :
    (iB.view.loc (thr d L) ↦{fullShare} b : sProp 𝕄)
      ⊢ iprop(((lo iB).view.loc (thr d L) ↦[(lo iB).view.set]{fullShare} b) ∗ ((hi iB).view.loc (thr d L) ↦[(hi iB).view.set]{fullShare} b)) := by
  rw [show (iB.view.loc (thr d L) ↦{fullShare} b : sProp 𝕄) = (iB.view.loc (thr d L) ↦[(lo iB).view.set ∪ (hi iB).view.set]{fullShare} b) from
    congrArg (fun z => (iB.view.loc (thr d L) ↦[z]{fullShare} b : sProp 𝕄)) (lo_hi_univ iB (fun j => ⟨j, rfl⟩)).symm]
  exact (pointsTo_union (lo_hi_disjoint iB)).1
/-- The two parts of the ids buffer join to one buffer that agrees with both. -/
theorem join_i (b c : Buf (Elt F) ((thr d L).loc cc1_scratch2)) :
    iprop(((lo iB).view.loc (thr d L) ↦[(lo iB).view.set]{fullShare} b) ∗ ((hi iB).view.loc (thr d L) ↦[(hi iB).view.set]{fullShare} c))
      ⊢ (iprop(∃ f : Buf (Elt F) ((thr d L).loc cc1_scratch2), ⌜(∀ j ∈ (lo iB).view.set, f j = b j) ∧ ∀ j ∈ (hi iB).view.set, f j = c j⌝
        ∗ iB.view.loc (thr d L) ↦{fullShare} f) : sProp 𝕄) := by
  iintro H
  ihave H := (pointsTo_join (lo_hi_disjoint iB)) $$ H
  iexists _; isplitr; swap
  · ihave H := (Entails.of_eq (congrArg (fun z => (iB.view.loc (thr d L) ↦[z]{fullShare} _ : sProp 𝕄)) (lo_hi_univ iB (fun j => ⟨j, rfl⟩)))) $$ H
    iexact H
  · ipureintro
    exact ⟨fun j hj => Finset.piecewise_eq_of_notMem _ _ _ (Finset.disjoint_left.mp (lo_hi_disjoint iB) hj), fun j hj => Finset.piecewise_eq_of_mem _ _ _ hj⟩
/-- The ids split into what the two copies of a tile read and the rest, and join again. -/
theorem source_i (hc : k1_cond1 L = 1#1) (q : PosShare TreeShare) (g : Buf (Elt F) (idLoc d)) :
    (iG.view.loc (thr d L) ↦{q} g : sProp 𝕄)
      ⊣⊢ iprop(((src1 L iG).view.loc (thr d L) ↦[(src1 L iG).view.set]{q} g) ∗ ((src2 L hc iG).view.loc (thr d L) ↦[(src2 L hc iG).view.set]{q} g)
        ∗ iG.view.loc (thr d L) ↦[(Finset.univ \ (src1 L iG).view.set) \ (src2 L hc iG).view.set]{q} g) := by
  have h1 : (iG.view.loc (thr d L) ↦{q} g : sProp 𝕄) ⊣⊢ iprop((iG.view.loc (thr d L) ↦[(src1 L iG).view.set]{q} g) ∗ (iG.view.loc (thr d L) ↦[Finset.univ \ (src1 L iG).view.set]{q} g)) :=
    pointsTo_split_subset (Finset.subset_univ _)
  have h2 : (iG.view.loc (thr d L) ↦[Finset.univ \ (src1 L iG).view.set]{q} g : sProp 𝕄)
      ⊣⊢ iprop((iG.view.loc (thr d L) ↦[(src2 L hc iG).view.set]{q} g) ∗ (iG.view.loc (thr d L) ↦[(Finset.univ \ (src1 L iG).view.set) \ (src2 L hc iG).view.set]{q} g)) :=
    pointsTo_split_subset fun j hj => Finset.mem_sdiff.mpr ⟨Finset.mem_univ _, fun h => Finset.disjoint_left.mp (src_disjoint L hc iG.view) h hj⟩
  exact ⟨h1.1.trans (sep_mono_right h2.1), (sep_mono_right h2.2).trans h1.2⟩

/-- The scores buffer read whole is its contents. -/
theorem read_whole_sB (f : Buf (Elt F) ((thr d L).loc cc1_scratch0)) : sB.view.read (Elt F) f = f := rfl
/-- The weights buffer read whole is its contents. -/
theorem read_whole_tB (f : Buf (Elt F) ((thr d L).loc cc1_scratch1)) : tB.view.read (Elt F) f = f := rfl
/-- The ids buffer read whole is its contents. -/
theorem read_whole_iB (f : Buf (Elt F) ((thr d L).loc cc1_scratch2)) : iB.view.read (Elt F) f = f := rfl

/-- After the last tile's one copy the scores buffer has its nodes' scores. -/
theorem land_s1 (hw : wL L = 31) (b : Buf (Elt F) ((thr d L).loc cc1_scratch0)) (g : Buf (Elt F) (sLoc d)) :
    (sB.view.loc (thr d L) ↦{fullShare} sB.view.writes (Elt F) b [⟨Rect.unit (s := S3136) ![0] S2784.size inb_S3136_S2784_0, ReadAs.same.apply ((sG.slice (Rect.unit (s := S100000) (k1_off1 L) S2784.size (k1_off1_inb L)) (fun _ => rfl)).view.read (Elt F) g)⟩] : sProp 𝕄)
      ⊢ iprop(∃ f : Buf (Elt F) ((thr d L).loc cc1_scratch0), ⌜Fetched (α := Elt F .f32) f g (3136 * wL L) (32 * tripsOf (wL L))⌝ ∗ sB.view.loc (thr d L) ↦{fullShare} f) := by
  iintro H; iexists _; isplitr; swap
  · iexact H
  · ipureintro
    rw [show 32 * tripsOf (wL L) = 2784 by unfold tripsOf; rw [if_pos hw]]
    have h := fetched_main sB.view b (ReadAs.same.apply ((sG.slice (Rect.unit (s := S100000) (k1_off1 L) S2784.size (k1_off1_inb L)) (fun _ => rfl)).view.read (Elt F) g)) g (3136 * wL L) (fun x => read_part (n := 2784) (k1_off1 L) (k1_off1_inb L) (3136 * wL L) ((k1_off1_eq L).trans (hoff L)) g x)
    exact (congrArg (fun z => Fetched z g (3136 * wL L) 2784) (read_whole_sB d L _)).mp h
/-- After another tile's two copies the scores buffer has its nodes' scores. -/
theorem land_s2 (hw : wL L ≠ 31) (hc : k1_cond1 L = 1#1) (b : Buf (Elt F) ((thr d L).loc cc1_scratch0)) (g : Buf (Elt F) (sLoc d)) :
    iprop(((lo sB).view.loc (thr d L) ↦[(lo sB).view.set]{fullShare} (lo sB).view.writes (Elt F) b [⟨Rect.whole S2784, ReadAs.same.apply ((src1 L sG).view.read (Elt F) g)⟩])
        ∗ ((hi sB).view.loc (thr d L) ↦[(hi sB).view.set]{fullShare} (hi sB).view.writes (Elt F) b [⟨Rect.whole S352, ReadAs.same.apply ((src2 L hc sG).view.read (Elt F) g)⟩]))
      ⊢ (iprop(∃ f : Buf (Elt F) ((thr d L).loc cc1_scratch0), ⌜Fetched (α := Elt F .f32) f g (3136 * wL L) (32 * tripsOf (wL L))⌝ ∗ sB.view.loc (thr d L) ↦{fullShare} f) : sProp 𝕄) := by
  iintro H
  ihave ⟨%f, %hf, H⟩ := (join_s d L _ _) $$ H
  iexists f; isplitr; swap
  · iexact H
  · ipureintro
    rw [show 32 * tripsOf (wL L) = 3136 by unfold tripsOf; rw [if_neg hw]]
    have h := fetched_halves sB.view b f (ReadAs.same.apply ((src1 L sG).view.read (Elt F) g)) (ReadAs.same.apply ((src2 L hc sG).view.read (Elt F) g)) g (3136 * wL L)
      (fun x => read_part (n := 2784) (k1_off1 L) (k1_off1_inb L) (3136 * wL L) ((k1_off1_eq L).trans (hoff L)) g x)
      (fun x => read_part (n := 352) (k1_off2 L) (k1_off2_inb L hc) (3136 * wL L + 2784) ((k1_off2_eq L).trans (hoff2 L)) g x) hf.1 hf.2
    exact (congrArg (fun z => Fetched z g (3136 * wL L) 3136) (read_whole_sB d L _)).mp h

/-- After the last tile's one copy the weights buffer has its nodes' weights. -/
theorem land_t1 (hw : wL L = 31) (b : Buf (Elt F) ((thr d L).loc cc1_scratch1)) (g : Buf (Elt F) (tLoc d)) :
    (tB.view.loc (thr d L) ↦{fullShare} tB.view.writes (Elt F) b [⟨Rect.unit (s := S3136) ![0] S2784.size inb_S3136_S2784_0, ReadAs.same.apply ((tG.slice (Rect.unit (s := S100000) (k1_off1 L) S2784.size (k1_off1_inb L)) (fun _ => rfl)).view.read (Elt F) g)⟩] : sProp 𝕄)
      ⊢ iprop(∃ f : Buf (Elt F) ((thr d L).loc cc1_scratch1), ⌜Fetched (α := Elt F .f32) f g (3136 * wL L) (32 * tripsOf (wL L))⌝ ∗ tB.view.loc (thr d L) ↦{fullShare} f) := by
  iintro H; iexists _; isplitr; swap
  · iexact H
  · ipureintro
    rw [show 32 * tripsOf (wL L) = 2784 by unfold tripsOf; rw [if_pos hw]]
    have h := fetched_main tB.view b (ReadAs.same.apply ((tG.slice (Rect.unit (s := S100000) (k1_off1 L) S2784.size (k1_off1_inb L)) (fun _ => rfl)).view.read (Elt F) g)) g (3136 * wL L) (fun x => read_part (n := 2784) (k1_off1 L) (k1_off1_inb L) (3136 * wL L) ((k1_off1_eq L).trans (hoff L)) g x)
    exact (congrArg (fun z => Fetched z g (3136 * wL L) 2784) (read_whole_tB d L _)).mp h
/-- After another tile's two copies the weights buffer has its nodes' weights. -/
theorem land_t2 (hw : wL L ≠ 31) (hc : k1_cond1 L = 1#1) (b : Buf (Elt F) ((thr d L).loc cc1_scratch1)) (g : Buf (Elt F) (tLoc d)) :
    iprop(((lo tB).view.loc (thr d L) ↦[(lo tB).view.set]{fullShare} (lo tB).view.writes (Elt F) b [⟨Rect.whole S2784, ReadAs.same.apply ((src1 L tG).view.read (Elt F) g)⟩])
        ∗ ((hi tB).view.loc (thr d L) ↦[(hi tB).view.set]{fullShare} (hi tB).view.writes (Elt F) b [⟨Rect.whole S352, ReadAs.same.apply ((src2 L hc tG).view.read (Elt F) g)⟩]))
      ⊢ (iprop(∃ f : Buf (Elt F) ((thr d L).loc cc1_scratch1), ⌜Fetched (α := Elt F .f32) f g (3136 * wL L) (32 * tripsOf (wL L))⌝ ∗ tB.view.loc (thr d L) ↦{fullShare} f) : sProp 𝕄) := by
  iintro H
  ihave ⟨%f, %hf, H⟩ := (join_t d L _ _) $$ H
  iexists f; isplitr; swap
  · iexact H
  · ipureintro
    rw [show 32 * tripsOf (wL L) = 3136 by unfold tripsOf; rw [if_neg hw]]
    have h := fetched_halves tB.view b f (ReadAs.same.apply ((src1 L tG).view.read (Elt F) g)) (ReadAs.same.apply ((src2 L hc tG).view.read (Elt F) g)) g (3136 * wL L)
      (fun x => read_part (n := 2784) (k1_off1 L) (k1_off1_inb L) (3136 * wL L) ((k1_off1_eq L).trans (hoff L)) g x)
      (fun x => read_part (n := 352) (k1_off2 L) (k1_off2_inb L hc) (3136 * wL L + 2784) ((k1_off2_eq L).trans (hoff2 L)) g x) hf.1 hf.2
    exact (congrArg (fun z => Fetched z g (3136 * wL L) 3136) (read_whole_tB d L _)).mp h

/-- After the last tile's one copy the ids buffer has its nodes' ids. -/
theorem land_i1 (hw : wL L = 31) (b : Buf (Elt F) ((thr d L).loc cc1_scratch2)) (g : Buf (Elt F) (idLoc d)) :
    (iB.view.loc (thr d L) ↦{fullShare} iB.view.writes (Elt F) b [⟨Rect.unit (s := S3136) ![0] S2784.size inb_S3136_S2784_0, ReadAs.same.apply ((iG.slice (Rect.unit (s := S100000) (k1_off1 L) S2784.size (k1_off1_inb L)) (fun _ => rfl)).view.read (Elt F) g)⟩] : sProp 𝕄)
      ⊢ iprop(∃ f : Buf (Elt F) ((thr d L).loc cc1_scratch2), ⌜Fetched (α := Elt F .i32) f g (3136 * wL L) (32 * tripsOf (wL L))⌝ ∗ iB.view.loc (thr d L) ↦{fullShare} f) := by
  iintro H; iexists _; isplitr; swap
  · iexact H
  · ipureintro
    rw [show 32 * tripsOf (wL L) = 2784 by unfold tripsOf; rw [if_pos hw]]
    have h := fetched_main iB.view b (ReadAs.same.apply ((iG.slice (Rect.unit (s := S100000) (k1_off1 L) S2784.size (k1_off1_inb L)) (fun _ => rfl)).view.read (Elt F) g)) g (3136 * wL L) (fun x => read_part (n := 2784) (k1_off1 L) (k1_off1_inb L) (3136 * wL L) ((k1_off1_eq L).trans (hoff L)) g x)
    exact (congrArg (fun z => Fetched z g (3136 * wL L) 2784) (read_whole_iB d L _)).mp h
/-- After another tile's two copies the ids buffer has its nodes' ids. -/
theorem land_i2 (hw : wL L ≠ 31) (hc : k1_cond1 L = 1#1) (b : Buf (Elt F) ((thr d L).loc cc1_scratch2)) (g : Buf (Elt F) (idLoc d)) :
    iprop(((lo iB).view.loc (thr d L) ↦[(lo iB).view.set]{fullShare} (lo iB).view.writes (Elt F) b [⟨Rect.whole S2784, ReadAs.same.apply ((src1 L iG).view.read (Elt F) g)⟩])
        ∗ ((hi iB).view.loc (thr d L) ↦[(hi iB).view.set]{fullShare} (hi iB).view.writes (Elt F) b [⟨Rect.whole S352, ReadAs.same.apply ((src2 L hc iG).view.read (Elt F) g)⟩]))
      ⊢ (iprop(∃ f : Buf (Elt F) ((thr d L).loc cc1_scratch2), ⌜Fetched (α := Elt F .i32) f g (3136 * wL L) (32 * tripsOf (wL L))⌝ ∗ iB.view.loc (thr d L) ↦{fullShare} f) : sProp 𝕄) := by
  iintro H
  ihave ⟨%f, %hf, H⟩ := (join_i d L _ _) $$ H
  iexists f; isplitr; swap
  · iexact H
  · ipureintro
    rw [show 32 * tripsOf (wL L) = 3136 by unfold tripsOf; rw [if_neg hw]]
    have h := fetched_halves iB.view b f (ReadAs.same.apply ((src1 L iG).view.read (Elt F) g)) (ReadAs.same.apply ((src2 L hc iG).view.read (Elt F) g)) g (3136 * wL L)
      (fun x => read_part (n := 2784) (k1_off1 L) (k1_off1_inb L) (3136 * wL L) ((k1_off1_eq L).trans (hoff L)) g x)
      (fun x => read_part (n := 352) (k1_off2 L) (k1_off2_inb L hc) (3136 * wL L + 2784) ((k1_off2_eq L).trans (hoff2 L)) g x) hf.1 hf.2
    exact (congrArg (fun z => Fetched z g (3136 * wL L) 3136) (read_whole_iB d L _)).mp h

/-- A tile's row of a table array, entry by entry. -/
theorem row_emb (L : grid1.Coords) (b : S256.Idx) (j : S32x256.Idx) (h0 : (j 0).val = wL L) (h1 : (j 1).val = (b 0).val) :
    (rowRect L).emb (Shape.reshapeEquiv (s := (rowRect L).shape) (s' := S256) squeezes_S1x256_S256.numel_eq b) = j := by
  have hy : Shape.reshapeEquiv (s := (rowRect L).shape) (s' := S256) squeezes_S1x256_S256.numel_eq b
      = (fun a => match a with | 0 => (⟨0, Nat.one_pos⟩ : Fin 1) | 1 => (b 0 : Fin 256)) := by
    apply Shape.reshapeEquiv_eq_of_rowMajor
    refine (Shape.rowMajor_val_two (d := ![1, 256]) _).trans ?_
    refine Eq.trans ?_ (Shape.rowMajor_val_one (d := ![256]) b).symm
    show 0 * 256 + (b 0).val = (b 0).val
    omega
  rw [hy]
  funext a
  apply Fin.ext
  match a with
  | 0 =>
    show k1_off13 L 0 + 1 * 0 = (j 0).val
    rw [k1_off13_eq, h0]; show 2 * (L 1).val + (L 0).val + 1 * 0 = 2 * (L 1).val + (L 0).val; omega
  | 1 =>
    show k1_off13 L 1 + 1 * (b 0).val = (j 1).val
    rw [k1_off13_eq, h1]; show 0 + 1 * (b 0).val = (b 0).val; omega

/-- What a tile's row holds once a table is copied into it. -/
theorem row_read (v : View sig .scVector .hbm S256 .f32) (f : v.ty.Contents (Elt F)) (T : S256.Idx → Elt F .f32) (b : S256.Idx) :
    v.read (Elt F) (v.writes (Elt F) f [⟨Rect.whole S256, T⟩]) b = T b :=
  View.read_writes_cons_hit_of_coords v f (Rect.whole S256) T [] b b (fun a => by
    show (b a).val = 0 + 1 * (b a).val
    omega)

/-- A table copied out is the tile's row of the maxima. -/
theorem row_mo (f : Buf (Elt F) (moLoc d)) (T : S256.Idx → Elt F .f32) (b : S256.Idx) (j : S32x256.Idx) (h0 : (j 0).val = wL L) (h1 : (j 1).val = (b 0).val) :
    (moRow L).view.writes (Elt F) f [⟨Rect.whole S256, T⟩] j = T b := by
  rw [← row_emb L b j h0 h1]
  exact row_read (moRow L).view f T b
/-- A table copied out is the tile's row of the denominators. -/
theorem row_do (f : Buf (Elt F) (doLoc d)) (T : S256.Idx → Elt F .f32) (b : S256.Idx) (j : S32x256.Idx) (h0 : (j 0).val = wL L) (h1 : (j 1).val = (b 0).val) :
    (doRow L).view.writes (Elt F) f [⟨Rect.whole S256, T⟩] j = T b := by
  rw [← row_emb L b j h0 h1]
  exact row_read (doRow L).view f T b
/-- A table copied out is the tile's row of the numerators. -/
theorem row_to (f : Buf (Elt F) (toLoc d)) (T : S256.Idx → Elt F .f32) (b : S256.Idx) (j : S32x256.Idx) (h0 : (j 0).val = wL L) (h1 : (j 1).val = (b 0).val) :
    (toRow L).view.writes (Elt F) f [⟨Rect.whole S256, T⟩] j = T b := by
  rw [← row_emb L b j h0 h1]
  exact row_read (toRow L).view f T b

/-- The waits so far, all at the index no handshake uses. -/
theorem owes_weaken (O : CellTallies nD τ sig (HIx 1)) (W W' : Waits sig (HIx 1)) (h : ∀ p ∈ W', p ∈ W ∨ p.2 = none) :
    (owes (thr d L) O W' : sProp 𝕄) ⊢ iprop(∃ W', ⌜∀ p ∈ W', p ∈ W ∨ p.2 = none⌝ ∗ owes (thr d L) O W') := by
  iintro H; iexists _; isplitr
  · ipureintro; exact h
  · iexact H

set_option maxHeartbeats 4000000 in
/-- One tile's run: from what it is handed it ends without fault, hands back its rows with the three finished tables, and leaves its semaphores at zero. -/
theorem tile_body (hpre : PreOK m) (O : CellTallies nD τ sig (HIx 1)) (W : Waits sig (HIx 1)) (hO : ∀ g, O g none = 0) :
    iprop(levAts (K (F := F)).L (K (F := F)).lev ∗ emp ∗ goAt m d (wL L)
        ∗ scopedBufs (thr d L) ∗ scopedSems0 (thr d L) ∗ owes (thr d L) O W)
      ⊢ wp frame (wpE (defs₀ (F := F)) 𝒱₀ (thr d L) none) Set.univ (kern (F := F) L)
          fun _ => iprop(tdAt m hpre d (wL L) ∗ scopedBufs (thr d L) ∗ scopedSems0 (thr d L)
            ∗ ∃ W', ⌜∀ p ∈ W', p ∈ W ∨ p.2 = none⌝ ∗ owes (thr d L) O W') := by
  obtain ⟨RS, hRS⟩ := ownSems0_V (F := F) d L
  obtain ⟨RB, hRB⟩ := ownBufs_V (F := F) d L
  unfold kern goAt
  simp only [cc1_sc_kernel_eq_skeleton]; unfold cc1_sc_kernel_skel
  simp only [k1_part13_eq_skeleton, k1_part14_eq_skeleton, k1_part15_eq_skeleton]; unfold k1_part13_skel k1_part14_skel k1_part15_skel
  rcases Classical.em (wL L = 31) with hw | hw
  · have hc1 : ¬ k1_cond1 L = 1#1 := by rw [cond1_eq, if_pos hw]; decide
    have hc2 : ¬ k1_cond2 L = 1#1 := by rw [cond2_eq, if_pos hw]; decide
    simp only [dif_neg hc1, dif_neg hc2]
    rw [(K (F := F)).scopedBufs_V facts d (cV L) (jV L), SparseCore.Cfg.scopedSems0_V (Val := Elt F) d (cV L) (jV L), hRS, hRB]
    iintro ⟨#Hlv, -, ⟨⟨%s, %t, %hst, Hs, Ht⟩, Hi, ⟨%fmo, Hmo⟩, ⟨%fdo, Hdo⟩, ⟨%fto, Hto⟩⟩,
      ⟨⟨%b0, Hb0⟩, ⟨%b1, Hb1⟩, ⟨%b2, Hb2⟩, ⟨%b3, Hb3⟩, ⟨%b4, Hb4⟩, ⟨%b5, Hb5⟩, HRB⟩,
      ⟨Hm0, Hm1, Hm2, Hm3, Hm4, Hm5, Hm6, HRS⟩, HO⟩
    ihave Hmw := (show levAts (K (F := F)).L (K (F := F)).lev ⊢ Transfers.MayWaits (thr d L) (default : HIx 1) O from
      (K (F := F)).mayWaits_none (thr := thr d L) hO) $$ Hlv
    ihave Hs := (Entails.of_eq (pts_sG (F := F) d L _ _).symm) $$ Hs
    ihave Ht := (Entails.of_eq (pts_tG (F := F) d L _ _).symm) $$ Ht
    ihave Hi := (Entails.of_eq (pts_iG (F := F) d L _ _).symm) $$ Hi
    ihave Hb0 := (Entails.of_eq (show ((thr d L).loc cc1_scratch0 ↦{fullShare} b0 : sProp 𝕄) = sB.view.loc (thr d L) ↦{fullShare} b0 from rfl)) $$ Hb0
    ihave Hb1 := (Entails.of_eq (show ((thr d L).loc cc1_scratch1 ↦{fullShare} b1 : sProp 𝕄) = tB.view.loc (thr d L) ↦{fullShare} b1 from rfl)) $$ Hb1
    ihave Hb2 := (Entails.of_eq (show ((thr d L).loc cc1_scratch2 ↦{fullShare} b2 : sProp 𝕄) = iB.view.loc (thr d L) ↦{fullShare} b2 from rfl)) $$ Hb2
    ihave Hb3 := (Entails.of_eq (show ((thr d L).loc cc1_scratch3 ↦{fullShare} b3 : sProp 𝕄) = mB.view.loc (thr d L) ↦{fullShare} b3 from rfl)) $$ Hb3
    ihave Hb4 := (Entails.of_eq (show ((thr d L).loc cc1_scratch4 ↦{fullShare} b4 : sProp 𝕄) = dB.view.loc (thr d L) ↦{fullShare} b4 from rfl)) $$ Hb4
    ihave Hb5 := (Entails.of_eq (show ((thr d L).loc cc1_scratch5 ↦{fullShare} b5 : sProp 𝕄) = nB.view.loc (thr d L) ↦{fullShare} b5 from rfl)) $$ Hb5
    have hbatch : Transfers.BatchOf (thr d L) (.dma cc1_scratch6.sem) 3 := trivial
    sl_exec
    -- what the fetches landed
    unfold tile_body.sl.dma0 tile_body.sl.dma1 tile_body.sl.dma2
    ihave ⟨%fs, %hfs, Hb0⟩ := (land_s1 d L hw b0 s) $$ Hb0
    ihave ⟨%ft, %hft, Hb1⟩ := (land_t1 d L hw b1 t) $$ Hb1
    ihave ⟨%fi, %hfi, Hb2⟩ := (land_i1 d L hw b2 (m (idLoc d))) $$ Hb2
    ihave ⟨%W1, %hW1, HO⟩ := (owes_weaken d L O W _ (by simp only [Finset.mem_insert]; rintro p (hp | hp | hp | hp) <;> first | exact .inl hp | exact .inr (hp ▸ rfl))) $$ HO
    simp only [Prog.bind_assoc]
    sl_for (inv1 d L) $$ [Hb3 Hb4 Hb5]
    case region =>
      intro k _
      unfold inv1
      exact t1_step d L _ _ k
    · unfold inv1 tablesFilled
      iexists b3; iexists b4; iexists b5
      isplitr
      · ipureintro; exact ⟨fun j hj => absurd hj (by omega), fun j hj => absurd hj (by omega), fun j hj => absurd hj (by omega)⟩
      isplitl [Hb3]; · iexact Hb3
      isplitl [Hb4]; · iexact Hb4
      iexact Hb5
    rw [show Scf.trips k1_t1_loop.lb k1_t1_loop.ub k1_t1_loop.st = 16 from trips1_eq]
    unfold inv1 tablesFilled
    iintro %_ ⟨%fM, %fD, %fT, %hf, Hb3, Hb4, Hb5⟩
    obtain ⟨hM, hD, hT⟩ := hf
    obtain rfl := hM.all
    obtain rfl := hD.all
    obtain rfl := hT.all
    sl_for (inv2 d L s (m (idLoc d)) (hpre d) fs fi) $$ [Hb0 Hb2 Hb3]
    case region =>
      intro k _
      exact t2_step d L s (m (idLoc d)) (hpre d) fs fi _ _ _ hfs hfi _ _ k (by have := k.isLt; have e : Scf.trips (k1_t2_loop L).lb (k1_t2_loop L).ub (k1_t2_loop L).st = tripsOf (wL L) := trips2_eq L; omega)
    · unfold inv2
      isplitl [Hb0]; · iexact Hb0
      isplitl [Hb2]; · iexact Hb2
      iexact Hb3
    rw [show Scf.trips (k1_t2_loop L).lb (k1_t2_loop L).ub (k1_t2_loop L).st = _ from trips2_eq L]
    unfold inv2
    iintro %_ ⟨Hb0, Hb2, Hb3⟩
    sl_exec
    sl_for (inv4 d L s t (m (idLoc d)) (hpre d) fs ft fi) $$ [Hb0 Hb1 Hb2 Hb3 Hb4 Hb5]
    case region =>
      intro k _
      exact t4_step d L s t (m (idLoc d)) (hpre d) fs ft fi _ _ _ _ _ hfs hft hfi _ _ _ k
        (by have := k.isLt; have e : Scf.trips (k1_t4_loop L).lb (k1_t4_loop L).ub (k1_t4_loop L).st = tripsOf (wL L) := trips4_eq L; omega)
    · unfold inv4
      isplitl [Hb0]; · iexact Hb0
      isplitl [Hb1]; · iexact Hb1
      isplitl [Hb2]; · iexact Hb2
      isplitl [Hb3]; · iexact Hb3
      isplitl [Hb4]; · iexact Hb4
      iexact Hb5
    rw [show Scf.trips (k1_t4_loop L).lb (k1_t4_loop L).ub (k1_t4_loop L).st = _ from trips4_eq L]
    unfold inv4
    iintro %_ ⟨Hb0, Hb1, Hb2, Hb3, Hb4, Hb5⟩
    ihave Hmo := (Entails.of_eq (pts_moRow (F := F) d L _).symm) $$ Hmo
    ihave Hdo := (Entails.of_eq (pts_doRow (F := F) d L _).symm) $$ Hdo
    ihave Hto := (Entails.of_eq (pts_toRow (F := F) d L _).symm) $$ Hto
    sl_exec
    unfold tile_body.sl.dma0_1 tile_body.sl.dma0_2 tile_body.sl.dma0_3
    rw [wp_ret]
    imodintro
    unfold tdAt
    isplitl [Hi Hmo Hdo Hto]
    · isplitl [Hi]; · iexact Hi
      iexists (moRow L).view.writes (Elt F) fmo [⟨Rect.whole S256, tileM s (m (idLoc d)) (hpre d) (wL L)⟩]
      iexists (doRow L).view.writes (Elt F) fdo [⟨Rect.whole S256, tileD s (m (idLoc d)) (hpre d) (wL L)⟩]
      iexists (toRow L).view.writes (Elt F) fto [⟨Rect.whole S256, tileT s t (m (idLoc d)) (hpre d) (wL L)⟩]
      isplitr
      · ipureintro
        exact ⟨s, t, hst, fun j b h0 h1 => ⟨row_mo d L fmo _ b j h0 h1, row_do d L fdo _ b j h0 h1, row_to d L fto _ b j h0 h1⟩⟩
      isplitl [Hmo]
      · ihave Hmo := (Entails.of_eq (pts_moRow (F := F) d L _)) $$ Hmo
        iexact Hmo
      isplitl [Hdo]
      · ihave Hdo := (Entails.of_eq (pts_doRow (F := F) d L _)) $$ Hdo
        iexact Hdo
      · ihave Hto := (Entails.of_eq (pts_toRow (F := F) d L _)) $$ Hto
        iexact Hto
    isplitl [Hb0 Hb1 Hb2 Hb3 Hb4 Hb5 HRB]
    · isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      iexact HRB
    isplitl [Hm0 Hm1 Hm2 Hm3 Hm4 Hm5 Hm6 HRS]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      iexact HRS
    iexists _; isplitr; swap
    · iexact HO
    ipureintro
    simp only [Finset.mem_insert]
    rintro p (hp | hp | hp | hp)
    · exact .inr (hp ▸ rfl)
    · exact .inr (hp ▸ rfl)
    · exact .inr (hp ▸ rfl)
    · exact hW1 p hp
  · have hc1 : k1_cond1 L = 1#1 := by rw [cond1_eq, if_neg hw]
    have hc2 : k1_cond2 L = 1#1 := by rw [cond2_eq, if_neg hw]
    simp only [dif_pos hc1, dif_pos hc2]
    rw [(K (F := F)).scopedBufs_V facts d (cV L) (jV L), SparseCore.Cfg.scopedSems0_V (Val := Elt F) d (cV L) (jV L), hRS, hRB]
    iintro ⟨#Hlv, -, ⟨⟨%s, %t, %hst, Hs, Ht⟩, Hi, ⟨%fmo, Hmo⟩, ⟨%fdo, Hdo⟩, ⟨%fto, Hto⟩⟩,
      ⟨⟨%b0, Hb0⟩, ⟨%b1, Hb1⟩, ⟨%b2, Hb2⟩, ⟨%b3, Hb3⟩, ⟨%b4, Hb4⟩, ⟨%b5, Hb5⟩, HRB⟩,
      ⟨Hm0, Hm1, Hm2, Hm3, Hm4, Hm5, Hm6, HRS⟩, HO⟩
    ihave Hmw := (show levAts (K (F := F)).L (K (F := F)).lev ⊢ Transfers.MayWaits (thr d L) (default : HIx 1) O from
      (K (F := F)).mayWaits_none (thr := thr d L) hO) $$ Hlv
    ihave Hs := (Entails.of_eq (pts_sG (F := F) d L _ _).symm) $$ Hs
    ihave Ht := (Entails.of_eq (pts_tG (F := F) d L _ _).symm) $$ Ht
    ihave Hi := (Entails.of_eq (pts_iG (F := F) d L _ _).symm) $$ Hi
    ihave Hb0 := (Entails.of_eq (show ((thr d L).loc cc1_scratch0 ↦{fullShare} b0 : sProp 𝕄) = sB.view.loc (thr d L) ↦{fullShare} b0 from rfl)) $$ Hb0
    ihave Hb1 := (Entails.of_eq (show ((thr d L).loc cc1_scratch1 ↦{fullShare} b1 : sProp 𝕄) = tB.view.loc (thr d L) ↦{fullShare} b1 from rfl)) $$ Hb1
    ihave Hb2 := (Entails.of_eq (show ((thr d L).loc cc1_scratch2 ↦{fullShare} b2 : sProp 𝕄) = iB.view.loc (thr d L) ↦{fullShare} b2 from rfl)) $$ Hb2
    ihave Hb3 := (Entails.of_eq (show ((thr d L).loc cc1_scratch3 ↦{fullShare} b3 : sProp 𝕄) = mB.view.loc (thr d L) ↦{fullShare} b3 from rfl)) $$ Hb3
    ihave Hb4 := (Entails.of_eq (show ((thr d L).loc cc1_scratch4 ↦{fullShare} b4 : sProp 𝕄) = dB.view.loc (thr d L) ↦{fullShare} b4 from rfl)) $$ Hb4
    ihave Hb5 := (Entails.of_eq (show ((thr d L).loc cc1_scratch5 ↦{fullShare} b5 : sProp 𝕄) = nB.view.loc (thr d L) ↦{fullShare} b5 from rfl)) $$ Hb5
    have hbatch : Transfers.BatchOf (thr d L) (.dma cc1_scratch6.sem) 3 := trivial
    ihave ⟨Hs, Hs', Hs''⟩ := (source_s d L hc1 _ s).1 $$ Hs
    ihave ⟨Ht, Ht', Ht''⟩ := (source_t d L hc1 _ t).1 $$ Ht
    ihave ⟨Hi, Hi', Hi''⟩ := (source_i d L hc1 _ (m (idLoc d))).1 $$ Hi
    ihave ⟨Hb0, Hb0'⟩ := (split_s d L b0) $$ Hb0
    ihave ⟨Hb1, Hb1'⟩ := (split_t d L b1) $$ Hb1
    ihave ⟨Hb2, Hb2'⟩ := (split_i d L b2) $$ Hb2
    sl_exec
    -- what the fetches landed
    unfold tile_body.sl.dma0_4 tile_body.sl.dma1_1 tile_body.sl.dma2_1 tile_body.sl.dma0_5 tile_body.sl.dma0_6 tile_body.sl.dma0_7
    irename Hs'' => Hs
    irename Ht'' => Ht
    irename Hi'' => Hi
    ihave ⟨%fs, %hfs, Hb0⟩ := (land_s2 d L hw hc1 b0 s) $$ [Hb0 Hb0']
    · isplitl [Hb0]; · iexact Hb0
      iexact Hb0'
    ihave ⟨%ft, %hft, Hb1⟩ := (land_t2 d L hw hc1 b1 t) $$ [Hb1 Hb1']
    · isplitl [Hb1]; · iexact Hb1
      iexact Hb1'
    ihave ⟨%fi, %hfi, Hb2⟩ := (land_i2 d L hw hc1 b2 (m (idLoc d))) $$ [Hb2 Hb2']
    · isplitl [Hb2]; · iexact Hb2
      iexact Hb2'
    ihave ⟨%W1, %hW1, HO⟩ := (owes_weaken d L O W _ (by simp only [Finset.mem_insert]; rintro p (hp | hp | hp | hp | hp | hp | hp) <;> first | exact .inl hp | exact .inr (hp ▸ rfl))) $$ HO
    simp only [Prog.bind_assoc]
    sl_for (inv1 d L) $$ [Hb3 Hb4 Hb5]
    case region =>
      intro k _
      unfold inv1
      exact t1_step d L _ _ k
    · unfold inv1 tablesFilled
      iexists b3; iexists b4; iexists b5
      isplitr
      · ipureintro; exact ⟨fun j hj => absurd hj (by omega), fun j hj => absurd hj (by omega), fun j hj => absurd hj (by omega)⟩
      isplitl [Hb3]; · iexact Hb3
      isplitl [Hb4]; · iexact Hb4
      iexact Hb5
    rw [show Scf.trips k1_t1_loop.lb k1_t1_loop.ub k1_t1_loop.st = 16 from trips1_eq]
    unfold inv1 tablesFilled
    iintro %_ ⟨%fM, %fD, %fT, %hf, Hb3, Hb4, Hb5⟩
    obtain ⟨hM, hD, hT⟩ := hf
    obtain rfl := hM.all
    obtain rfl := hD.all
    obtain rfl := hT.all
    sl_for (inv2 d L s (m (idLoc d)) (hpre d) fs fi) $$ [Hb0 Hb2 Hb3]
    case region =>
      intro k _
      exact t2_step d L s (m (idLoc d)) (hpre d) fs fi _ _ _ hfs hfi _ _ k (by have := k.isLt; have e : Scf.trips (k1_t2_loop L).lb (k1_t2_loop L).ub (k1_t2_loop L).st = tripsOf (wL L) := trips2_eq L; omega)
    · unfold inv2
      isplitl [Hb0]; · iexact Hb0
      isplitl [Hb2]; · iexact Hb2
      iexact Hb3
    rw [show Scf.trips (k1_t2_loop L).lb (k1_t2_loop L).ub (k1_t2_loop L).st = _ from trips2_eq L]
    unfold inv2
    iintro %_ ⟨Hb0, Hb2, Hb3⟩
    sl_exec
    sl_for (inv4 d L s t (m (idLoc d)) (hpre d) fs ft fi) $$ [Hb0 Hb1 Hb2 Hb3 Hb4 Hb5]
    case region =>
      intro k _
      exact t4_step d L s t (m (idLoc d)) (hpre d) fs ft fi _ _ _ _ _ hfs hft hfi _ _ _ k
        (by have := k.isLt; have e : Scf.trips (k1_t4_loop L).lb (k1_t4_loop L).ub (k1_t4_loop L).st = tripsOf (wL L) := trips4_eq L; omega)
    · unfold inv4
      isplitl [Hb0]; · iexact Hb0
      isplitl [Hb1]; · iexact Hb1
      isplitl [Hb2]; · iexact Hb2
      isplitl [Hb3]; · iexact Hb3
      isplitl [Hb4]; · iexact Hb4
      iexact Hb5
    rw [show Scf.trips (k1_t4_loop L).lb (k1_t4_loop L).ub (k1_t4_loop L).st = _ from trips4_eq L]
    unfold inv4
    iintro %_ ⟨Hb0, Hb1, Hb2, Hb3, Hb4, Hb5⟩
    ihave Hmo := (Entails.of_eq (pts_moRow (F := F) d L _).symm) $$ Hmo
    ihave Hdo := (Entails.of_eq (pts_doRow (F := F) d L _).symm) $$ Hdo
    ihave Hto := (Entails.of_eq (pts_toRow (F := F) d L _).symm) $$ Hto
    sl_exec
    unfold tile_body.sl.dma0_8 tile_body.sl.dma0_9 tile_body.sl.dma0_10
    rw [wp_ret]
    imodintro
    unfold tdAt
    isplitl [Hi Hmo Hdo Hto]
    · isplitl [Hi]; · iexact Hi
      iexists (moRow L).view.writes (Elt F) fmo [⟨Rect.whole S256, tileM s (m (idLoc d)) (hpre d) (wL L)⟩]
      iexists (doRow L).view.writes (Elt F) fdo [⟨Rect.whole S256, tileD s (m (idLoc d)) (hpre d) (wL L)⟩]
      iexists (toRow L).view.writes (Elt F) fto [⟨Rect.whole S256, tileT s t (m (idLoc d)) (hpre d) (wL L)⟩]
      isplitr
      · ipureintro
        exact ⟨s, t, hst, fun j b h0 h1 => ⟨row_mo d L fmo _ b j h0 h1, row_do d L fdo _ b j h0 h1, row_to d L fto _ b j h0 h1⟩⟩
      isplitl [Hmo]
      · ihave Hmo := (Entails.of_eq (pts_moRow (F := F) d L _)) $$ Hmo
        iexact Hmo
      isplitl [Hdo]
      · ihave Hdo := (Entails.of_eq (pts_doRow (F := F) d L _)) $$ Hdo
        iexact Hdo
      · ihave Hto := (Entails.of_eq (pts_toRow (F := F) d L _)) $$ Hto
        iexact Hto
    isplitl [Hb0 Hb1 Hb2 Hb3 Hb4 Hb5 HRB]
    · isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      iexact HRB
    isplitl [Hm0 Hm1 Hm2 Hm3 Hm4 Hm5 Hm6 HRS]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      iexact HRS
    iexists _; isplitr; swap
    · iexact HO
    ipureintro
    simp only [Finset.mem_insert]
    rintro p (hp | hp | hp | hp)
    · exact .inr (hp ▸ rfl)
    · exact .inr (hp ▸ rfl)
    · exact .inr (hp ▸ rfl)
    · exact hW1 p hp

end Cert.Proof.Pool

end
-- ==== Proof.Regions.lean ====
/-
  The two TensorCore calls of the pooling program. The first computes the two per-node columns block by block, its last
  block overhanging the arrays; the second combines the tiles' partial tables into the result. Each call's body is run
  once, and what it leaves in its output arrays is stated as a relation to what it was given.
-/
module

public import proofs.«01_k».proof.Proof.Setup
public import proofs.«01_k».proof.Proof.Gen.KernelIdeal.Skeleton
public import Idealize.ShloMosaic.Lib.Pipeline.ArrRel
public import Idealize.ShloMosaic.Lib.Pipeline.Value
public import Idealize.ShloMosaic.Lib.Pipeline.FrameBody
public import Idealize.ShloMosaic.Lib.Pipeline.Regions

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MM F

/-! ## The bodies, run once -/

omit [FloatOps F] [∀ e, Nonempty (Elt F e)] in
/-- Reading a view after an unmasked write through its own full rectangle reads the payload. -/
theorem read_write_full {κ : Kind} {sp : Space} {s : Shape} {e : EltTy} (v : View sig κ sp s e) {off : Fin s.rank → ℕ}
    (inb : ∀ a, off a + s.size a ≤ s.size a) (f : v.ty.Contents (Elt F)) (w : s.Idx → Elt F e) :
    v.read (Elt F) ((v.slice (Rect.unit off s.size inb)).write (Elt F) f w Finset.univ) = w :=
  (View.readAt_full v _ inb).symm.trans (View.read_write_univ _ _)

/-- The first call's body: from its six buffers at any contents to the four inputs unchanged and the two outputs at the
    two columns computed from them. -/
theorem run_stage1 (c : Dev nD) (i : grid0.Coords)
    (M0 : Memref sig .tc .vmem S16384x128 .f32) (h0 : M0.IsWhole) (M1 : Memref sig .tc .vmem S128x64 .f32) (h1 : M1.IsWhole)
    (M2 : Memref sig .tc .vmem S128x1 .f32) (h2 : M2.IsWhole) (M3 : Memref sig .tc .vmem S128x1 .f32) (h3 : M3.IsWhole)
    (M4 : Memref sig .tc .vmem S16384 .f32) (h4 : M4.IsWhole) (M5 : Memref sig .tc .vmem S16384 .f32) (h5 : M5.IsWhole)
    (X0 : S16384x128.Idx → Elt F .f32) (X1 : S128x64.Idx → Elt F .f32) (X2 X3 : S128x1.Idx → Elt F .f32) (X4 X5 : S16384.Idx → Elt F .f32)
    (Q : PUnit → sProp 𝕄) :
    iprop(owns (T c) M0 fullShare X0 ∗ owns (T c) M1 fullShare X1 ∗ owns (T c) M2 fullShare X2 ∗ owns (T c) M3 fullShare X3
        ∗ owns (T c) M4 fullShare X4 ∗ owns (T c) M5 fullShare X5
        ∗ (iprop(owns (T c) M0 fullShare X0 ∗ owns (T c) M1 fullShare X1 ∗ owns (T c) M2 fullShare X2 ∗ owns (T c) M3 fullShare X3
            ∗ owns (T c) M4 fullShare (k0_pay2 (topHalf X2) (botHalf X2) (topHalf X3) (botHalf X3) X1 X0)
            ∗ owns (T c) M5 fullShare (k0_pay3 (topHalf X2) (botHalf X2) (topHalf X3) (botHalf X3) X1 X0)) -∗ Q ⟨⟩))
      ⊢ wp frame (wpE (defs₀ (F := F)) 𝒱₀ (T c) none) Set.univ (cc0__stage1 i M0 h0 M1 h1 M2 h2 M3 h3 M4 h4 M5 h5) Q := by
  simp only [cc0__stage1_eq_skeleton]; unfold cc0__stage1_skel
  simp only [Prog.lift, Prog.bind_op, Prog.bind_ret]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_steps
  subst hf0 hf1 hf2 hf3
  iapply Hk
  isplitl [H0]
  · iexists f0
    isplitr
    swap
    · iexact H0
    · ipureintro; rfl
  isplitl [H1]
  · iexists f1
    isplitr
    swap
    · iexact H1
    · ipureintro; rfl
  isplitl [H2]
  · iexists f2
    isplitr
    swap
    · iexact H2
    · ipureintro; rfl
  isplitl [H3]
  · iexists f3
    isplitr
    swap
    · iexact H3
    · ipureintro; rfl
  isplitl [H4]
  · iexists _
    isplitr
    swap
    · iexact H4
    ipureintro; rw [read_write_full, View.readAt_full, View.readAt_full]; rfl
  · iexists _
    isplitr
    swap
    · iexact H5
    ipureintro; rw [read_write_full, View.readAt_full, View.readAt_full]; rfl

/-- The result of the combining call from its six operands. -/
def combined (X0 X1 X2 : S32x256.Idx → Elt F .f32) (X3 : S1x64.Idx → Elt F .f32) (X4 : S128x1.Idx → Elt F .f32) (X5 : S1x1.Idx → Elt F .f32) :
    S1x256.Idx → Elt F .f32 :=
  k2_pay1 (k2_pay4 X0 X1 X2) (k2_pay5 X0 X1 (topHalf X4) (botHalf X4) X3) X5

/-- The second call's body: from its seven buffers at any contents to the six inputs unchanged and the output combined from them. -/
theorem run_stage3 (c : Dev nD)
    (M0 : Memref sig .tc .vmem S32x256 .f32) (h0 : M0.IsWhole) (M1 : Memref sig .tc .vmem S32x256 .f32) (h1 : M1.IsWhole)
    (M2 : Memref sig .tc .vmem S32x256 .f32) (h2 : M2.IsWhole) (M3 : Memref sig .tc .vmem S1x64 .f32) (h3 : M3.IsWhole)
    (M4 : Memref sig .tc .vmem S128x1 .f32) (h4 : M4.IsWhole) (M5 : Memref sig .tc .vmem S1x1 .f32) (h5 : M5.IsWhole)
    (M6 : Memref sig .tc .vmem S1x256 .f32) (h6 : M6.IsWhole)
    (X0 X1 X2 : S32x256.Idx → Elt F .f32) (X3 : S1x64.Idx → Elt F .f32) (X4 : S128x1.Idx → Elt F .f32) (X5 : S1x1.Idx → Elt F .f32)
    (X6 : S1x256.Idx → Elt F .f32) (Q : PUnit → sProp 𝕄) :
    iprop(owns (T c) M0 fullShare X0 ∗ owns (T c) M1 fullShare X1 ∗ owns (T c) M2 fullShare X2 ∗ owns (T c) M3 fullShare X3
        ∗ owns (T c) M4 fullShare X4 ∗ owns (T c) M5 fullShare X5 ∗ owns (T c) M6 fullShare X6
        ∗ (iprop(owns (T c) M0 fullShare X0 ∗ owns (T c) M1 fullShare X1 ∗ owns (T c) M2 fullShare X2 ∗ owns (T c) M3 fullShare X3
            ∗ owns (T c) M4 fullShare X4 ∗ owns (T c) M5 fullShare X5
            ∗ owns (T c) M6 fullShare (combined X0 X1 X2 X3 X4 X5)) -∗ Q ⟨⟩))
      ⊢ wp frame (wpE (defs₀ (F := F)) 𝒱₀ (T c) none) Set.univ (cc2__stage3 M0 h0 M1 h1 M2 h2 M3 h3 M4 h4 M5 h5 M6 h6) Q := by
  simp only [cc2__stage3_eq_skeleton]; unfold cc2__stage3_skel
  simp only [k2_part1_eq_skeleton]; unfold k2_part1_skel
  simp only [Prog.lift, Prog.bind_op, Prog.bind_ret, pure_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  sl_steps
  subst hf0 hf1 hf2 hf3 hf4 hf5
  iapply Hk
  isplitl [H0]
  · iexists f0
    isplitr
    swap
    · iexact H0
    · ipureintro; rfl
  isplitl [H1]
  · iexists f1
    isplitr
    swap
    · iexact H1
    · ipureintro; rfl
  isplitl [H2]
  · iexists f2
    isplitr
    swap
    · iexact H2
    · ipureintro; rfl
  isplitl [H3]
  · iexists f3
    isplitr
    swap
    · iexact H3
    · ipureintro; rfl
  isplitl [H4]
  · iexists f4
    isplitr
    swap
    · iexact H4
    · ipureintro; rfl
  isplitl [H5]
  · iexists f5
    isplitr
    swap
    · iexact H5
    · ipureintro; rfl
  · iexists _
    isplitr
    swap
    · iexact H6
    ipureintro; rw [read_write_full]; unfold combined
    rw [View.readAt_full, View.readAt_full, View.readAt_full, View.readAt_full, View.readAt_full]; rfl

/-! ## The proof data -/

variable (m : (ℓ : Loc nD τ sig) → Buf (Elt F) ℓ)

/-- `B` holds block `t` of the rows on the rows inside the array. -/
def IsBlock (d : Dev nD) (t : ℕ) (B : S16384x128.Idx → Elt F .f32) : Prop :=
  ∀ (x : S16384x128.Idx) (j : S100000x128.Idx), (j 0).val = 16384 * t + (x 0).val → (j 1).val = (x 1).val → B x = m (annLoc d) j

/-- The pairs a TensorCore has recorded before its `n`-th SparseCore call. -/
def seen (c : Dev nD) (n : ℕ) : Set (SemLoc sig × HIx 1) := {p | (K (F := F)).lev (T c, p.1) p.2 ≤ 8 * SparseCore.Cfg.Blocks.fst (Q := 1) (N := 1) n}

/-- What the first call runs by, on core `c`. -/
def rd0 (c : Dev nD) : RDat τ (Elt F) (HIx 1) ℕ UU ℕ cfg0 c where
  A w := m ((cfg0.win w).arr.view.loc (T c))
  after w t Y X := match w with
    | ⟨0, _⟩ => X = Y
    | ⟨1, _⟩ => X = Y
    | ⟨2, _⟩ => X = Y
    | ⟨3, _⟩ => X = Y
    | ⟨4, _⟩ => ∃ B, IsBlock m c t.val B ∧ X = k0_pay2 (topHalf (m (wgLoc c))) (botHalf (m (wgLoc c))) (topHalf (m (woLoc c))) (botHalf (m (woLoc c))) (m (wredLoc c)) B
    | ⟨5, _⟩ => ∃ B, IsBlock m c t.val B ∧ X = k0_pay3 (topHalf (m (wgLoc c))) (botHalf (m (wgLoc c))) (topHalf (m (woLoc c))) (botHalf (m (woLoc c))) (m (wredLoc c)) B
  Φ _ := Pipeline.scopedRest spec0 c
  q _ := fullShare
  owed _ := (K (F := F)).Otc c 0
  recorded _ := seen (F := F) c 0

/-- What the second call finds in its arrays. -/
def found (fM fD fT : S32x256.Idx → Elt F .f32) (x3 : S1x64.Idx → Elt F .f32) (x5 : S1x1.Idx → Elt F .f32) (c : Dev nD) :
    (w : Fin cfg2.W) → Buf (Elt F) ((cfg2.win w).arr.view.loc (c.tc (τ := τ)))
  | ⟨0, _⟩ => fM
  | ⟨1, _⟩ => fD
  | ⟨2, _⟩ => fT
  | ⟨3, _⟩ => x3
  | ⟨4, _⟩ => m (woLoc c)
  | ⟨5, _⟩ => x5
  | ⟨6, _⟩ => m ((SparseCore.T c).loc main_v4)

/-- What the second call runs by, on core `c`, its arrays found at `A`. -/
def rd1 (fM fD fT : S32x256.Idx → Elt F .f32) (x3 : S1x64.Idx → Elt F .f32) (x5 : S1x1.Idx → Elt F .f32) (c : Dev nD) :
    RDat τ (Elt F) (HIx 1) ℕ UU ℕ cfg2 c where
  A := found m fM fD fT x3 x5 c
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = combined fM fD fT x3 (m (woLoc c)) x5
  Φ _ := Pipeline.scopedRest spec2 c
  q _ := fullShare
  owed _ := (K (F := F)).Otc c 1
  recorded _ := seen (F := F) c 1

/-- Both calls' data. -/
def rdats (fM fD fT : S32x256.Idx → Elt F .f32) (x3 : S1x64.Idx → Elt F .f32) (x5 : S1x1.Idx → Elt F .f32) :
    (p : Fin 2) → (c : Dev nD) → RDat τ (Elt F) (HIx 1) ℕ UU ℕ (cfgs p) c
  | ⟨0, _⟩ => fun c => rd0 m c
  | ⟨1, _⟩ => fun c => rd1 m fM fD fT x3 x5 c

/-! ## What the bodies find -/

/-- Where the first call's blocks lie: block `t` of the rows. -/
theorem index0_0 (t : Fin cfg0.N) : win0_0.index t 0 = t.val ∧ win0_0.index t 1 = 0 := by
  rcases fin_N0 t with rfl | rfl | rfl | rfl | rfl | rfl | rfl <;> decide +kernel
/-- How much of block `t` lies inside the array: all but for the last. -/
theorem xsize0_0 (t : Fin cfg0.N) : (win0_0.xsize (grid0.coords t) 0 = if t.val = 6 then 1696 else 16384) ∧ win0_0.xsize (grid0.coords t) 1 = 128 := by
  rcases fin_N0 t with rfl | rfl | rfl | rfl | rfl | rfl | rfl <;> decide +kernel

/-- An index into the first call's block of rows, as one into its part inside the array. -/
def inside0 (t : Fin cfg0.N) (x : S16384x128.Idx) (h : 16384 * t.val + (x 0).val < 100000) : (win0_0.xblock (grid0.coords t)).Idx :=
  fun a => match a with
    | ⟨0, _⟩ => ⟨(x 0).val, by
        have h0 : (x 0).val < 16384 := (x 0).isLt
        have ht : t.val < 7 := t.isLt
        change _ < win0_0.xsize (grid0.coords t) 0
        rw [(xsize0_0 t).1]; split <;> omega⟩
    | ⟨1, _⟩ => ⟨(x 1).val, by change _ < win0_0.xsize (grid0.coords t) 1; rw [(xsize0_0 t).2]; exact (x 1).isLt⟩

/-- What the first call's body finds in the rows' buffer: block `t` on the rows inside the array. -/
theorem found0_0 (c : Dev nD) (t : Fin cfg0.N) (Y : (cfg0.win 0).block.Idx → Elt F (cfg0.win 0).elt) (hY : (rd0 m c).Finds 0 t Y) : IsBlock m c t.val Y := by
  obtain ⟨d, rfl⟩ := RDat.finds_in_eq_fetched (rd0 m c) 0 rfl
    (fun t t' h => by
      have h' := congrFun h (0 : Fin 2)
      have e : t = t' := Fin.ext ((index0_0 t).1.symm.trans (h'.trans (index0_0 t').1))
      rw [e]) (fun _ _ _ h => h) t Y hY
  intro x j hj0 hj1
  have hlt : 16384 * t.val + (x 0).val < 100000 := hj0 ▸ (j 0).isLt
  have hx : (cfg0.win 0).xinj (grid0.coords t) (inside0 t x hlt) = x := by
    funext a; match a with | ⟨0, _⟩ => rfl | ⟨1, _⟩ => rfl
  rw [← hx]
  refine ((cfg0.win 0).fill_xinj _ _ _ _).trans ?_
  change m (annLoc c) ((win0_0.rect t).emb (inside0 t x hlt)) = _
  refine congrArg _ (funext fun a => Fin.ext ?_)
  match a with
  | ⟨0, _⟩ => rw [Pipeline.Window.rect_emb_val win0_0 t]; change win0_0.index t 0 * 16384 + (x 0).val = (j 0).val; rw [(index0_0 t).1]; omega
  | ⟨1, _⟩ => rw [Pipeline.Window.rect_emb_val win0_0 t]; change win0_0.index t 1 * 128 + (x 1).val = (j 1).val; rw [(index0_0 t).2]; omega

omit [FloatOps F] [∀ e, Nonempty (Elt F e)] in
/-- A window whose block is its whole array is fetched as the array is. -/
theorem fetched_whole {Λ : Labels} {cfg : Pipeline.Cfg sig Λ} {c : Dev nD} (rd : RDat τ (Elt F) (HIx 1) ℕ UU ℕ cfg c) (w : Fin cfg.W) (t : Fin cfg.N)
    (d : (cfg.win w).block.Idx → Elt F (cfg.win w).elt)
    (hi : ∀ a, (cfg.win w).index t a = 0) (hx : ∀ a, (cfg.win w).xsize (cfg.grid.coords t) a = (cfg.win w).size a)
    (j : (cfg.win w).block.Idx) (j' : (cfg.win w).shape.Idx) (hv : ∀ a, (j' a).val = (j a).val) :
    rd.fetched w t d j = _root_.cast (congrArg (Elt F) (cfg.win w).arr.view.elt_eq) (rd.A w ((cfg.win w).arr.view.emb j')) := by
  have hy : (cfg.win w).xinj (cfg.grid.coords t) (fun a => ⟨(j a).val, lt_of_lt_of_eq (j a).isLt (hx a).symm⟩) = j := funext fun a => Fin.ext rfl
  rw [← hy]
  refine ((cfg.win w).fill_xinj _ _ _ _).trans ?_
  unfold RDat.blockOf
  rw [View.read_apply]
  refine congrArg (fun i => _root_.cast _ (rd.A w i)) ?_
  refine congrArg (cfg.win w).arr.view.emb (funext fun a => Fin.ext ?_)
  rw [hv a]
  exact Pipeline.Window.rect_emb_val_of_index_zero _ t a (hi a) _

/-- The three parameter blocks of the first call are the arrays themselves. -/
theorem found0_1 (c : Dev nD) (t : Fin cfg0.N) (Y : (cfg0.win 1).block.Idx → Elt F (cfg0.win 1).elt) (hY : (rd0 m c).Finds 1 t Y) : Y = m (wredLoc c) := by
  obtain ⟨d, rfl⟩ := RDat.finds_in_eq_fetched (rd0 m c) 1 rfl (fun _ _ _ => rfl) (fun _ _ _ h => h) t Y hY
  funext j
  exact fetched_whole (rd0 m c) 1 t d (by intro a; rcases fin_N0 t with rfl | rfl | rfl | rfl | rfl | rfl | rfl <;> revert a <;> decide +kernel)
    (by intro a; rfl) j j (fun _ => rfl)
/-- The first call's third window always finds the gate's weights. -/
theorem found0_2 (c : Dev nD) (t : Fin cfg0.N) (Y : (cfg0.win 2).block.Idx → Elt F (cfg0.win 2).elt) (hY : (rd0 m c).Finds 2 t Y) : Y = m (wgLoc c) := by
  obtain ⟨d, rfl⟩ := RDat.finds_in_eq_fetched (rd0 m c) 2 rfl (fun _ _ _ => rfl) (fun _ _ _ h => h) t Y hY
  funext j
  exact fetched_whole (rd0 m c) 2 t d (by intro a; rcases fin_N0 t with rfl | rfl | rfl | rfl | rfl | rfl | rfl <;> revert a <;> decide +kernel)
    (by intro a; rfl) j j (fun _ => rfl)
/-- The first call's fourth window always finds the output's weights. -/
theorem found0_3 (c : Dev nD) (t : Fin cfg0.N) (Y : (cfg0.win 3).block.Idx → Elt F (cfg0.win 3).elt) (hY : (rd0 m c).Finds 3 t Y) : Y = m (woLoc c) := by
  obtain ⟨d, rfl⟩ := RDat.finds_in_eq_fetched (rd0 m c) 3 rfl (fun _ _ _ => rfl) (fun _ _ _ h => h) t Y hY
  funext j
  exact fetched_whole (rd0 m c) 3 t d (by intro a; rcases fin_N0 t with rfl | rfl | rfl | rfl | rfl | rfl | rfl <;> revert a <;> decide +kernel)
    (by intro a; rfl) j j (fun _ => rfl)

section
variable (fM fD fT : S32x256.Idx → Elt F .f32) (x3 : S1x64.Idx → Elt F .f32) (x5 : S1x1.Idx → Elt F .f32)
/-- The six operands of the second call are found as the arrays hold them. -/
theorem found2_0 (c : Dev nD) (t : Fin cfg2.N) (Y : (cfg2.win 0).block.Idx → Elt F (cfg2.win 0).elt) (hY : (rd1 m fM fD fT x3 x5 c).Finds 0 t Y) : Y = fM := by
  obtain ⟨d, rfl⟩ := RDat.finds_in_eq_fetched (rd1 m fM fD fT x3 x5 c) 0 rfl (fun _ _ _ => rfl) (fun _ _ _ h => h) t Y hY
  funext j
  exact fetched_whole (rd1 m fM fD fT x3 x5 c) 0 t d (fun _ => rfl) (by intro a; rfl) j j (fun _ => rfl)
/-- The last call's second window finds the denominators. -/
theorem found2_1 (c : Dev nD) (t : Fin cfg2.N) (Y : (cfg2.win 1).block.Idx → Elt F (cfg2.win 1).elt) (hY : (rd1 m fM fD fT x3 x5 c).Finds 1 t Y) : Y = fD := by
  obtain ⟨d, rfl⟩ := RDat.finds_in_eq_fetched (rd1 m fM fD fT x3 x5 c) 1 rfl (fun _ _ _ => rfl) (fun _ _ _ h => h) t Y hY
  funext j
  exact fetched_whole (rd1 m fM fD fT x3 x5 c) 1 t d (fun _ => rfl) (by intro a; rfl) j j (fun _ => rfl)
/-- The last call's third window finds the numerators. -/
theorem found2_2 (c : Dev nD) (t : Fin cfg2.N) (Y : (cfg2.win 2).block.Idx → Elt F (cfg2.win 2).elt) (hY : (rd1 m fM fD fT x3 x5 c).Finds 2 t Y) : Y = fT := by
  obtain ⟨d, rfl⟩ := RDat.finds_in_eq_fetched (rd1 m fM fD fT x3 x5 c) 2 rfl (fun _ _ _ => rfl) (fun _ _ _ h => h) t Y hY
  funext j
  exact fetched_whole (rd1 m fM fD fT x3 x5 c) 2 t d (fun _ => rfl) (by intro a; rfl) j j (fun _ => rfl)
/-- The last call's fourth window finds the reduction's bias. -/
theorem found2_3 (c : Dev nD) (t : Fin cfg2.N) (Y : (cfg2.win 3).block.Idx → Elt F (cfg2.win 3).elt) (hY : (rd1 m fM fD fT x3 x5 c).Finds 3 t Y) : Y = x3 := by
  obtain ⟨d, rfl⟩ := RDat.finds_in_eq_fetched (rd1 m fM fD fT x3 x5 c) 3 rfl (fun _ _ _ => rfl) (fun _ _ _ h => h) t Y hY
  funext j
  exact fetched_whole (rd1 m fM fD fT x3 x5 c) 3 t d (fun _ => rfl) (by intro a; rfl) j j (fun _ => rfl)
/-- The last call's fifth window finds the output's weights. -/
theorem found2_4 (c : Dev nD) (t : Fin cfg2.N) (Y : (cfg2.win 4).block.Idx → Elt F (cfg2.win 4).elt) (hY : (rd1 m fM fD fT x3 x5 c).Finds 4 t Y) : Y = m (woLoc c) := by
  obtain ⟨d, rfl⟩ := RDat.finds_in_eq_fetched (rd1 m fM fD fT x3 x5 c) 4 rfl (fun _ _ _ => rfl) (fun _ _ _ h => h) t Y hY
  funext j
  exact fetched_whole (rd1 m fM fD fT x3 x5 c) 4 t d (fun _ => rfl) (by intro a; rfl) j j (fun _ => rfl)
/-- The last call's sixth window finds the output's bias. -/
theorem found2_5 (c : Dev nD) (t : Fin cfg2.N) (Y : (cfg2.win 5).block.Idx → Elt F (cfg2.win 5).elt) (hY : (rd1 m fM fD fT x3 x5 c).Finds 5 t Y) : Y = x5 := by
  obtain ⟨d, rfl⟩ := RDat.finds_in_eq_fetched (rd1 m fM fD fT x3 x5 c) 5 rfl (fun _ _ _ => rfl) (fun _ _ _ h => h) t Y hY
  funext j
  exact fetched_whole (rd1 m fM fD fT x3 x5 c) 5 t d (fun _ => rfl) (by intro a; rfl) j j (fun _ => rfl)
end

/-! ## The obligations -/

/-- The first call's body at every grid point. -/
theorem body0 (c : Dev nD) : (rd0 m c).BodyObligation (defs₀ (F := F)) 𝒱₀ none Set.univ := fun t Y hY => by
  rw [bigSep_W0, bigSep_W0]
  have h0 := found0_0 m c t (Y 0) (hY 0)
  have h1 := found0_1 m c t (Y 1) (hY 1)
  have h2 := found0_2 m c t (Y 2) (hY 2)
  have h3 := found0_3 m c t (Y 3) (hY 3)
  rw [show (rd0 m c).Φ t.succ = (rd0 m c).Φ t.castSucc from rfl,
    show (rd0 m c).owesAt none t.succ = (rd0 m c).owesAt none t.castSucc from rfl]
  iintro ⟨HΦ, Ho, H0, H1, H2, H3, H4, H5⟩
  iapply (run_stage1 (F := F) c (grid0.coords t) (win0_0.stage (cfg0.slots t 0)) (hstage0_0 _) (win0_1.stage (cfg0.slots t 1)) (hstage0_1 _)
    (win0_2.stage (cfg0.slots t 2)) (hstage0_2 _) (win0_3.stage (cfg0.slots t 3)) (hstage0_3 _) (win0_4.stage (cfg0.slots t 4)) (hstage0_4 _)
    (win0_5.stage (cfg0.slots t 5)) (hstage0_5 _) (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]
  · iexists _
    isplitr
    swap
    · iexact H0
    · ipureintro; rfl
  isplitl [H1]
  · iexists _
    isplitr
    swap
    · iexact H1
    · ipureintro; rfl
  isplitl [H2]
  · iexists _
    isplitr
    swap
    · iexact H2
    · ipureintro; rfl
  isplitl [H3]
  · iexists _
    isplitr
    swap
    · iexact H3
    · ipureintro; rfl
  isplitl [H4]
  · iexists _
    isplitr
    swap
    · iexact H4
    · ipureintro; exact ⟨Y 0, h0, by rw [h1, h2, h3]⟩
  · iexists _
    isplitr
    swap
    · iexact H5
    · ipureintro; exact ⟨Y 0, h0, by rw [h1, h2, h3]⟩

/-- The second call's body at its one grid point. -/
theorem body1 (fM fD fT : S32x256.Idx → Elt F .f32) (x3 : S1x64.Idx → Elt F .f32) (x5 : S1x1.Idx → Elt F .f32) (c : Dev nD) :
    (rd1 m fM fD fT x3 x5 c).BodyObligation (defs₀ (F := F)) 𝒱₀ none Set.univ := fun t Y hY => by
  rw [bigSep_W2, bigSep_W2]
  have h0 := found2_0 m fM fD fT x3 x5 c t (Y 0) (hY 0)
  have h1 := found2_1 m fM fD fT x3 x5 c t (Y 1) (hY 1)
  have h2 := found2_2 m fM fD fT x3 x5 c t (Y 2) (hY 2)
  have h3 := found2_3 m fM fD fT x3 x5 c t (Y 3) (hY 3)
  have h4 := found2_4 m fM fD fT x3 x5 c t (Y 4) (hY 4)
  have h5 := found2_5 m fM fD fT x3 x5 c t (Y 5) (hY 5)
  rw [show (rd1 m fM fD fT x3 x5 c).Φ t.succ = (rd1 m fM fD fT x3 x5 c).Φ t.castSucc from rfl,
    show (rd1 m fM fD fT x3 x5 c).owesAt none t.succ = (rd1 m fM fD fT x3 x5 c).owesAt none t.castSucc from rfl]
  iintro ⟨HΦ, Ho, H0, H1, H2, H3, H4, H5, H6⟩
  iapply (run_stage3 (F := F) c (win2_0.stage (cfg2.slots t 0)) (hstage2_0 0) (win2_1.stage (cfg2.slots t 1)) (hstage2_1 0)
    (win2_2.stage (cfg2.slots t 2)) (hstage2_2 0) (win2_3.stage (cfg2.slots t 3)) (hstage2_3 0) (win2_4.stage (cfg2.slots t 4)) (hstage2_4 0)
    (win2_5.stage (cfg2.slots t 5)) (hstage2_5 0) (win2_6.stage (cfg2.slots t 6)) (hstage2_6 0) (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]
  · iexists _
    isplitr
    swap
    · iexact H0
    · ipureintro; rfl
  isplitl [H1]
  · iexists _
    isplitr
    swap
    · iexact H1
    · ipureintro; rfl
  isplitl [H2]
  · iexists _
    isplitr
    swap
    · iexact H2
    · ipureintro; rfl
  isplitl [H3]
  · iexists _
    isplitr
    swap
    · iexact H3
    · ipureintro; rfl
  isplitl [H4]
  · iexists _
    isplitr
    swap
    · iexact H4
    · ipureintro; rfl
  isplitl [H5]
  · iexists _
    isplitr
    swap
    · iexact H5
    · ipureintro; rfl
  · iexists _
    isplitr
    swap
    · iexact H6
    · ipureintro; change _ = combined _ _ _ _ _ _; rw [h0, h1, h2, h3, h4, h5]

/-! ## What the outputs hold -/

/-- Where the first call's two output blocks lie, and that every point writes them back. -/
theorem index0_4 (t : Fin cfg0.N) : win0_4.index t 0 = t.val := by
  rcases fin_N0 t with rfl | rfl | rfl | rfl | rfl | rfl | rfl <;> decide +kernel
/-- A block of the scores has 16384 words inside the array, the last one 1696. -/
theorem xsize0_4 (t : Fin cfg0.N) : win0_4.xsize (grid0.coords t) 0 = if t.val = 6 then 1696 else 16384 := by
  rcases fin_N0 t with rfl | rfl | rfl | rfl | rfl | rfl | rfl <;> decide +kernel
/-- Every block of the scores is written back. -/
theorem flush0_4 (t : Fin cfg0.N) : (cfg0.win 4).flush t = true := by
  rcases fin_N0 t with rfl | rfl | rfl | rfl | rfl | rfl | rfl <;> decide +kernel
/-- Point `t` writes block `t` of the weights. -/
theorem index0_5 (t : Fin cfg0.N) : win0_5.index t 0 = t.val := by
  rcases fin_N0 t with rfl | rfl | rfl | rfl | rfl | rfl | rfl <;> decide +kernel
/-- A block of the weights has 16384 words inside the array, the last one 1696. -/
theorem xsize0_5 (t : Fin cfg0.N) : win0_5.xsize (grid0.coords t) 0 = if t.val = 6 then 1696 else 16384 := by
  rcases fin_N0 t with rfl | rfl | rfl | rfl | rfl | rfl | rfl <;> decide +kernel
/-- Every block of the weights is written back. -/
theorem flush0_5 (t : Fin cfg0.N) : (cfg0.win 5).flush t = true := by
  rcases fin_N0 t with rfl | rfl | rfl | rfl | rfl | rfl | rfl <;> decide +kernel

/-- An index of the first column lies in block `t` only if it is among the block's rows. -/
theorem mem_blk4 (t : Fin cfg0.N) (i : S100000.Idx) (h : i ∈ (win0_4.blk t).view.set) : t.val * 16384 ≤ (i 0).val ∧ (i 0).val < t.val * 16384 + 16384 := by
  change i ∈ ((View.whole main_v0_0).slice (win0_4.rect t)).set at h
  rw [View.set_slice_whole, Rect.mem_set_unit] at h
  have h0 : win0_4.index t 0 * 16384 ≤ (i 0).val ∧ (i 0).val < win0_4.index t 0 * 16384 + win0_4.xsize (grid0.coords t) 0 := h 0
  rw [index0_4, xsize0_4] at h0
  refine ⟨h0.1, h0.2.trans_le ?_⟩
  split <;> omega
/-- The same of the second column. -/
theorem mem_blk5 (t : Fin cfg0.N) (i : S100000.Idx) (h : i ∈ (win0_5.blk t).view.set) : t.val * 16384 ≤ (i 0).val ∧ (i 0).val < t.val * 16384 + 16384 := by
  change i ∈ ((View.whole main_v0_1).slice (win0_5.rect t)).set at h
  rw [View.set_slice_whole, Rect.mem_set_unit] at h
  have h0 : win0_5.index t 0 * 16384 ≤ (i 0).val ∧ (i 0).val < win0_5.index t 0 * 16384 + win0_5.xsize (grid0.coords t) 0 := h 0
  rw [index0_5, xsize0_5] at h0
  refine ⟨h0.1, h0.2.trans_le ?_⟩
  split <;> omega

/-- After the first call the first column holds, block by block, what the body computed. -/
theorem out0_4 (c : Dev nD) (G : S100000.Idx → Elt F .f32) (hG : (rd0 m c).ArrAt 4 cfg0.N G) (blk : Fin 7) :
    ∃ B, IsBlock m c blk.val B ∧ ∀ (x : S16384.Idx) (j : S100000.Idx), (j 0).val = 16384 * blk.val + (x 0).val →
      G j = k0_pay2 (topHalf (m (wgLoc c))) (botHalf (m (wgLoc c))) (topHalf (m (woLoc c))) (botHalf (m (woLoc c))) (m (wredLoc c)) B x := by
  obtain ⟨X, hX, hA⟩ := hG.exists_exact
  have e := hA (Function.update (fun _ _ _ => Classical.arbitrary _) 4 X) fun u _ _ => by rw [Function.update_self]
  let t : Fin cfg0.N := blk
  obtain ⟨-, -, B, hB, hXB⟩ := hX t t.isLt (flush0_4 t)
  refine ⟨B, hB, fun x j hj => ?_⟩
  have hlt : (x 0).val < win0_4.xsize (grid0.coords t) 0 := by
    have h1 : (j 0).val < 100000 := (j 0).isLt
    have h2 : (x 0).val < 16384 := (x 0).isLt
    have h3 : t.val = blk.val := rfl
    rw [xsize0_4]; split <;> omega
  have hd := Pipeline.Dat.arrAt_emb_eq_flushed ((rd0 m c).withAfter (Function.update (fun _ _ _ => Classical.arbitrary _) 4 X)) 4
    (fun t t' _ _ hne => Finset.disjoint_left.mpr fun i hi hi' => hne (Fin.ext (by
      have h1 := mem_blk4 t i hi; have h2 := mem_blk4 t' i hi'; omega))) t (flush0_4 t)
    (fun a => match a with | ⟨0, _⟩ => ⟨(x 0).val, hlt⟩)
  rw [← e] at hd
  refine Eq.trans (congrArg G ?_) (hd.trans ?_)
  · refine funext fun a => Fin.ext ?_
    match a with
    | ⟨0, _⟩ =>
      refine hj.trans (Eq.trans ?_ (Pipeline.Window.rect_emb_val win0_4 t _ 0).symm)
      change _ = win0_4.index t 0 * 16384 + (x 0).val
      rw [index0_4]; change 16384 * t.val + _ = _; omega
  · change (Function.update (fun _ _ _ => Classical.arbitrary _) 4 X : (w' : Fin cfg0.W) → Fin cfg0.N → (cfg0.win w').block.Idx → Elt F (cfg0.win w').elt) 4 t _ = _
    rw [Function.update_self, hXB]
    refine congrArg _ (funext fun a => ?_)
    match a with | ⟨0, _⟩ => rfl

/-- And so does the second column. -/
theorem out0_5 (c : Dev nD) (G : S100000.Idx → Elt F .f32) (hG : (rd0 m c).ArrAt 5 cfg0.N G) (blk : Fin 7) :
    ∃ B, IsBlock m c blk.val B ∧ ∀ (x : S16384.Idx) (j : S100000.Idx), (j 0).val = 16384 * blk.val + (x 0).val →
      G j = k0_pay3 (topHalf (m (wgLoc c))) (botHalf (m (wgLoc c))) (topHalf (m (woLoc c))) (botHalf (m (woLoc c))) (m (wredLoc c)) B x := by
  obtain ⟨X, hX, hA⟩ := hG.exists_exact
  have e := hA (Function.update (fun _ _ _ => Classical.arbitrary _) 5 X) fun u _ _ => by rw [Function.update_self]
  let t : Fin cfg0.N := blk
  obtain ⟨-, -, B, hB, hXB⟩ := hX t t.isLt (flush0_5 t)
  refine ⟨B, hB, fun x j hj => ?_⟩
  have hlt : (x 0).val < win0_5.xsize (grid0.coords t) 0 := by
    have h1 : (j 0).val < 100000 := (j 0).isLt
    have h2 : (x 0).val < 16384 := (x 0).isLt
    have h3 : t.val = blk.val := rfl
    rw [xsize0_5]; split <;> omega
  have hd := Pipeline.Dat.arrAt_emb_eq_flushed ((rd0 m c).withAfter (Function.update (fun _ _ _ => Classical.arbitrary _) 5 X)) 5
    (fun t t' _ _ hne => Finset.disjoint_left.mpr fun i hi hi' => hne (Fin.ext (by
      have h1 := mem_blk5 t i hi; have h2 := mem_blk5 t' i hi'; omega))) t (flush0_5 t)
    (fun a => match a with | ⟨0, _⟩ => ⟨(x 0).val, hlt⟩)
  rw [← e] at hd
  refine Eq.trans (congrArg G ?_) (hd.trans ?_)
  · refine funext fun a => Fin.ext ?_
    match a with
    | ⟨0, _⟩ =>
      refine hj.trans (Eq.trans ?_ (Pipeline.Window.rect_emb_val win0_5 t _ 0).symm)
      change _ = win0_5.index t 0 * 16384 + (x 0).val
      rw [index0_5]; change 16384 * t.val + _ = _; omega
  · change (Function.update (fun _ _ _ => Classical.arbitrary _) 5 X : (w' : Fin cfg0.W) → Fin cfg0.N → (cfg0.win w').block.Idx → Elt F (cfg0.win w').elt) 5 t _ = _
    rw [Function.update_self, hXB]
    refine congrArg _ (funext fun a => ?_)
    match a with | ⟨0, _⟩ => rfl

/-- So the two columns are the first call's, by definition. -/
theorem isStage1_of (c : Dev nD) (s t : S100000.Idx → Elt F .f32) (hs : (rd0 m c).ArrAt 4 cfg0.N s) (ht : (rd0 m c).ArrAt 5 cfg0.N t) : IsStage1 m c s t :=
  fun blk => ⟨out0_4 m c s hs blk, out0_5 m c t ht blk⟩

/-- After the second call its output is the combination. -/
theorem out2_6 (fM fD fT : S32x256.Idx → Elt F .f32) (x3 : S1x64.Idx → Elt F .f32) (x5 : S1x1.Idx → Elt F .f32) (c : Dev nD)
    (G : S1x256.Idx → Elt F .f32) (hG : (rd1 m fM fD fT x3 x5 c).ArrAt 6 cfg2.N G) : G = combined fM fD fT x3 (m (woLoc c)) x5 := by
  obtain ⟨X, ⟨_, _, hX⟩, hj⟩ := RDat.ArrAt.emb_eq_of_wholeAt hG (t₀ := t2_0) (by decide +kernel)
  funext j
  refine (hj j).trans ?_
  exact congrFun hX j

/-! ## The regions -/

/-- Neither call has prefetched tables. -/
abbrev adm (p : Fin 2) : (pcfgs (F := F) p).Adm := (cfgs p).toPCfg_adm

/-- No semaphore is the bodies' own. -/
theorem noSem (p : Fin 2) : Pipeline.OwnSemFacts (pcfgs (F := F) p).spec (fun k : Fin 0 => (k.elim0 : SemLoc sig)) :=
  ⟨fun k => k.elim0, fun k => k.elim0, fun k => k.elim0⟩

/-- What a TensorCore owes before its `n`-th SparseCore call, its recorded pairs bounded. -/
def due (c : Dev nD) (n : ℕ) : sProp 𝕄 :=
  iprop(∃ W, ⌜(K (F := F)).WBelow (SparseCore.T c) W (8 * SparseCore.Cfg.Blocks.fst (Q := 1) (N := 1) n)⌝ ∗ owes (SparseCore.T c) ((K (F := F)).Otc c n) W)

omit [FloatOps F] [∀ e, Nonempty (Elt F e)] in
/-- Nothing is owed at the transfers' own index. -/
theorem otc_none (c : Dev nD) (n : ℕ) (g) : (K (F := F)).Otc c n g none = 0 := by
  by_contra h
  have := SparseCore.Cfg.lev_of_Otc_pos (K := K (F := F)) (Nat.pos_of_ne_zero h)
  rw [SparseCore.Cfg.lev_none] at this
  omega

section
variable (fM fD fT : S32x256.Idx → Elt F .f32) (x3 : S1x64.Idx → Elt F .f32) (x5 : S1x1.Idx → Elt F .f32)

/-- The arrays of the first call, one by one. -/
theorem arrays0_eq (c : Dev nD) (G : (w : Fin cfg0.W) → Buf (Elt F) ((cfg0.win w).arr.view.loc (SparseCore.T c : Thread nD τ))) :
    (rd0 m c).arrays G = iprop((annLoc c ↦{fullShare} G 0) ∗ (wredLoc c ↦{fullShare} G 1) ∗ (wgLoc c ↦{fullShare} G 2) ∗ (woLoc c ↦{fullShare} G 3)
      ∗ (sLoc c ↦{fullShare} G 4) ∗ (tLoc c ↦{fullShare} G 5)) := by
  unfold RDat.arrays; rw [bigSep_W0]; simp only [View.set_whole]; rfl

/-- The arrays of the second call, one by one. -/
theorem arrays1_eq (c : Dev nD) (G : (w : Fin cfg2.W) → Buf (Elt F) ((cfg2.win w).arr.view.loc (SparseCore.T c : Thread nD τ))) :
    (rd1 m fM fD fT x3 x5 c).arrays G = iprop((moLoc c ↦{fullShare} G 0) ∗ (doLoc c ↦{fullShare} G 1) ∗ (toLoc c ↦{fullShare} G 2)
      ∗ ((SparseCore.T c : Thread nD τ).loc main_v2 ↦{fullShare} G 3) ∗ (woLoc c ↦{fullShare} G 4) ∗ ((SparseCore.T c : Thread nD τ).loc main_v3 ↦{fullShare} G 5)
      ∗ ((SparseCore.T c : Thread nD τ).loc main_v4 ↦{fullShare} G 6)) := by
  unfold RDat.arrays; rw [bigSep_W2]; simp only [View.set_whole]; rfl

/-- The arrays of the first call after it, one by one. -/
theorem arraysAt0_eq (c : Dev nD) (n : ℕ) :
    (rd0 m c).arraysAt n = iprop((∃ G, ⌜(rd0 m c).ArrAt 0 n G⌝ ∗ annLoc c ↦{fullShare} G) ∗ (∃ G, ⌜(rd0 m c).ArrAt 1 n G⌝ ∗ wredLoc c ↦{fullShare} G)
      ∗ (∃ G, ⌜(rd0 m c).ArrAt 2 n G⌝ ∗ wgLoc c ↦{fullShare} G) ∗ (∃ G, ⌜(rd0 m c).ArrAt 3 n G⌝ ∗ woLoc c ↦{fullShare} G)
      ∗ (∃ G, ⌜(rd0 m c).ArrAt 4 n G⌝ ∗ sLoc c ↦{fullShare} G) ∗ (∃ G, ⌜(rd0 m c).ArrAt 5 n G⌝ ∗ tLoc c ↦{fullShare} G)) := by
  unfold RDat.arraysAt; rw [bigSep_W0]; simp only [View.set_whole]; rfl

/-- The arrays of the second call after it, one by one. -/
theorem arraysAt1_eq (c : Dev nD) (n : ℕ) :
    (rd1 m fM fD fT x3 x5 c).arraysAt n = iprop((∃ G, ⌜(rd1 m fM fD fT x3 x5 c).ArrAt 0 n G⌝ ∗ moLoc c ↦{fullShare} G)
      ∗ (∃ G, ⌜(rd1 m fM fD fT x3 x5 c).ArrAt 1 n G⌝ ∗ doLoc c ↦{fullShare} G) ∗ (∃ G, ⌜(rd1 m fM fD fT x3 x5 c).ArrAt 2 n G⌝ ∗ toLoc c ↦{fullShare} G)
      ∗ (∃ G, ⌜(rd1 m fM fD fT x3 x5 c).ArrAt 3 n G⌝ ∗ (SparseCore.T c : Thread nD τ).loc main_v2 ↦{fullShare} G)
      ∗ (∃ G, ⌜(rd1 m fM fD fT x3 x5 c).ArrAt 4 n G⌝ ∗ woLoc c ↦{fullShare} G)
      ∗ (∃ G, ⌜(rd1 m fM fD fT x3 x5 c).ArrAt 5 n G⌝ ∗ (SparseCore.T c : Thread nD τ).loc main_v3 ↦{fullShare} G)
      ∗ (∃ G, ⌜(rd1 m fM fD fT x3 x5 c).ArrAt 6 n G⌝ ∗ (SparseCore.T c : Thread nD τ).loc main_v4 ↦{fullShare} G)) := by
  unfold RDat.arraysAt; rw [bigSep_W2]; simp only [View.set_whole]; rfl

set_option backward.isDefEq.respectTransparency.types false in
/-- The first call as a step of the program: the two columns come out of the launch contents. -/
def reg0 : Pipeline.RDat.RegionSeg (pcfgs (F := F)) adm (rdats m fM fD fT x3 x5) none defs₀ 𝒱₀ (K (F := F)).L (K (F := F)).lev 0 where
  win := launch0.win.to₀
  block_pos := launch0.block_pos
  stage_whole := launch0.stage_whole
  K := Fin 0
  osem := fun k => k.elim0
  ho := noSem 0
  hbody c := body0 m c
  hwaits c := Pipeline.RDat.cellsWaits_intro _ _ none 0 c fun _ _ _ => (K (F := F)).mayWait_none _ (otc_none c 0)
  pre c := iprop((annLoc c ↦{fullShare} m (annLoc c)) ∗ (wredLoc c ↦{fullShare} m (wredLoc c)) ∗ (wgLoc c ↦{fullShare} m (wgLoc c))
    ∗ (woLoc c ↦{fullShare} m (woLoc c)) ∗ (sLoc c ↦{fullShare} m (sLoc c)) ∗ (tLoc c ↦{fullShare} m (tLoc c)) ∗ due (F := F) c 0)
  post c := iprop((annLoc c ↦{fullShare} m (annLoc c)) ∗ (wredLoc c ↦{fullShare} m (wredLoc c)) ∗ (wgLoc c ↦{fullShare} m (wgLoc c))
    ∗ (woLoc c ↦{fullShare} m (woLoc c)) ∗ (∃ s t, ⌜IsStage1 m c s t⌝ ∗ (sLoc c ↦{fullShare} s) ∗ (tLoc c ↦{fullShare} t)) ∗ due (F := F) c 0)
  X _ := iprop(emp)
  Y _ := iprop(emp)
  Z _ := iprop(emp)
  hentry c := by
    change _ ⊢ |={Set.univ}=> iprop((rd0 m c).arrays (rd0 m c).A ∗ _ ∗ (rd0 m c).owesAt none 0 ∗ _)
    rw [arrays0_eq]
    iintro ⟨⟨H0, H1, H2, H3, H4, H5, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold due RDat.owesAt Pipeline.owesWithin
      icases HO with ⟨%W, %hW, HO⟩
      iexists W
      isplitr
      · ipureintro; exact fun p hp => Or.inl (hW p hp)
      iexact HO
    isplitr <;> iempintro
  hin c := by
    change _ ⊢ Pipeline.scopedRest spec0 c
    iintro ⟨-, -, H⟩; iexact H
  hout c := by
    change Pipeline.scopedRest spec0 c ⊢ _
    iintro H
    isplitr; · iempintro
    isplitr; · unfold Pipeline.ownSems0; rw [show (Finset.univ : Finset (Fin 0)) = ∅ from rfl, BI.bigSep_empty]; iempintro
    iexact H
  hexit c := by
    change iprop((rd0 m c).arraysAt cfg0.N ∗ (rd0 m c).owesAt none (Fin.last _) ∗ _) ⊢ _
    rw [arraysAt0_eq]
    iintro ⟨⟨⟨%G0, %h0, H0⟩, ⟨%G1, %h1, H1⟩, ⟨%G2, %h2, H2⟩, ⟨%G3, %h3, H3⟩, ⟨%G4, %h4, H4⟩, ⟨%G5, %h5, H5⟩⟩, HO, -, -⟩
    imodintro
    have e0 : G0 = m (annLoc c) := by rw [RDat.ArrAt_in (rd0 m c) 0 rfl] at h0; exact h0
    have e1 : G1 = m (wredLoc c) := by rw [RDat.ArrAt_in (rd0 m c) 1 rfl] at h1; exact h1
    have e2 : G2 = m (wgLoc c) := by rw [RDat.ArrAt_in (rd0 m c) 2 rfl] at h2; exact h2
    have e3 : G3 = m (woLoc c) := by rw [RDat.ArrAt_in (rd0 m c) 3 rfl] at h3; exact h3
    subst e0 e1 e2 e3
    isplitl [H0]; · iexact H0
    isplitl [H1]; · iexact H1
    isplitl [H2]; · iexact H2
    isplitl [H3]; · iexact H3
    isplitl [H4 H5]
    · iexists G4, G5
      isplitr; · ipureintro; exact isStage1_of m c G4 G5 h4 h5
      isplitl [H4]; · iexact H4
      iexact H5
    unfold due RDat.owesAt Pipeline.owesWithin
    icases HO with ⟨%W, %hW, HO⟩
    iexists W
    isplitr
    · ipureintro; intro p hp
      rcases hW hp with h | ⟨w, sl, rfl⟩
      · exact h
      · exact Nat.zero_le _
    iexact HO

set_option backward.isDefEq.respectTransparency.types false in
/-- The second call as a step of the program: the combination comes out of what its operands hold. -/
def reg1 : Pipeline.RDat.RegionSeg (pcfgs (F := F)) adm (rdats m fM fD fT x3 x5) none defs₀ 𝒱₀ (K (F := F)).L (K (F := F)).lev 1 where
  win := launch2.win.to₀
  block_pos := launch2.block_pos
  stage_whole := launch2.stage_whole
  K := Fin 0
  osem := fun k => k.elim0
  ho := noSem 1
  hbody c := body1 m fM fD fT x3 x5 c
  hwaits c := Pipeline.RDat.cellsWaits_intro _ _ none 1 c fun _ _ _ => (K (F := F)).mayWait_none _ (otc_none c 1)
  pre c := iprop((moLoc c ↦{fullShare} fM) ∗ (doLoc c ↦{fullShare} fD) ∗ (toLoc c ↦{fullShare} fT)
    ∗ ((SparseCore.T c : Thread nD τ).loc main_v2 ↦{fullShare} x3) ∗ (woLoc c ↦{fullShare} m (woLoc c))
    ∗ ((SparseCore.T c : Thread nD τ).loc main_v3 ↦{fullShare} x5) ∗ ((SparseCore.T c : Thread nD τ).loc main_v4 ↦{fullShare} m ((SparseCore.T c : Thread nD τ).loc main_v4))
    ∗ due (F := F) c 1)
  post c := iprop((woLoc c ↦{fullShare} m (woLoc c))
    ∗ ((SparseCore.T c : Thread nD τ).loc main_v4 ↦{fullShare} combined fM fD fT x3 (m (woLoc c)) x5) ∗ due (F := F) c 1)
  X _ := iprop(emp)
  Y _ := iprop(emp)
  Z _ := iprop(emp)
  hentry c := by
    change _ ⊢ |={Set.univ}=> iprop((rd1 m fM fD fT x3 x5 c).arrays (rd1 m fM fD fT x3 x5 c).A ∗ _ ∗ (rd1 m fM fD fT x3 x5 c).owesAt none 0 ∗ _)
    rw [arrays1_eq]
    iintro ⟨⟨H0, H1, H2, H3, H4, H5, H6, HO⟩, -, -⟩
    imodintro
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitr; · unfold Pipeline.prefHeld; rw [show (Finset.univ : Finset (Fin 0)) = ∅ from rfl, BI.bigSep_empty]; iempintro
    isplitl [HO]
    · unfold due RDat.owesAt Pipeline.owesWithin
      icases HO with ⟨%W, %hW, HO⟩
      iexists W
      isplitr
      · ipureintro; exact fun p hp => Or.inl (hW p hp)
      iexact HO
    isplitr <;> iempintro
  hin c := by
    change _ ⊢ Pipeline.scopedRest spec2 c
    iintro ⟨-, -, H⟩; iexact H
  hout c := by
    change Pipeline.scopedRest spec2 c ⊢ _
    iintro H
    isplitr; · iempintro
    isplitr; · unfold Pipeline.ownSems0; rw [show (Finset.univ : Finset (Fin 0)) = ∅ from rfl, BI.bigSep_empty]; iempintro
    iexact H
  hexit c := by
    change iprop((rd1 m fM fD fT x3 x5 c).arraysAt cfg2.N ∗ (rd1 m fM fD fT x3 x5 c).owesAt none (Fin.last _) ∗ _) ⊢ _
    rw [arraysAt1_eq]
    iintro ⟨⟨-, -, -, -, ⟨%G4, %h4, H4⟩, -, ⟨%G6, %h6, H6⟩⟩, HO, -, -⟩
    imodintro
    have e4 : G4 = m (woLoc c) := by rw [RDat.ArrAt_in (rd1 m fM fD fT x3 x5 c) 4 rfl] at h4; exact h4
    have e6 := out2_6 m fM fD fT x3 x5 c G6 h6
    subst e4 e6
    isplitl [H4]; · iexact H4
    isplitl [H6]; · iexact H6
    unfold due RDat.owesAt Pipeline.owesWithin
    icases HO with ⟨%W, %hW, HO⟩
    iexists W
    isplitr
    · ipureintro; intro p hp
      rcases hW hp with h | ⟨w, sl, rfl⟩
      · exact h
      · exact Nat.zero_le _
    iexact HO

end

end Cert.Proof.Pool

end
-- ==== Proof.Run.lean ====
/-
  The pooling program's run: the 32 tiles' shares of the arrays cut out of them before the SparseCore call and the rows
  put together after it, the two TensorCore calls around it, and the program's run from the launch to its end.
-/
module

public import proofs.«01_k».proof.Proof.Tile
public import proofs.«01_k».proof.Proof.Regions

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

variable (m : (ℓ : Loc nD τ sig) → Buf (Elt F) ℓ) (ρ : Dev nD → PrngReg)

/-! ## The tiles' obligation -/

/-- A grid point from its two coordinates. -/
def coordsV (c : Fin (grid1.bound 0)) (s : Fin (grid1.bound 1)) : grid1.Coords :=
  fun | 0 => c | 1 => s | ⟨_ + 2, h⟩ => absurd h (Nat.not_lt.2 (Nat.le_add_left _ _))

omit [∀ e, Nonempty (Elt F e)] in
/-- What a vector subcore runs for the call. -/
theorem defs₀_vector (c : Fin τ.nSC) (s : Fin τ.nSub) :
    defs₀ (F := F) (.scVector c s) 1 ()
      = SparseCore.onTile hcore1 hsub1 (fun c s => kern (F := F) (coordsV c s)) ⟨⟩ c s := rfl

omit [FloatOps F] [∀ e, Nonempty (Elt F e)] in
/-- A tile waits at no pair of a call, so at none but its own call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile, sent its part, sends back its tables. -/
theorem tileObl (hpre : PreOK m) : (K (F := F)).TileObl (D (F := F)) 𝒱 (P m hpre) v₀ 0 := by
  intro d c i O W hO _ _
  simp only [show (P m hpre).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hpre O W hO).trans (wp_mono frame _ _ fun _ => obl_post)

/-! ## The ghost state at the launch -/

omit [FloatOps F] [∀ e, Nonempty (Elt F e)] in
/-- Nothing, any number of times, is nothing. -/
theorem bigSep_none {I : Type} (s : Finset I) : (bigSep s fun _ => iprop(emp)) = (iprop(emp) : sProp 𝕄) := bigSep_emp_const s

/-- The rounds of the handshakes and of the staging cells, no transfer counted. -/
def u₀ : UU := (initOf (K (F := F)).hsCells (K (F := F)).hsToks,
  (initOf (Pipeline.cells cfgs cellOf_inj) (Pipeline.launchToks cfgs cellOf_inj), 1))

/-- The staging cells' ghost state and tokens on a device, by call. -/
def ghosts (d : Dev nD) : sProp 𝕄 :=
  iprop((bigSep Finset.univ fun p : Fin 2 => Pipeline.cellsGhost cfgs EP p d) ∗ bigSep Finset.univ fun p : Fin 2 => Pipeline.toksInit cfgs EP p d)

omit [∀ e, Nonempty (Elt F e)] in
/-- The launch element funds the handshakes and the staging cells. -/
theorem hu₀ (hpre : PreOK m) : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P m hpre).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H2 := (own_pair_emb embR (initOf (Pipeline.cells cfgs cellOf_inj) (Pipeline.launchToks cfgs cellOf_inj) : UP) (1 : Counters)) $$ HR
  icases H2 with ⟨HP, -⟩
  ihave HG := (show _ ⊢ _ from Pipeline.fund_ghost (nD := nD) (τ := τ) cfgs (EP (F := F)) cellOf_inj) $$ [HP]
  · iexact HP
  imod HG
  icases HG with ⟨HC, HT⟩
  imodintro
  isplitl [HH]; · iexact HH
  isplitl [HC HT]
  · unfold ghosts; rw [bigSep_sep']
    isplitl [HC]; · iexact HC
    iexact HT
  rw [show (bigSep Finset.univ fun thr : Thread nD τ => bigSep Finset.univ fun q : Fin 1 => (P (F := F) m hpre).x q thr) = bigSep Finset.univ fun _ => iprop(emp) from
    bigSep_congr fun _ _ => bigSep_univ_of_subsingleton (0 : Fin 1), bigSep_none]
  iempintro

/-! ## The shares and the rows -/

omit [FloatOps F] [∀ e, Nonempty (Elt F e)] in
/-- The 32 tiles, by SparseCore and subcore or by number. -/
theorem tiles_eq (Φ : ℕ → sProp 𝕄) :
    (bigSep Finset.univ fun c : Fin 2 => bigSep Finset.univ fun i : Fin 16 => Φ (wid c i)) = bigSep (Finset.range 32) Φ := by
  rw [← bigSep_univ_prod (fun p : Fin 2 × Fin 16 => Φ (wid p.1 p.2)),
    show Finset.range 32 = (Finset.univ : Finset (Fin 2 × Fin 16)).image (fun p => wid p.1 p.2) by decide]
  refine (bigSep_image_of_injOn (f := fun p : Fin 2 × Fin 16 => wid p.1 p.2) ?_ Φ).symm
  rintro ⟨a, b⟩ - ⟨c, d⟩ - h
  have h : 2 * b.val + a.val = 2 * d.val + c.val := h
  ext <;> simp <;> omega

/-- The rows are apart, -/
theorem rows_disjoint : ∀ t ∈ Finset.range 32, ∀ t' ∈ Finset.range 32, t ≠ t' → Disjoint (rowSet t) (rowSet t') := by
  intro t _ t' _ hne
  rw [Finset.disjoint_left]
  intro j hj hj'
  exact hne ((mem_rowSet.mp hj).symm.trans (mem_rowSet.mp hj'))
/-- and are all of the array. -/
theorem rows_univ : (Finset.range 32).biUnion rowSet = Finset.univ := by
  ext j
  simp only [Finset.mem_biUnion, Finset.mem_range, mem_rowSet, Finset.mem_univ, iff_true]
  exact ⟨(j 0).val, (j 0).isLt, rfl⟩

omit [FloatOps F] [∀ e, Nonempty (Elt F e)] in
/-- An array of partial results splits into its rows. -/
theorem rows_split (ℓ : Loc nD τ sig) (R : ℕ → Finset (Idx ℓ)) (hd : ∀ t ∈ Finset.range 32, ∀ t' ∈ Finset.range 32, t ≠ t' → Disjoint (R t) (R t'))
    (hu : (Finset.range 32).biUnion R = Finset.univ) (f : Buf (Elt F) ℓ) :
    (ℓ ↦{fullShare} f : sProp 𝕄) ⊢ bigSep (Finset.range 32) fun w => iprop(∃ f, ℓ ↦[R w]{fullShare} f) := by
  rw [← hu, pointsTo_biUnion _ _ hd]
  exact BI.bigSep_mono fun w _ => show (ℓ ↦[R w]{fullShare} f : sProp 𝕄) ⊢ iprop(∃ f, ℓ ↦[R w]{fullShare} f) from by iintro H; iexists f; iexact H

omit [∀ e, Nonempty (Elt F e)] in
/-- The arrays, cut into what the 32 tiles are sent; a share of the ids is left. -/
theorem deal (d : Dev nD) (s : Buf (Elt F) (sLoc d)) (t : Buf (Elt F) (tLoc d)) (h : IsStage1 m d s t)
    (fM : Buf (Elt F) (moLoc d)) (fD : Buf (Elt F) (doLoc d)) (fT : Buf (Elt F) (toLoc d)) :
    iprop((sLoc d ↦{fullShare} s) ∗ (tLoc d ↦{fullShare} t) ∗ (idLoc d ↦{fullShare} m (idLoc d))
        ∗ (moLoc d ↦{fullShare} fM) ∗ (doLoc d ↦{fullShare} fD) ∗ (toLoc d ↦{fullShare} fT))
      ⊢ iprop((bigSep (Finset.range 32) fun w => goAt m d w) ∗ (idLoc d ↦{Transfers.shareDrop fullShare 32} m (idLoc d)) : sProp 𝕄) := by
  have hall : iprop((bigSep (Finset.range 32) fun w => sLoc d ↦{tok w} s) ∗ (bigSep (Finset.range 32) fun w => tLoc d ↦{tok w} t)
        ∗ (bigSep (Finset.range 32) fun w => idLoc d ↦{tok w} m (idLoc d)) ∗ (bigSep (Finset.range 32) fun w => iprop(∃ f, moLoc d ↦[rowSet w]{fullShare} f))
        ∗ (bigSep (Finset.range 32) fun w => iprop(∃ f, doLoc d ↦[rowSet w]{fullShare} f)) ∗ (bigSep (Finset.range 32) fun w => iprop(∃ f, toLoc d ↦[rowSet w]{fullShare} f)))
        ⊢ (bigSep (Finset.range 32) fun w => goAt m d w : sProp 𝕄) := by
    simp only [← bigSep_sep']
    refine BI.bigSep_mono fun w _ => ?_
    show iprop((sLoc d ↦{tok w} s) ∗ (tLoc d ↦{tok w} t) ∗ (idLoc d ↦{tok w} m (idLoc d)) ∗ (∃ f, moLoc d ↦[rowSet w]{fullShare} f)
      ∗ (∃ f, doLoc d ↦[rowSet w]{fullShare} f) ∗ (∃ f, toLoc d ↦[rowSet w]{fullShare} f)) ⊢ goAt m d w
    unfold goAt
    iintro ⟨Hs, Ht, Hi, HM, HD, HT⟩
    isplitl [Hs Ht]
    · iexists s; iexists t
      isplitr; · ipureintro; exact h
      isplitl [Hs]; · iexact Hs
      iexact Ht
    isplitl [Hi]; · iexact Hi
    isplitl [HM]; · iexact HM
    isplitl [HD]; · iexact HD
    iexact HT
  iintro ⟨Hs, Ht, Hi, HM, HD, HT⟩
  ihave ⟨-, Hs⟩ := (Transfers.pointsTo_toks_range (ℓ := sLoc d) (S := Finset.univ) (f := s) fullShare 32).1 $$ Hs
  ihave ⟨-, Ht⟩ := (Transfers.pointsTo_toks_range (ℓ := tLoc d) (S := Finset.univ) (f := t) fullShare 32).1 $$ Ht
  ihave ⟨Hk, Hi⟩ := (Transfers.pointsTo_toks_range (ℓ := idLoc d) (S := Finset.univ) (f := m (idLoc d)) fullShare 32).1 $$ Hi
  ihave HM := (rows_split (moLoc d) rowSet rows_disjoint rows_univ fM) $$ HM
  ihave HD := (rows_split (doLoc d) rowSet rows_disjoint rows_univ fD) $$ HD
  ihave HT := (rows_split (toLoc d) rowSet rows_disjoint rows_univ fT) $$ HT
  isplitr [Hk]
  · iapply hall
    isplitl [Hs]; · iexact Hs
    isplitl [Ht]; · iexact Ht
    isplitl [Hi]; · iexact Hi
    isplitl [HM]; · iexact HM
    isplitl [HD]; · iexact HD
    iexact HT
  · iexact Hk

omit [∀ e, Nonempty (Elt F e)] in
/-- What a row holds depends on that row alone. -/
theorem IsRow.congr {m : (ℓ : Loc nD τ sig) → Buf (Elt F) ℓ} {hpre : PreOK m} {d : Dev nD} {w : ℕ} {fM fD fT gM gD gT : S32x256.Idx → Elt F .f32}
    (h : IsRow m hpre d w fM fD fT) (hM : ∀ i ∈ rowSet w, gM i = fM i) (hD : ∀ i ∈ rowSet w, gD i = fD i) (hT : ∀ i ∈ rowSet w, gT i = fT i) :
    IsRow m hpre d w gM gD gT := by
  obtain ⟨s, t, hs, h⟩ := h
  refine ⟨s, t, hs, fun j b hj hb => ?_⟩
  have hw := mem_rowSet.mpr hj
  rw [hM j hw, hD j hw, hT j hw]
  exact h j b hj hb

/-- The rows the 32 tiles send back make up the three arrays. -/
theorem collect (hpre : PreOK m) (d : Dev nD) :
    (bigSep (Finset.range 32) fun w => tdAt m hpre d w : sProp 𝕄)
      ⊢ iprop(∃ (fM : Buf (Elt F) (moLoc d)) (fD : Buf (Elt F) (doLoc d)) (fT : Buf (Elt F) (toLoc d)), ⌜∀ w < 32, IsRow m hpre d w fM fD fT⌝
        ∗ (moLoc d ↦{fullShare} fM) ∗ (doLoc d ↦{fullShare} fD) ∗ (toLoc d ↦{fullShare} fT)) := by
  unfold tdAt
  rw [bigSep_sep']
  iintro ⟨-, H⟩
  ihave ⟨%gM, H⟩ := (bigSep_exists_pi (Y := fun _ => Buf (Elt F) (moLoc d)) (Finset.range 32) _) $$ H
  ihave ⟨%gD, H⟩ := (bigSep_exists_pi (Y := fun _ => Buf (Elt F) (doLoc d)) (Finset.range 32) _) $$ H
  ihave ⟨%gT, H⟩ := (bigSep_exists_pi (Y := fun _ => Buf (Elt F) (toLoc d)) (Finset.range 32) _) $$ H
  ihave ⟨%hrow, H⟩ := (bigSep_pure_sep (Finset.range 32) _ _) $$ H
  ihave H := (Entails.of_eq (bigSep_sep' (Finset.range 32) (fun w => (moLoc d ↦[rowSet w]{fullShare} gM w : sProp 𝕄)) _)) $$ H
  icases H with ⟨HM, H⟩
  ihave H := (Entails.of_eq (bigSep_sep' (Finset.range 32) (fun w => (doLoc d ↦[rowSet w]{fullShare} gD w : sProp 𝕄)) _)) $$ H
  icases H with ⟨HD, HT⟩
  ihave ⟨%fM, %hM, HM⟩ := (pointsTo_biUnion_join (ℓ := moLoc d) (q := fullShare) (Finset.range 32) rowSet gM (gM 0) rows_disjoint) $$ HM
  ihave ⟨%fD, %hD, HD⟩ := (pointsTo_biUnion_join (ℓ := doLoc d) (q := fullShare) (Finset.range 32) rowSet gD (gD 0) rows_disjoint) $$ HD
  ihave ⟨%fT, %hT, HT⟩ := (pointsTo_biUnion_join (ℓ := toLoc d) (q := fullShare) (Finset.range 32) rowSet gT (gT 0) rows_disjoint) $$ HT
  iexists fM; iexists fD; iexists fT
  isplitr
  · ipureintro
    intro w hw
    have hw' := Finset.mem_range.mpr hw
    exact (hrow w hw').congr (hM w hw') (hD w hw') (hT w hw')
  rw [rows_univ]
  isplitl [HM]; · iexact HM
  isplitl [HD]; · iexact HD
  iexact HT

omit [∀ e, Nonempty (Elt F e)] in
/-- What the SparseCores are sent is what the tiles are sent, -/
theorem st0_eq (hpre : PreOK m) (d : Dev nD) :
    (bigSep Finset.univ fun c : Fin ((K (F := F)).nCore 0) => (P m hpre).st 0 d c) = bigSep (Finset.range 32) fun w => goAt m d w :=
  tiles_eq fun w => goAt m d w
omit [∀ e, Nonempty (Elt F e)] in
/-- and what they send back what the tiles do. -/
theorem dn0_eq (hpre : PreOK m) (d : Dev nD) :
    (bigSep Finset.univ fun c : Fin ((K (F := F)).nCore 0) => (P m hpre).dn 0 d c) = bigSep (Finset.range 32) fun w => tdAt m hpre d w :=
  tiles_eq fun w => tdAt m hpre d w

/-! ## @main on the TensorCore -/

set_option backward.isDefEq.respectTransparency.types false in
/-- The first TensorCore call, at its place in @main. -/
theorem wp_region0 (fM fD fT : S32x256.Idx → Elt F .f32) (x3 : S1x64.Idx → Elt F .f32) (x5 : S1x1.Idx → Elt F .f32) (d : Dev nD) (Q : PUnit → sProp 𝕄) :
    iprop((iprop(boundary (SparseCore.T d) ∗ (reg0 m fM fD fT x3 x5).post d) -∗ Q ⟨⟩)
        ∗ boundary (SparseCore.T d) ∗ (reg0 m fM fD fT x3 x5).pre d ∗ levAts (K (F := F)).L (K (F := F)).lev
        ∗ Pipeline.cellsGhost cfgs EP 0 d ∗ Pipeline.toksInit cfgs EP 0 d)
      ⊢ wp frame (wpE ((K (F := F)).defs (D (F := F))) 𝒱 (SparseCore.T d) none) Set.univ
          (Prog.lift (.customCall (SparseCore.inner (Pipeline.entry 0)) ())) Q := by
  have h := (Pipeline.RDat.RegionSeg.wp (pcfgs (F := F)) adm (rdats m fM fD fT x3 x5) none cellOf_inj EP defs₀ 𝒱₀ (K (F := F)).L (K (F := F)).lev
    (reg0 m fM fD fT x3 x5) d none (fun u hu => nomatch hu) (fun u => .ret u) Q).trans
    ((K (F := F)).wp_liftProg (D (F := F)) 𝒱 (SparseCore.T d) Set.univ none _ Q)
  refine BI.Entails.trans ?_ h
  show (_ : sProp 𝕄) ⊢ _
  iintro ⟨H, Hb, Hp, Hl, Hc, Ht⟩
  isplitl [H]
  · iintro Hb
    rw [wp_ret]
    imodintro
    iapply H
    iexact Hb
  isplitl [Hb]; · iexact Hb
  isplitl [Hp]; · iexact Hp
  isplitl [Hl]; · iexact Hl
  isplitl [Hc]; · iexact Hc
  iexact Ht

set_option backward.isDefEq.respectTransparency.types false in
/-- The second TensorCore call, at its place in @main. -/
theorem wp_region1 (fM fD fT : S32x256.Idx → Elt F .f32) (x3 : S1x64.Idx → Elt F .f32) (x5 : S1x1.Idx → Elt F .f32) (d : Dev nD) (Q : PUnit → sProp 𝕄) :
    iprop((iprop(boundary (SparseCore.T d) ∗ (reg1 m fM fD fT x3 x5).post d) -∗ Q ⟨⟩)
        ∗ boundary (SparseCore.T d) ∗ (reg1 m fM fD fT x3 x5).pre d ∗ levAts (K (F := F)).L (K (F := F)).lev
        ∗ Pipeline.cellsGhost cfgs EP 1 d ∗ Pipeline.toksInit cfgs EP 1 d)
      ⊢ wp frame (wpE ((K (F := F)).defs (D (F := F))) 𝒱 (SparseCore.T d) none) Set.univ
          (Prog.lift (.customCall (SparseCore.inner (Pipeline.entry 1)) ())) Q := by
  have h := (Pipeline.RDat.RegionSeg.wp (pcfgs (F := F)) adm (rdats m fM fD fT x3 x5) none cellOf_inj EP defs₀ 𝒱₀ (K (F := F)).L (K (F := F)).lev
    (reg1 m fM fD fT x3 x5) d none (fun u hu => nomatch hu) (fun u => .ret u) Q).trans
    ((K (F := F)).wp_liftProg (D (F := F)) 𝒱 (SparseCore.T d) Set.univ none _ Q)
  refine BI.Entails.trans ?_ h
  show (_ : sProp 𝕄) ⊢ _
  iintro ⟨H, Hb, Hp, Hl, Hc, Ht⟩
  isplitl [H]
  · iintro Hb
    rw [wp_ret]
    imodintro
    iapply H
    iexact Hb
  isplitl [Hb]; · iexact Hb
  isplitl [Hp]; · iexact Hp
  isplitl [Hl]; · iexact Hl
  isplitl [Hc]; · iexact Hc
  iexact Ht

omit [∀ e, Nonempty (Elt F e)] in
/-- A reshape, run between the calls: its operand unchanged, its result the operand's elements in their order. -/
theorem wp_reshape {x y : Ref sig .tc} (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false) (hne : x ≠ y)
    (d : Dev nD) (fx : x.ty.Contents (Elt F)) (fy : y.ty.Contents (Elt F)) (Q : PUnit → sProp 𝕄) :
    iprop(boundary (SparseCore.T d) ∗ ((SparseCore.T d : Thread nD τ).loc x ↦{fullShare} fx) ∗ ((SparseCore.T d : Thread nD τ).loc y ↦{fullShare} fy)
        ∗ ((boundary (SparseCore.T d) ∗ ((SparseCore.T d : Thread nD τ).loc x ↦{fullShare} fx)
            ∗ ((SparseCore.T d : Thread nD τ).loc y ↦{fullShare} (fun i => he ▸ shapeCast y.ty.shape fx hn i : y.ty.Contents (Elt F)))) -∗ Q ⟨⟩))
      ⊢ wp frame (wpE ((K (F := F)).defs (D (F := F))) 𝒱 (SparseCore.T d) none) Set.univ
          (hlo rfl (StableHlo.reshape x y he hn hx hy) (fun _ => .ret ⟨⟩)) Q := by
  have hd : (Proc.devRef .tc x : DevRef τ sig) ≠ Proc.devRef .tc y := StableHlo.devRef_ne_of_ne hne
  let V : Valuation τ sig (Elt F) := Function.update (Function.update (fun b => Classical.arbitrary _) (Proc.devRef .tc x) fx) (Proc.devRef .tc y) fy
  have hVx : V (Proc.devRef .tc x) = fx := by simp only [V]; rw [Function.update_of_ne hd, Function.update_self]
  have hVy : V (Proc.devRef .tc y) = fy := by simp only [V]; rw [Function.update_self]
  iintro ⟨Hb, Hx, Hy, Hk⟩
  iapply (wp_hlo 𝒱 (SparseCore.T d) none Set.univ (op := StableHlo.reshape x y he hn hx hy) (q := fun _ => fullShare) (F := V) (fun _ _ => rfl)) $$ [Hb Hx Hy]
  · isplitl [Hb]; · iexact Hb
    rw [StableHlo.reshape_bufs, SparseCore.bigSep_insert' (by simpa using hd), bigSep_singleton, hVx, hVy]
    isplitl [Hx]; · iexact Hx
    iexact Hy
  rw [StableHlo.reshape_bufs, SparseCore.bigSep_insert' (by simpa using hd), bigSep_singleton, StableHlo.reshape_result,
    StableHlo.reshape_result_ne (h := hne), hVx, wp_ret]
  iintro ⟨Hb, Hx, Hy⟩
  imodintro
  iapply Hk
  isplitl [Hb]; · iexact Hb
  isplitl [Hx]; · iexact Hx
  iexact Hy

omit [FloatOps F] [∀ e, Nonempty (Elt F e)] in
/-- The TensorCore's arrays, one by one. -/
theorem unscopedBufs_eq (d : Dev nD) (W : (b : Ref sig .tc) → Buf (Elt F) ((d.tc : Thread nD τ).loc b)) :
    (unscopedBufs d W : sProp 𝕄) = iprop((annLoc d ↦{fullShare} W main_arg0) ∗ (idLoc d ↦{fullShare} W main_arg1) ∗ (wredLoc d ↦{fullShare} W main_arg2)
      ∗ (bredLoc d ↦{fullShare} W main_arg3) ∗ (wgLoc d ↦{fullShare} W main_arg4) ∗ (bgLoc d ↦{fullShare} W main_arg5) ∗ (woLoc d ↦{fullShare} W main_arg6)
      ∗ (boLoc d ↦{fullShare} W main_arg7) ∗ (sLoc d ↦{fullShare} W main_v0_0) ∗ (tLoc d ↦{fullShare} W main_v0_1) ∗ (moLoc d ↦{fullShare} W main_v1_0)
      ∗ (doLoc d ↦{fullShare} W main_v1_1) ∗ (toLoc d ↦{fullShare} W main_v1_2) ∗ ((SparseCore.T d : Thread nD τ).loc main_v2 ↦{fullShare} W main_v2)
      ∗ ((SparseCore.T d : Thread nD τ).loc main_v3 ↦{fullShare} W main_v3) ∗ ((SparseCore.T d : Thread nD τ).loc main_v4 ↦{fullShare} W main_v4)
      ∗ ((SparseCore.T d : Thread nD τ).loc main_v5 ↦{fullShare} W main_v5)) := by
  unfold unscopedBufs
  exact bigSep_eq_bigSepL_of_eq [main_arg0, main_arg1, main_arg2, main_arg3, main_arg4, main_arg5, main_arg6, main_arg7,
      main_v0_0, main_v0_1, main_v1_0, main_v1_1, main_v1_2, main_v2, main_v3, main_v4, main_v5] (by decide) (by decide) _

/-- The output read off the combined row. -/
def outOf (d : Dev nD) (fM fD fT : S32x256.Idx → Elt F .f32) : S256.Idx → Elt F .f32 :=
  shapeCast S256 (combined fM fD fT (shapeCast S1x64 (m (bredLoc d)) shapeCasts_S64_S1x64) (m (woLoc d)) (shapeCast S1x1 (m (boLoc d)) shapeCasts_S1_S1x1)) shapeCasts_S1x256_S256

/-- `o` is what the tiles' tables of the launch contents combine to. -/
def IsOut (hpre : PreOK m) (d : Dev nD) (o : S256.Idx → Elt F .f32) : Prop :=
  ∃ fM fD fT : S32x256.Idx → Elt F .f32, (∀ w < 32, IsRow m hpre d w fM fD fT) ∧ o = outOf m d fM fD fT

/-- What @main ends with: the arguments as launched, and the output. -/
def FIN (hpre : PreOK m) (d : Dev nD) : sProp 𝕄 :=
  iprop((annLoc d ↦{fullShare} m (annLoc d)) ∗ (idLoc d ↦{Transfers.shareDrop fullShare 32} m (idLoc d)) ∗ (wredLoc d ↦{fullShare} m (wredLoc d))
    ∗ (bredLoc d ↦{fullShare} m (bredLoc d)) ∗ (wgLoc d ↦{fullShare} m (wgLoc d)) ∗ (bgLoc d ↦{fullShare} m (bgLoc d)) ∗ (woLoc d ↦{fullShare} m (woLoc d))
    ∗ (boLoc d ↦{fullShare} m (boLoc d)) ∗ ∃ o : S256.Idx → Elt F .f32, ⌜IsOut m hpre d o⌝ ∗ ((SparseCore.T d : Thread nD τ).loc main_v5 ↦{fullShare} o))

/-- A TensorCore between calls, what it owes apart from the rest. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))
omit [∀ e, Nonempty (Elt F e)] in
/-- What it owes and the rest are all. -/
theorem tcSt_eq (d : Dev nD) (n : ℕ) : ((K (F := F)).tcSt EH d n : sProp 𝕄) = iprop(due (F := F) d n ∗ tcRest (F := F) d n) := rfl

set_option maxRecDepth 16384 in
/-- @main on device `d`'s TensorCore. -/
theorem hmain (hpre : PreOK m) (κ : GSem nD τ sig → ℕ) (d : Dev nD) :
    iprop((K (F := F)).ctx EH (P m hpre) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ FIN m hpre d ∗ (K (F := F)).tcEnd d) := by
  unfold SparseCore.Cfg.tcRes SparseCore.Cfg.tcEnd ghosts
  rw [unscopedBufs_eq, show (Finset.univ : Finset (Fin 2)) = {0, 1} by decide, SparseCore.bigSep_insert' (by decide), bigSep_singleton,
    SparseCore.bigSep_insert' (by decide), bigSep_singleton]
  simp only [main, wp_bind, wp_pure]
  iintro ⟨#Hctx, Hst, ⟨Hb, ⟨Ha, Hi, Hwr, Hbr, Hwg, Hbg, Hwo, Hbo, Hs, Ht, HM, HD, HT, H2, H3, H4, H5⟩, Hts, -⟩, ⟨Hc0, Hc1⟩, Ht0, Ht1⟩
  ihave #Hlev := ((K (F := F)).ctx_levAts (EH := EH) (P := P m hpre) κ) $$ Hctx
  ihave Hst := (Entails.of_eq (tcSt_eq d 0)) $$ Hst
  icases Hst with ⟨Hdue, Hrest⟩
  iapply (wp_region0 m (m (moLoc d)) (m (doLoc d)) (m (toLoc d)) (m ((SparseCore.T d : Thread nD τ).loc main_v2)) (m ((SparseCore.T d : Thread nD τ).loc main_v3)) d _)
  isplitr [Hb Ha Hwr Hwg Hwo Hs Ht Hdue Hc0 Ht0]
  swap
  · isplitl [Hb]; · iexact Hb
    isplitl [Ha Hwr Hwg Hwo Hs Ht Hdue]
    · iapply (show iprop((annLoc d ↦{fullShare} m (annLoc d)) ∗ (wredLoc d ↦{fullShare} m (wredLoc d)) ∗ (wgLoc d ↦{fullShare} m (wgLoc d))
        ∗ (woLoc d ↦{fullShare} m (woLoc d)) ∗ (sLoc d ↦{fullShare} m (sLoc d)) ∗ (tLoc d ↦{fullShare} m (tLoc d)) ∗ due (F := F) d 0)
          ⊢ (reg0 m (m (moLoc d)) (m (doLoc d)) (m (toLoc d)) (m ((SparseCore.T d : Thread nD τ).loc main_v2)) (m ((SparseCore.T d : Thread nD τ).loc main_v3))).pre d from .refl)
      isplitl [Ha]; · iexact Ha
      isplitl [Hwr]; · iexact Hwr
      isplitl [Hwg]; · iexact Hwg
      isplitl [Hwo]; · iexact Hwo
      isplitl [Hs]; · iexact Hs
      isplitl [Ht]; · iexact Ht
      iexact Hdue
    isplitr; · iexact Hlev
    isplitl [Hc0]; · iexact Hc0
    iexact Ht0
  iintro ⟨Hb, Hpost⟩
  ihave Hpost := (show (reg0 m (m (moLoc d)) (m (doLoc d)) (m (toLoc d)) (m ((SparseCore.T d : Thread nD τ).loc main_v2)) (m ((SparseCore.T d : Thread nD τ).loc main_v3))).post d
      ⊢ iprop((annLoc d ↦{fullShare} m (annLoc d)) ∗ (wredLoc d ↦{fullShare} m (wredLoc d)) ∗ (wgLoc d ↦{fullShare} m (wgLoc d))
        ∗ (woLoc d ↦{fullShare} m (woLoc d)) ∗ (∃ s t, ⌜IsStage1 m d s t⌝ ∗ (sLoc d ↦{fullShare} s) ∗ (tLoc d ↦{fullShare} t)) ∗ due (F := F) d 0) from .refl) $$ Hpost
  icases Hpost with ⟨Ha, Hwr, Hwg, Hwo, ⟨%s, %t, %hst, Hs, Ht⟩, Hdue⟩
  ihave Hdeal := (deal m d s t hst (m (moLoc d)) (m (doLoc d)) (m (toLoc d))) $$ [Hs Ht Hi HM HD HT]
  · isplitl [Hs]; · iexact Hs
    isplitl [Ht]; · iexact Ht
    isplitl [Hi]; · iexact Hi
    isplitl [HM]; · iexact HM
    isplitl [HD]; · iexact HD
    iexact HT
  icases Hdeal with ⟨Hgo, Hi⟩
  ihave Hst := (Entails.of_eq (tcSt_eq (F := F) d 0).symm) $$ [Hdue Hrest]
  · isplitl [Hdue]; · iexact Hdue
    iexact Hrest
  iapply ((K (F := F)).wp_run (D (F := F)) 𝒱 (EH := EH) (P := P m hpre) κ d 0)
  isplitr; · iexact Hctx
  isplitl [Hst]; · iexact Hst
  isplitl [Hgo]
  · rw [st0_eq]; iexact Hgo
  iintro ⟨Hst, Hdn⟩
  ihave Hdn := (Entails.of_eq (dn0_eq m hpre d)) $$ Hdn
  ihave Hdn := (collect m hpre d) $$ Hdn
  icases Hdn with ⟨%fM, %fD, %fT, %hrows, HM, HD, HT⟩
  iapply (wp_reshape (F := F) (x := main_arg3) (y := main_v2) rfl shapeCasts_S64_S1x64 _ _ (by decide) d (m (bredLoc d)) (m ((SparseCore.T d : Thread nD τ).loc main_v2)) _)
  isplitl [Hb]; · iexact Hb
  isplitl [Hbr]; · iexact Hbr
  isplitl [H2]; · iexact H2
  iintro ⟨Hb, Hbr, H2⟩
  iapply (wp_reshape (F := F) (x := main_arg7) (y := main_v3) rfl shapeCasts_S1_S1x1 _ _ (by decide) d (m (boLoc d)) (m ((SparseCore.T d : Thread nD τ).loc main_v3)) _)
  isplitl [Hb]; · iexact Hb
  isplitl [Hbo]; · iexact Hbo
  isplitl [H3]; · iexact H3
  iintro ⟨Hb, Hbo, H3⟩
  ihave Hst := (show ((K (F := F)).tcSt EH d ((0 : Fin 1).val + 1) : sProp 𝕄) ⊢ iprop(due (F := F) d 1 ∗ tcRest (F := F) d 1) from Entails.of_eq (tcSt_eq (F := F) d 1)) $$ Hst
  icases Hst with ⟨Hdue, Hrest⟩
  iapply (wp_region1 m fM fD fT (shapeCast S1x64 (m (bredLoc d)) shapeCasts_S64_S1x64) (shapeCast S1x1 (m (boLoc d)) shapeCasts_S1_S1x1) d _)
  isplitr [Hb HM HD HT H2 Hwo H3 H4 Hdue Hc1 Ht1]
  swap
  · isplitl [Hb]; · iexact Hb
    isplitl [HM HD HT H2 Hwo H3 H4 Hdue]
    · iapply (show iprop((moLoc d ↦{fullShare} fM) ∗ (doLoc d ↦{fullShare} fD) ∗ (toLoc d ↦{fullShare} fT)
        ∗ ((SparseCore.T d : Thread nD τ).loc main_v2 ↦{fullShare} (shapeCast S1x64 (m (bredLoc d)) shapeCasts_S64_S1x64 : S1x64.Idx → Elt F .f32)) ∗ (woLoc d ↦{fullShare} m (woLoc d))
        ∗ ((SparseCore.T d : Thread nD τ).loc main_v3 ↦{fullShare} (shapeCast S1x1 (m (boLoc d)) shapeCasts_S1_S1x1 : S1x1.Idx → Elt F .f32))
        ∗ ((SparseCore.T d : Thread nD τ).loc main_v4 ↦{fullShare} m ((SparseCore.T d : Thread nD τ).loc main_v4)) ∗ due (F := F) d 1)
          ⊢ (reg1 m fM fD fT (shapeCast S1x64 (m (bredLoc d)) shapeCasts_S64_S1x64) (shapeCast S1x1 (m (boLoc d)) shapeCasts_S1_S1x1)).pre d from .refl)
      isplitl [HM]; · iexact HM
      isplitl [HD]; · iexact HD
      isplitl [HT]; · iexact HT
      isplitl [H2]; · iexact H2
      isplitl [Hwo]; · iexact Hwo
      isplitl [H3]; · iexact H3
      isplitl [H4]; · iexact H4
      iexact Hdue
    isplitr; · iexact Hlev
    isplitl [Hc1]; · iexact Hc1
    iexact Ht1
  iintro ⟨Hb, Hpost⟩
  ihave Hpost := (show (reg1 m fM fD fT (shapeCast S1x64 (m (bredLoc d)) shapeCasts_S64_S1x64) (shapeCast S1x1 (m (boLoc d)) shapeCasts_S1_S1x1)).post d
      ⊢ iprop((woLoc d ↦{fullShare} m (woLoc d)) ∗ ((SparseCore.T d : Thread nD τ).loc main_v4 ↦{fullShare}
          combined fM fD fT (shapeCast S1x64 (m (bredLoc d)) shapeCasts_S64_S1x64) (m (woLoc d)) (shapeCast S1x1 (m (boLoc d)) shapeCasts_S1_S1x1)) ∗ due (F := F) d 1) from .refl) $$ Hpost
  icases Hpost with ⟨Hwo, H4, Hdue⟩
  iapply (wp_reshape (F := F) (x := main_v4) (y := main_v5) rfl shapeCasts_S1x256_S256 _ _ (by decide) d
    (combined fM fD fT (shapeCast S1x64 (m (bredLoc d)) shapeCasts_S64_S1x64) (m (woLoc d)) (shapeCast S1x1 (m (boLoc d)) shapeCasts_S1_S1x1))
    (m ((SparseCore.T d : Thread nD τ).loc main_v5)) _)
  isplitl [Hb]; · iexact Hb
  isplitl [H4]; · iexact H4
  isplitl [H5]; · iexact H5
  iintro ⟨Hb, -, H5⟩
  ihave Hst := (Entails.of_eq (tcSt_eq (F := F) d 1).symm) $$ [Hdue Hrest]
  · isplitl [Hdue]; · iexact Hdue
    iexact Hrest
  imodintro
  isplitl [Hst]; · iexact Hst
  isplitr [Hb Hts]
  · unfold FIN
    isplitl [Ha]; · iexact Ha
    isplitl [Hi]; · iexact Hi
    isplitl [Hwr]; · iexact Hwr
    isplitl [Hbr]; · iexact Hbr
    isplitl [Hwg]; · iexact Hwg
    isplitl [Hbg]; · iexact Hbg
    isplitl [Hwo]; · iexact Hwo
    isplitl [Hbo]; · iexact Hbo
    iexists (outOf m d fM fD fT)
    isplitr; · ipureintro; exact ⟨fM, fD, fT, hrows, rfl⟩
    iexact H5
  isplitl [Hb]; · iexact Hb
  iexact Hts

/-! ## The program's run -/

/-- What a final state holds on device `d`. -/
def fq (hpre : PreOK m) (d : Dev nD) (s' : Phys nD τ sig (Elt F)) : Prop :=
  (s'.mem.mem (annLoc d) = m (annLoc d) ∧ s'.mem.mem (idLoc d) = m (idLoc d) ∧ s'.mem.mem (wredLoc d) = m (wredLoc d) ∧ s'.mem.mem (bredLoc d) = m (bredLoc d)
    ∧ s'.mem.mem (wgLoc d) = m (wgLoc d) ∧ s'.mem.mem (bgLoc d) = m (bgLoc d) ∧ s'.mem.mem (woLoc d) = m (woLoc d) ∧ s'.mem.mem (boLoc d) = m (boLoc d))
  ∧ IsOut m hpre d (s'.mem.mem ((SparseCore.T d : Thread nD τ).loc main_v5))

omit [FloatOps F] [∀ e, Nonempty (Elt F e)] in
/-- A whole array held at a share is what the state holds there; the share is kept. -/
theorem agree (s' : Phys nD τ sig (Elt F)) (ℓ : Loc nD τ sig) (q : PosShare TreeShare) (f : Buf (Elt F) ℓ) :
    iprop(SI s' ∗ (ℓ ↦{q} f)) ⊢ iprop(⌜s'.mem.mem ℓ = f⌝ ∗ SI s' : sProp 𝕄) := by
  iintro H
  ihave H := (persistent_entails_right (SI_pointsTo_agree (st := s') (ℓ := ℓ) (I := Finset.univ) (q := q) (f := f))) $$ H
  icases H with ⟨%h, HSI, -⟩
  isplitr; · ipureintro; exact funext fun i => h i (Finset.mem_univ i)
  iexact HSI

set_option maxRecDepth 16384 in
/-- What @main ends with fixes the final state. -/
theorem hfin (hpre : PreOK m) (d : Dev nD) (s' : Phys nD τ sig (Elt F)) : iprop(FIN m hpre d ∗ SI s') ⊢ (⌜fq m hpre d s'⌝ : sProp 𝕄) := by
  unfold FIN
  iintro ⟨⟨Ha, Hi, Hwr, Hbr, Hwg, Hbg, Hwo, Hbo, %o, %ho, H5⟩, HSI⟩
  ihave ⟨%h0, HSI⟩ := (agree s' (annLoc d) _ _) $$ [HSI Ha]
  · isplitl [HSI]; · iexact HSI
    iexact Ha
  ihave ⟨%h1, HSI⟩ := (agree s' (idLoc d) _ _) $$ [HSI Hi]
  · isplitl [HSI]; · iexact HSI
    iexact Hi
  ihave ⟨%h2, HSI⟩ := (agree s' (wredLoc d) _ _) $$ [HSI Hwr]
  · isplitl [HSI]; · iexact HSI
    iexact Hwr
  ihave ⟨%h3, HSI⟩ := (agree s' (bredLoc d) _ _) $$ [HSI Hbr]
  · isplitl [HSI]; · iexact HSI
    iexact Hbr
  ihave ⟨%h4, HSI⟩ := (agree s' (wgLoc d) _ _) $$ [HSI Hwg]
  · isplitl [HSI]; · iexact HSI
    iexact Hwg
  ihave ⟨%h5, HSI⟩ := (agree s' (bgLoc d) _ _) $$ [HSI Hbg]
  · isplitl [HSI]; · iexact HSI
    iexact Hbg
  ihave ⟨%h6, HSI⟩ := (agree s' (woLoc d) _ _) $$ [HSI Hwo]
  · isplitl [HSI]; · iexact HSI
    iexact Hwo
  ihave ⟨%h7, HSI⟩ := (agree s' (boLoc d) _ _) $$ [HSI Hbo]
  · isplitl [HSI]; · iexact HSI
    iexact Hbo
  ihave ⟨%h8, HSI⟩ := (agree s' ((SparseCore.T d : Thread nD τ).loc main_v5) _ _) $$ [HSI H5]
  · isplitl [HSI]; · iexact HSI
    iexact H5
  ipureintro
  exact ⟨⟨h0, h1, h2, h3, h4, h5, h6, h7⟩, h8 ▸ ho⟩

/-- What a run of the program ends in. -/
def QC (hpre : PreOK m) : PUnit × MemSt nD τ sig (Elt F) → Prop := fun r =>
  (∀ d : Dev nD, (r.2.mem (annLoc d) = m (annLoc d) ∧ r.2.mem (idLoc d) = m (idLoc d) ∧ r.2.mem (wredLoc d) = m (wredLoc d) ∧ r.2.mem (bredLoc d) = m (bredLoc d)
    ∧ r.2.mem (wgLoc d) = m (wgLoc d) ∧ r.2.mem (bgLoc d) = m (bgLoc d) ∧ r.2.mem (woLoc d) = m (woLoc d) ∧ r.2.mem (boLoc d) = m (boLoc d))
    ∧ IsOut m hpre d (r.2.mem ((SparseCore.T d : Thread nD τ).loc main_v5))) ∧ r.2.sem = fun _ => 0

/-- The program runs to its end, its arguments unchanged, its output the combination of the tiles' tables, every semaphore
    at zero. -/
theorem run_main (hpre : PreOK m) :
    θ_run (Cert.KernelIdeal.defs (F := F)) (Cert.KernelIdeal.threads (F := F)) ⟨m, fun _ => 0, ρ⟩ (QC m hpre) :=
  SparseCore.Cfg.θ_run_sc_quiescent (K := K (F := F)) (D := D (F := F)) (𝒱 := 𝒱) (EH := EH) (P := P m hpre) (A := ∅) facts v₀
    (fun q hq => match q with | 0 => nomatch hq)
    (fun q _ => match q with | 0 => tileObl m hpre)
    (fun q _ => match q with | 0 => SparseCore.Cfg.VecSplit.of_plain (vecSplit m hpre))
    m ρ main ghosts (FIN m hpre) (u₀ (F := F)) (sep_elim_left.trans (hu₀ m hpre)) (hmain m ρ hpre) (fq m hpre) (hfin m hpre) (QC m hpre) (fun _ h hz => ⟨h, hz⟩)

end Cert.Proof.Pool

end
-- ==== Proof.Frames.lean ====
/-
  The frames: from the two preconditions, that every segment id is below 256 and (from the second) that the ids are sorted
  and the float inputs finite; the pooling program's run then gives its frames at both readings, and the reference's run its own.
-/
module

public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Proof.Gen.Pre_ids_in_range
public import proofs.«01_k».proof.Proof.Gen.Pre_inputs_tame
public import Idealize.ShloMosaic.Lib.ReduceAll
public import Idealize.ShloMosaic.Lib.Quiescent
public import proofs.«01_k».proof.Defs

@[expose] public section

noncomputable section

namespace Cert.Proof.Pool

open Cert.KernelIdeal Cert.KernelIdeal.Gen
open Idealize.ShloMosaic Idealize.SL.Sem

variable {F : FTy → Type} [FloatOps F]

/-- A word between 0 and 255, read signed, is below 256. -/
theorem word_in_range (v : BitVec 32) (h0 : IntOp.cmpi .sge v 0#32 = 1#1) (h1 : IntOp.cmpi .slt v 256#32 = 1#1) : v.toNat < 256 := by
  have h0 := IntOp.cmpi_sge.1 h0
  have h1 := IntOp.cmpi_slt.1 h1
  simp only [BitVec.toInt_eq_toNat_cond, BitVec.toNat_ofNat, Nat.reducePow, Nat.reduceMod] at h0 h1
  have := v.isLt
  split at h0 <;> simp at h0 h1 <;> omega

/-- The all-ones predicate on the ids puts each below 256. -/
theorem ids_of_all (ids : S100000.Idx → BitVec 32) (j0) (init)
    (h : Host.reduce IntOp.andi (andi (cmpi .sge ids (broadcastInDim Cert.Pre_ids_in_range.S100000 ![] Cert.Pre_ids_in_range.Gen.facts.bcast_S_S100000 (constantI Cert.Pre_ids_in_range.S_ 32 0#32)))
      (cmpi .slt ids (broadcastInDim Cert.Pre_ids_in_range.S100000 ![] Cert.Pre_ids_in_range.Gen.facts.bcast_S_S100000 (constantI Cert.Pre_ids_in_range.S_ 32 256#32)))) init
      Cert.Pre_ids_in_range.Gen.facts.reducesTo_S100000_S_d0 Cert.Pre_ids_in_range.Gen.facts.h_S_ j0 = 1#1) : InRange ids := fun j => by
  haveI : Subsingleton Cert.Pre_ids_in_range.S_.Idx := ⟨fun a b => funext fun k => k.elim0⟩
  have e : IntOp.andi (IntOp.cmpi .sge (ids j) 0#32) (IntOp.cmpi .slt (ids j) 256#32) = 1#1 := Host.reduce_andi_all _ _ _ _ j0 h j
  have e := IntOp.andi_eq_one.1 e
  exact word_in_range _ e.1 e.2

set_option maxRecDepth 100000 in
/-- The first precondition at either reading puts every id below 256. -/
theorem ok_of_ids (m : (ℓ : Loc nD τ sig) → Buf (Elt F) ℓ)
    (h : ∀ c : Dev nD, Cert.Pre_ids_in_range.fn (F := F) (m (annLoc c)) (m (idLoc c)) (m (wredLoc c)) (m (bredLoc c)) (m (wgLoc c)) (m (bgLoc c)) (m (woLoc c)) (m (boLoc c)) = fun _ => 1#1) :
    PreOK m := fun d => by
  have e := congrFun (h d) (fun k => k.elim0)
  unfold Cert.Pre_ids_in_range.fn at e
  exact ids_of_all (m (idLoc d)) _ _ e

set_option maxRecDepth 100000 in
/-- The second precondition's first conjunct is the first precondition. -/
theorem ok_of_tame (m : (ℓ : Loc nD τ sig) → Buf (Elt F) ℓ)
    (h : ∀ c : Dev nD, Cert.Pre_inputs_tame.fn (F := F) (m (annLoc c)) (m (idLoc c)) (m (wredLoc c)) (m (bredLoc c)) (m (wgLoc c)) (m (bgLoc c)) (m (woLoc c)) (m (boLoc c)) = fun _ => 1#1) :
    PreOK m := fun d => by
  have e := congrFun (h d) (fun k => k.elim0)
  have e := (IntOp.andi_eq_one.1 (IntOp.andi_eq_one.1 e).1).1
  exact ids_of_all (m (idLoc d)) _ _ e

set_option maxRecDepth 100000 in
set_option maxHeartbeats 8000000 in
/-- The kernel's calls and its idealization's are the same. -/
theorem kernel_calls : (Cert.Kernel.defs₀ (F := F)) = Cert.KernelIdeal.defs₀ (F := F) := by
  funext p l a
  rcases l with ⟨_ | _ | _ | l, hl⟩
  · cases p <;> rfl
  · cases p <;> rfl
  · cases p <;> rfl
  · exact absurd hl (by omega)

set_option maxRecDepth 100000 in
set_option maxHeartbeats 8000000 in
/-- Hence so are their procedures. -/
theorem kernel_defs : (Cert.Kernel.defs (F := F)) = Cert.KernelIdeal.defs (F := F) :=
  (congrArg (fun d => Cert.Kernel.sc.defs (Pipeline.defs Cert.Kernel.pcfgs d)) (kernel_calls (F := F)) : _)

end Cert.Proof.Pool

namespace Cert.Proof

open Idealize.ShloMosaic Idealize.SL.Sem Cert.Proof.Pool

/-- `Cert.quiescent_KernelIdeal` (Defs.lean). -/
theorem frame_kernelIdeal : Cert.quiescent_KernelIdeal := fun m ρ hpre =>
  (θ_run Cert.KernelIdeal.defs _ _).mono (fun _ h => ⟨fun c => (h.1 c).1, h.2⟩) (run_main (F := Ideal) m ρ (ok_of_ids m hpre))

/-- `Cert.quiescent_KernelIdeal_pre_inputs_tame` (Defs.lean). -/
theorem frame_kernelIdeal_tame : Cert.quiescent_KernelIdeal_pre_inputs_tame := fun m ρ hpre =>
  (θ_run Cert.KernelIdeal.defs _ _).mono (fun _ h => ⟨fun c => (h.1 c).1, h.2⟩) (run_main (F := Ideal) m ρ (ok_of_tame m hpre))

/-- `Cert.quiescent_Kernel` (Defs.lean): the kernel's procedures are the idealization's, read at the bits. -/
theorem frame_kernel : Cert.quiescent_Kernel := fun m ρ hpre => by
  have h := run_main (F := Bits) m ρ (ok_of_ids m hpre)
  have h := (congrArg (fun D => θ_run D (Cert.Kernel.threads (F := Bits)) ⟨m, fun _ => 0, ρ⟩ _) (kernel_defs (F := Bits))).mpr h
  exact (θ_run Cert.Kernel.defs _ _).mono (fun _ h => ⟨fun c => (h.1 c).1, h.2⟩) h

/-- `Cert.quiescent_ReferenceIdeal` (Defs.lean). -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.quiescent_ReferenceIdeal_pre_inputs_tame` (Defs.lean). -/
theorem frame_reference_tame : Cert.quiescent_ReferenceIdeal_pre_inputs_tame := fun m ρ _ => frame_reference m ρ trivial

/-- `Cert.preserves_Kernel_KernelIdeal` (Defs.lean). -/
theorem preserves : Cert.preserves_Kernel_KernelIdeal := trivial

end Cert.Proof

end
-- ==== Proof.Lanes.lean ====
/-
  A register's sixteen lanes: what the tile's shifts of a register are, read lane by lane.
-/
module

public import proofs.«01_k».proof.Proof.Tables
public import Idealize.ShloMosaic.Lib.Pointwise

@[expose] public section

noncomputable section

namespace Cert.Proof.Pool

open Cert.KernelIdeal Cert.KernelIdeal.Gen
open Idealize.ShloMosaic

/-- Lane `i`; past the end, the last one. -/
def lane (i : ℕ) : S16.Idx := Shape.ofLane (d := ![16]) ⟨min i 15, by show min i 15 < 16; omega⟩

/-- Lane `i`'s number. -/
theorem lane_val {i : ℕ} (h : i < 16) : (lane i 0).val = i := by
  show min i 15 = i
  omega

/-- A lane is the lane of its number. -/
theorem lane_eq (l : S16.Idx) : lane (l 0).val = l := by
  funext a
  obtain rfl : a = 0 := Subsingleton.elim _ _
  exact Fin.ext (lane_val (l 0).isLt)

/-- A register read at a lane given by its coordinate. -/
theorem at_lane {α : Type} (x : S16.Idx → α) (i : Fin 16) (n : ℕ) (h : i.val = min n 15) : x (ix1 i) = x (lane n) :=
  congrArg x (funext fun a => by
    obtain rfl : a = 0 := Subsingleton.elim _ _
    exact Fin.ext h)

/-- A register moved up by `k` lanes, its lowest lane repeated. -/
def up {α : Type} (k : ℕ) (x : S16.Idx → α) : S16.Idx → α := fun l => x (lane ((l 0).val - k))
/-- A register moved down by one lane, its highest lane repeated. -/
def dn {α : Type} (x : S16.Idx → α) : S16.Idx → α := fun l => x (lane ((l 0).val + 1))

section
variable {α : Type} (x : S16.Idx → α)

set_option maxRecDepth 16384

/-- The shift by one lane. -/
theorem up_one : concatenate S16 0 [⟨S1, extractStridedSlice S1 ![0] x slices_S16_o0_S1⟩,
    ⟨S15, extractStridedSlice S15 ![0] x slices_S16_o0_S15⟩] concatenates_S1_S15_S16_d0 = up 1 x := by
  funext l
  idx_vars l
  unfold up
  pointwise
  split
  · exact at_lane x _ _ (by show (_ : ℕ) = min (l0.val - 1) 15; simp; omega)
  · exact at_lane x _ _ (by show l0.val - 1 = min (l0.val - 1) 15; omega)

/-- The shift by two lanes. -/
theorem up_two : concatenate S16 0 [⟨S2, broadcastTo S2 (shapeCast S1 (extractStridedSlice S1 ![0] x slices_S16_o0_S1) shapeCasts_S1_S1) broadcasts_S1_S2⟩,
    ⟨S14, extractStridedSlice S14 ![0] x slices_S16_o0_S14⟩] concatenates_S2_S14_S16_d0 = up 2 x := by
  funext l
  idx_vars l
  unfold up
  pointwise
  split
  · exact at_lane x _ _ (by show (_ : ℕ) = min (l0.val - 2) 15; simp; omega)
  · exact at_lane x _ _ (by show l0.val - 2 = min (l0.val - 2) 15; omega)

/-- The shift by four lanes. -/
theorem up_four : concatenate S16 0 [⟨S4, broadcastTo S4 (shapeCast S1 (extractStridedSlice S1 ![0] x slices_S16_o0_S1) shapeCasts_S1_S1) broadcasts_S1_S4⟩,
    ⟨S12, extractStridedSlice S12 ![0] x slices_S16_o0_S12⟩] concatenates_S4_S12_S16_d0 = up 4 x := by
  funext l
  idx_vars l
  unfold up
  pointwise
  split
  · exact at_lane x _ _ (by show (_ : ℕ) = min (l0.val - 4) 15; simp; omega)
  · exact at_lane x _ _ (by show l0.val - 4 = min (l0.val - 4) 15; omega)

/-- The shift by eight lanes. -/
theorem up_eight : concatenate S16 0 [⟨S8, broadcastTo S8 (shapeCast S1 (extractStridedSlice S1 ![0] x slices_S16_o0_S1) shapeCasts_S1_S1) broadcasts_S1_S8⟩,
    ⟨S8, extractStridedSlice S8 ![0] x slices_S16_o0_S8⟩] concatenates_S8_S8_S16_d0 = up 8 x := by
  funext l
  idx_vars l
  unfold up
  pointwise
  split
  · exact at_lane x _ _ (by show (_ : ℕ) = min (l0.val - 8) 15; simp; omega)
  · exact at_lane x _ _ (by show l0.val - 8 = min (l0.val - 8) 15; omega)

/-- The shift down. -/
theorem dn_one : concatenate S16 0 [⟨S15, extractStridedSlice S15 ![1] x slices_S16_o1_S15⟩,
    ⟨S1, extractStridedSlice S1 ![15] x slices_S16_o15_S1⟩] concatenates_S15_S1_S16_d0 = dn x := by
  funext l
  idx_vars l
  unfold dn
  pointwise
  split
  · exact at_lane x _ _ (by show (_ : ℕ) = min (l0.val + 1) 15; simp; omega)
  · exact at_lane x _ _ (by show (_ : ℕ) = min (l0.val + 1) 15; simp; omega)

end

end Cert.Proof.Pool

end
-- ==== Proof.Scan.lean ====
/-
  The tile's scans within a register of sorted ids: four steps of shifts by 1, 2, 4 and 8 lanes leave in each lane the
  maximum (or the sum) over the lanes of its id up to it, and a store at the last lane of each id takes that into a table.
-/
module

public import proofs.«01_k».proof.Proof.Lanes

@[expose] public section

noncomputable section

namespace Cert.Proof.Pool

open Cert.KernelIdeal Cert.KernelIdeal.Gen
open Idealize.ShloMosaic

/-- A register's ids ascend. -/
def Ascending (v : S16.Idx → BitVec 32) : Prop := ∀ i j : S16.Idx, (i 0).val ≤ (j 0).val → (v i).toNat ≤ (v j).toNat

/-- The lanes of lane `l`'s id among the last `w` up to it. -/
def window (v : S16.Idx → BitVec 32) (w : ℕ) (l : S16.Idx) : Finset S16.Idx :=
  Finset.univ.filter fun j => (j 0).val ≤ (l 0).val ∧ (l 0).val < (j 0).val + w ∧ v j = v l

/-- A lane's number is below sixteen. -/
theorem lane_lt (l : S16.Idx) : (l 0).val < 16 := (l 0).isLt

/-- Lanes of equal numbers are equal. -/
theorem lane_ext {i j : S16.Idx} (h : (i 0).val = (j 0).val) : i = j := by rw [← lane_eq i, ← lane_eq j, h]

/-- The number of the lane that a shift by `k` reads. -/
theorem lane_sub (l : S16.Idx) (k : ℕ) : (lane ((l 0).val - k) 0).val = (l 0).val - k := lane_val (by have := lane_lt l; omega)

/-- A window of width one is the lane itself. -/
theorem window_one (v : S16.Idx → BitVec 32) (l : S16.Idx) : window v 1 l = {l} := by
  ext j
  simp only [window, Finset.mem_filter, Finset.mem_univ, true_and, Finset.mem_singleton]
  constructor
  · rintro ⟨h1, h2, -⟩
    exact lane_ext (by omega)
  · rintro rfl
    exact ⟨le_rfl, by omega, rfl⟩

/-- A window of twice the width, where the shifted lane has the same id. -/
theorem window_grow (v : S16.Idx → BitVec 32) (w : ℕ) (l : S16.Idx) (h : up w v l = v l) (hw : 0 < w) :
    window v (w + w) l = window v w l ∪ window v w (lane ((l 0).val - w)) := by
  have hk := lane_sub l w
  ext j
  simp only [window, Finset.mem_filter, Finset.mem_univ, true_and, Finset.mem_union]
  unfold up at h
  rw [h, hk]
  constructor
  · rintro ⟨h1, h2, h3⟩
    by_cases hc : (l 0).val < (j 0).val + w
    · exact .inl ⟨h1, hc, h3⟩
    · exact .inr ⟨by omega, by omega, h3⟩
  · rintro (⟨h1, h2, h3⟩ | ⟨h1, h2, h3⟩)
    · exact ⟨h1, by omega, h3⟩
    · exact ⟨by omega, by omega, h3⟩

/-- The two halves are apart where the shift stays in the register. -/
theorem window_disjoint (v : S16.Idx → BitVec 32) (w : ℕ) (l : S16.Idx) (hl : w ≤ (l 0).val) :
    Disjoint (window v w l) (window v w (lane ((l 0).val - w))) := by
  have hk := lane_sub l w
  rw [Finset.disjoint_left]
  intro j h1 h2
  simp only [window, Finset.mem_filter, Finset.mem_univ, true_and] at h1 h2
  rw [hk] at h2
  omega

/-- A window is no larger at twice the width, where the shift leaves the register or meets another id. -/
theorem window_stop (v : S16.Idx → BitVec 32) (hv : Ascending v) (w : ℕ) (l : S16.Idx) (h : ¬(up w v l = v l ∧ w ≤ (l 0).val)) :
    window v (w + w) l = window v w l := by
  have hk := lane_sub l w
  ext j
  simp only [window, Finset.mem_filter, Finset.mem_univ, true_and]
  constructor
  · rintro ⟨h1, h2, h3⟩
    refine ⟨h1, ?_, h3⟩
    by_contra hc
    refine h ⟨?_, by omega⟩
    have h4 := hv j (lane ((l 0).val - w)) (by rw [hk]; omega)
    have h5 := hv (lane ((l 0).val - w)) l (by rw [hk]; omega)
    rw [h3] at h4
    exact BitVec.eq_of_toNat_eq (by unfold up; omega)
  · rintro ⟨h1, h2, h3⟩
    exact ⟨h1, by omega, h3⟩

/-- One step of the maximum scan. -/
def mx (k : ℕ) (v : S16.Idx → BitVec 32) (a : S16.Idx → EReal) : S16.Idx → EReal :=
  fun l => max (a l) (if up k v l = v l then up k a l else ⊥)
/-- One step of the sum scan. -/
def sm (k : ℕ) (v : S16.Idx → BitVec 32) (a : S16.Idx → EReal) : S16.Idx → EReal :=
  fun l => a l + (if up k v l = v l ∧ k ≤ (l 0).val then up k a l else 0)

/-- A step of the maxima's scan doubles the window that each lane's maximum is over. -/
theorem mx_step {v : S16.Idx → BitVec 32} (hv : Ascending v) {w : ℕ} (hw : 0 < w) {x a : S16.Idx → EReal}
    (ha : ∀ l, a l = (window v w l).sup x) (l : S16.Idx) : mx w v a l = (window v (w + w) l).sup x := by
  unfold mx
  by_cases h : up w v l = v l
  · rw [if_pos h, window_grow v w l h hw, Finset.sup_union, ha l]
    exact congrArg _ (ha _)
  · rw [if_neg h, window_stop v hv w l (fun c => h c.1), ha l]
    exact max_bot_right _

/-- A step of the sums' scan doubles the window that each lane's sum is over. -/
theorem sm_step {v : S16.Idx → BitVec 32} (hv : Ascending v) {w : ℕ} (hw : 0 < w) {x a : S16.Idx → EReal}
    (ha : ∀ l, a l = ∑ j ∈ window v w l, x j) (l : S16.Idx) : sm w v a l = ∑ j ∈ window v (w + w) l, x j := by
  unfold sm
  by_cases h : up w v l = v l ∧ w ≤ (l 0).val
  · rw [if_pos h, window_grow v w l h.1 hw, Finset.sum_union (window_disjoint v w l h.2), ha l]
    exact congrArg _ (ha _)
  · rw [if_neg h, window_stop v hv w l h, ha l, add_zero]

/-- The maximum scan. -/
abbrev mxs (v : S16.Idx → BitVec 32) (x : S16.Idx → EReal) : S16.Idx → EReal := mx 8 v (mx 4 v (mx 2 v (mx 1 v x)))
/-- The sum scan. -/
abbrev sms (v : S16.Idx → BitVec 32) (x : S16.Idx → EReal) : S16.Idx → EReal := sm 8 v (sm 4 v (sm 2 v (sm 1 v x)))

/-- After four steps each lane has the maximum over the lanes of its run up to itself. -/
theorem mxs_eq {v : S16.Idx → BitVec 32} (hv : Ascending v) (x : S16.Idx → EReal) (l : S16.Idx) : mxs v x l = (window v 16 l).sup x :=
  mx_step hv (by omega) (mx_step hv (by omega) (mx_step hv (by omega) (mx_step hv (by omega)
    (fun l => by rw [window_one, Finset.sup_singleton])))) l

/-- After four steps each lane has the sum over the lanes of its run up to itself. -/
theorem sms_eq {v : S16.Idx → BitVec 32} (hv : Ascending v) (x : S16.Idx → EReal) (l : S16.Idx) : sms v x l = ∑ j ∈ window v 16 l, x j :=
  sm_step hv (by omega) (sm_step hv (by omega) (sm_step hv (by omega) (sm_step hv (by omega)
    (fun l => by rw [window_one, Finset.sum_singleton])))) l

/-! ## The last lane of each id -/

/-- The next lane has another id, or there is none. -/
def IsLast (v : S16.Idx → BitVec 32) (l : S16.Idx) : Prop := v l ≠ dn v l ∨ (l 0).val = 15

/-- The lanes of an id. -/
def ofId (v : S16.Idx → BitVec 32) (b : ℕ) : Finset S16.Idx := Finset.univ.filter fun j => (v j).toNat = b

/-- No lane of an id comes after the id's last lane. -/
theorem last_le {v : S16.Idx → BitVec 32} (hv : Ascending v) {l j : S16.Idx} (hl : IsLast v l) (h : v j = v l) : (j 0).val ≤ (l 0).val := by
  by_contra hc
  have hj := lane_lt j
  have hk : (lane ((l 0).val + 1) 0).val = (l 0).val + 1 := lane_val (by omega)
  rcases hl with hl | hl
  · have h4 := hv l (lane ((l 0).val + 1)) (by omega)
    have h5 := hv (lane ((l 0).val + 1)) j (by omega)
    rw [h] at h5
    exact hl (BitVec.eq_of_toNat_eq (by unfold dn; omega))
  · omega

/-- Two last lanes of one id are one. -/
theorem last_unique {v : S16.Idx → BitVec 32} (hv : Ascending v) {l j : S16.Idx} (hl : IsLast v l) (hj : IsLast v j) (h : v j = v l) : j = l :=
  lane_ext (le_antisymm (last_le hv hl h) (last_le hv hj h.symm))

/-- The last lane's window holds all the lanes of its id. -/
theorem window_last {v : S16.Idx → BitVec 32} (hv : Ascending v) {l : S16.Idx} (hl : IsLast v l) : window v 16 l = ofId v (v l).toNat := by
  ext j
  simp only [window, ofId, Finset.mem_filter, Finset.mem_univ, true_and]
  have := lane_lt l
  constructor
  · rintro ⟨-, -, h⟩
    rw [h]
  · intro h
    have h := BitVec.eq_of_toNat_eq h
    exact ⟨last_le hv hl h, by omega, h⟩

/-- An id that occurs has a last lane. -/
theorem exists_last (v : S16.Idx → BitVec 32) (b : ℕ) (h : (ofId v b).Nonempty) : ∃ l, IsLast v l ∧ (v l).toNat = b := by
  obtain ⟨l, hl, hm⟩ := Finset.exists_max_image (ofId v b) (fun j => (j 0).val) h
  simp only [ofId, Finset.mem_filter, Finset.mem_univ, true_and] at hl hm
  refine ⟨l, ?_, hl⟩
  by_cases hc : (l 0).val = 15
  · exact .inr hc
  · refine .inl fun e => ?_
    have := lane_lt l
    have h1 := hm (lane ((l 0).val + 1)) (by rw [← hl, e]; rfl)
    rw [lane_val (by omega)] at h1
    omega

/-! ## The masked indexed store -/

/-- A fold whose steps all do nothing. -/
theorem foldl_none {β γ : Type} (q : γ → Prop) [DecidablePred q] (y : γ → β → β) :
    ∀ (L : List γ) (c : β), (∀ k ∈ L, ¬q k) → L.foldl (fun a k => if q k then y k a else a) c = c := by
  intro L
  induction L with
  | nil => intro c _; rfl
  | cons k L ih =>
    intro c h
    rw [List.foldl_cons, if_neg (h k (by simp))]
    exact ih c fun k hk => h k (by simp [hk])

/-- A fold of which one step does something. -/
theorem foldl_once {β γ : Type} (q : γ → Prop) [DecidablePred q] (y : γ → β → β) (k₀ : γ) (hk : q k₀) :
    ∀ (L : List γ) (c : β), L.Nodup → (∀ k ∈ L, q k → k = k₀) → k₀ ∈ L →
      L.foldl (fun a k => if q k then y k a else a) c = y k₀ c := by
  intro L
  induction L with
  | nil => intro c _ _ h; simp at h
  | cons k L ih =>
    intro c hn h hm
    rw [List.foldl_cons]
    have hn := List.nodup_cons.1 hn
    by_cases hq : q k
    · obtain rfl := h k (by simp) hq
      rw [if_pos hq]
      exact foldl_none q y L _ fun j hj hqj => hn.1 (h j (by simp [hj]) hqj ▸ hj)
    · rw [if_neg hq]
      refine ih c hn.2 (fun j hj => h j (by simp [hj])) ?_
      rcases List.mem_cons.1 hm with e | e
      · exact absurd (e ▸ hk) hq
      · exact e

/-- A fold over functions, read at one place. -/
theorem foldl_at {γ ι β : Type} (S : (ι → β) → γ → ι → β) (r : β → γ → β) (j : ι) (h : ∀ g k, S g k j = r (g j) k) :
    ∀ (L : List γ) (f : ι → β), L.foldl S f j = L.foldl r (f j) := by
  intro L
  induction L with
  | nil => intro f; rfl
  | cons k L ih => intro f; rw [List.foldl_cons, List.foldl_cons, ih, h]

/-- The store's fold, read at one place. -/
theorem storeIdx_at (f : S256.Idx → EReal) (v : S16.Idx → BitVec 32) (x : S16.Idx → EReal) (mask : IVec S16 1) (add : Bool) (h : Small v)
    (j : S256.Idx) : storeIdx (F := Ideal) (s := S256) (e := .f32) f ![v] x mask add h j
      = (List.finRange 16).foldl (fun a k => if mask (Shape.ofLane (d := ![16]) k) = 1 ∧ (j 0).val = (v (Shape.ofLane (d := ![16]) k)).toNat
          then (if add then a + x (Shape.ofLane (d := ![16]) k) else x (Shape.ofLane (d := ![16]) k)) else a) (f j) := by
  refine foldl_at _ _ j ?_ (List.finRange 16) f
  intro g k
  have e : (∀ a, (j a).val = (idxAt (s := S256) ![v] h (Shape.ofLane (d := ![16]) k) a).val) ↔ (j 0).val = (v (Shape.ofLane (d := ![16]) k)).toNat :=
    ⟨fun H => H 0, fun H a => by obtain rfl : a = 0 := Subsingleton.elim _ _; exact H⟩
  by_cases hm : mask (Shape.ofLane (d := ![16]) k) = 1
  · by_cases hj : (j 0).val = (v (Shape.ofLane (d := ![16]) k)).toNat
    · have ej : idxAt (s := S256) ![v] h (Shape.ofLane (d := ![16]) k) = j := by
        funext a
        exact (Fin.ext (e.2 hj a)).symm
      refine (congrFun (if_pos hm) j).trans ((if_pos (e.2 hj)).trans ?_)
      rw [ej]
      exact (if_pos ⟨hm, hj⟩).symm
    · exact (congrFun (if_pos hm) j).trans ((if_neg (fun c => hj (e.1 c))).trans (if_neg (fun c => hj c.2)).symm)
  · exact (congrFun (if_neg hm) j).trans (if_neg (fun c => hm c.1)).symm

/-- A place that no masked lane writes keeps its value. -/
theorem storeIdx_miss {f : S256.Idx → EReal} {v : S16.Idx → BitVec 32} {x : S16.Idx → EReal} {mask : IVec S16 1} {add : Bool} {h : Small v}
    {j : S256.Idx} (hj : ∀ l, mask l = 1 → (v l).toNat ≠ (j 0).val) :
    storeIdx (F := Ideal) (s := S256) (e := .f32) f ![v] x mask add h j = f j := by
  rw [storeIdx_at]
  exact foldl_none _ (fun k a => if add then a + x (Shape.ofLane (d := ![16]) k) else x (Shape.ofLane (d := ![16]) k)) _ _
    fun k _ c => hj _ c.1 c.2.symm

/-- A place that one masked lane writes takes that lane's value. -/
theorem storeIdx_hit {f : S256.Idx → EReal} {v : S16.Idx → BitVec 32} {x : S16.Idx → EReal} {mask : IVec S16 1} {add : Bool} {h : Small v}
    {j : S256.Idx} (l : S16.Idx) (hl : mask l = 1) (hj : (v l).toNat = (j 0).val)
    (hu : ∀ l', mask l' = 1 → (v l').toNat = (j 0).val → l' = l) :
    storeIdx (F := Ideal) (s := S256) (e := .f32) f ![v] x mask add h j = if add then f j + x l else x l := by
  have el : Shape.ofLane (d := ![16]) (l 0) = l := by
    funext a
    obtain rfl : a = 0 := Subsingleton.elim _ _
    rfl
  rw [storeIdx_at]
  refine (foldl_once _ (fun k a => if add then a + x (Shape.ofLane (d := ![16]) k) else x (Shape.ofLane (d := ![16]) k)) (l 0)
    ?_ _ _ (List.nodup_finRange 16) ?_ (List.mem_finRange _)).trans ?_
  · exact ⟨by rw [el]; exact hl, by rw [el]; exact hj.symm⟩
  · intro k _ c
    have := hu _ c.1 c.2.symm
    rw [← this]
    rfl
  · show (if add then f j + x (Shape.ofLane (d := ![16]) (l 0)) else x (Shape.ofLane (d := ![16]) (l 0))) = _
    rw [el]

/-! ## A register's scan into a table -/

/-- Storing the running maximum at last lanes: each place takes the maximum with its id's lanes. -/
theorem store_max {f : S256.Idx → EReal} {v : S16.Idx → BitVec 32} {x : S16.Idx → EReal} {mask : IVec S16 1} {h : Small v}
    (hv : Ascending v) (hm : ∀ l, mask l = 1 ↔ IsLast v l) (j : S256.Idx) :
    storeIdx (F := Ideal) (s := S256) (e := .f32) f ![v] (fun l => max (f (idxAt (s := S256) ![v] h l)) (mxs v x l)) mask false h j
      = max (f j) ((ofId v (j 0).val).sup x) := by
  by_cases hn : (ofId v (j 0).val).Nonempty
  · obtain ⟨l, hl, hb⟩ := exists_last v _ hn
    rw [storeIdx_hit l ((hm l).2 hl) hb fun l' h1 h2 => last_unique hv hl ((hm _).1 h1) (BitVec.eq_of_toNat_eq (h2.trans hb.symm))]
    have e : idxAt (s := S256) ![v] h l = j := by
      funext a
      obtain rfl : a = 0 := Subsingleton.elim _ _
      exact Fin.ext hb
    rw [mxs_eq hv, window_last hv hl, hb, e]
    rfl
  · rw [storeIdx_miss fun l h1 h2 => hn ⟨l, by simpa [ofId] using h2⟩, Finset.not_nonempty_iff_eq_empty.1 hn, Finset.sup_empty]
    exact (max_bot_right _).symm

/-- Adding the running sum at last lanes: each place gains the sum over its id's lanes. -/
theorem store_sum {f : S256.Idx → EReal} {v : S16.Idx → BitVec 32} {x : S16.Idx → EReal} {mask : IVec S16 1} {h : Small v}
    (hv : Ascending v) (hm : ∀ l, mask l = 1 ↔ IsLast v l) (j : S256.Idx) :
    storeIdx (F := Ideal) (s := S256) (e := .f32) f ![v] (sms v x) mask true h j = f j + ∑ l ∈ ofId v (j 0).val, x l := by
  by_cases hn : (ofId v (j 0).val).Nonempty
  · obtain ⟨l, hl, hb⟩ := exists_last v _ hn
    rw [storeIdx_hit l ((hm l).2 hl) hb fun l' h1 h2 => last_unique hv hl ((hm _).1 h1) (BitVec.eq_of_toNat_eq (h2.trans hb.symm))]
    rw [sms_eq hv, window_last hv hl, hb]
    rfl
  · rw [storeIdx_miss fun l h1 h2 => hn ⟨l, by simpa [ofId] using h2⟩, Finset.not_nonempty_iff_eq_empty.1 hn, Finset.sum_empty, add_zero]

end Cert.Proof.Pool

end
-- ==== Proof.Steps.lean ====
/-
  One trip of the tile's loops at exact values: each table entry takes the maximum (or gains the sum) over the trip's
  thirty-two nodes of its segment.
-/
module

public import proofs.«01_k».proof.Proof.Scan
public import Idealize.ShloMosaic.Lib.WordCmp

@[expose] public section

noncomputable section

namespace Cert.Proof.Pool

open Cert.KernelIdeal Cert.KernelIdeal.Gen
open Idealize.ShloMosaic

set_option maxRecDepth 16384

/-- The lanes' numbers, read at a lane. -/
theorem io_apply (l : S16.Idx) : io l = BitVec.ofNat 32 (l 0).val := by
  idx_vars l
  show iota .scVector S16 32 [0] iota_S16_d0_w32_scVector _ = _
  pointwise

/-- Equality of words, as the printed comparison says it. -/
theorem cmpi_eq_iff {a b : BitVec 32} : IntOp.cmpi .eq a b = 1#1 ↔ a = b := by
  rw [WordCmp.cmpi_eq_eq, WordCmp.ofBool_eq_one_iff, decide_eq_true_iff]

/-- Inequality of words, as the printed comparison says it. -/
theorem cmpi_ne_iff {a b : BitVec 32} : IntOp.cmpi .ne a b = 1#1 ↔ a ≠ b := by
  rw [WordCmp.cmpi_ne_eq, WordCmp.ofBool_eq_one_iff, decide_eq_true_iff]

/-- The printed word of minus infinity. -/
theorem ofBits_neg_inf : (Scalar.ofBits .f32 0xFF800000#32 : Ideal .f32) = (⊥ : EReal) := by
  show Ideal.ofBits .f32 0xFF800000#32 = ⊥
  simp [Ideal.ofBits, Ideal.ieee]

/-- The printed step of the maximum scan. -/
theorem sel_max (k : ℕ) (v : IVec S16 32) (a : FVec Ideal S16 .f32) :
    maximumf a (select (cmpi .eq (up k v) v) (up k a) (broadcast S16 (Scalar.ofBits .f32 0xFF800000#32 : Ideal .f32))) = mx k v a := by
  funext l
  show max (a l) (if IntOp.cmpi .eq (up k v l) (v l) = 1#1 then up k a l else (Scalar.ofBits .f32 0xFF800000#32 : Ideal .f32)) = _
  unfold mx
  by_cases h : up k v l = v l
  · rw [if_pos h, if_pos (cmpi_eq_iff.2 h)]
  · rw [if_neg h, if_neg (fun c => h (cmpi_eq_iff.1 c)), ofBits_neg_inf]

/-- The printed step of the sum scan. -/
theorem sel_sum (k : ℕ) (hk : k < 16) (v : IVec S16 32) (a : FVec Ideal S16 .f32) :
    addf a (select (andi (cmpi .eq (up k v) v) (cmpi .sge io (broadcast S16 (BitVec.ofNat 32 k)))) (up k a)
      (broadcast S16 (Scalar.ofBits .f32 0x00000000#32 : Ideal .f32))) = sm k v a := by
  funext l
  show a l + (if IntOp.andi (IntOp.cmpi .eq (up k v l) (v l)) (IntOp.cmpi .sge (io l) (BitVec.ofNat 32 k)) = 1#1 then up k a l
    else (Scalar.ofBits .f32 0x00000000#32 : Ideal .f32)) = _
  unfold sm
  have hl := lane_lt l
  have hg : IntOp.cmpi .sge (io l) (BitVec.ofNat 32 k) = 1#1 ↔ k ≤ (l 0).val := by
    rw [io_apply, WordCmp.cmpi_sge_ofNat (by omega) (by omega), WordCmp.ofBool_eq_one_iff, decide_eq_true_iff]
  by_cases h : up k v l = v l ∧ k ≤ (l 0).val
  · rw [if_pos h, if_pos (IntOp.andi_eq_one.2 ⟨cmpi_eq_iff.2 h.1, hg.2 h.2⟩)]
  · rw [if_neg h, if_neg (fun c => h ⟨cmpi_eq_iff.1 (IntOp.andi_eq_one.1 c).1, hg.1 (IntOp.andi_eq_one.1 c).2⟩)]
    exact congrArg _ Ideal.ofBits_zero_f32

/-- The printed mask of the last lanes. -/
theorem last_mask (v : IVec S16 32) (l : S16.Idx) : ori (cmpi .ne v (dn v)) (cmpi .eq io (broadcast S16 15#32)) l = 1 ↔ IsLast v l := by
  show IntOp.ori (IntOp.cmpi .ne (v l) (dn v l)) (IntOp.cmpi .eq (io l) (BitVec.ofNat 32 15)) = 1#1 ↔ _
  have hl := lane_lt l
  rw [io_apply, WordCmp.cmpi_eq_ofNat (by omega) (by omega), WordCmp.cmpi_ne_eq, WordCmp.ori_ofBool, WordCmp.ofBool_eq_one_iff]
  simp [IsLast]

/-- The printed maximum scan, first register. -/
theorem pay_max1 (v : IVec S16 32) (s : FVec Ideal S16 .f32) :
    k1_pay5 (F := Ideal) (k1_pay1 v s) (k1_pay2 (F := Ideal) v) (k1_pay3 v s) (k1_pay4 v s) = (mxs v s : S16.Idx → EReal) := by
  unfold k1_pay5 k1_pay3 k1_pay4 k1_pay2 k1_pay1
  simp only [up_one, up_two, up_four, up_eight, sel_max]

/-- The printed maximum scan, second register. -/
theorem pay_max2 (v : IVec S16 32) (s c : FVec Ideal S16 .f32) :
    k1_pay65 v (k1_pay7 v s) (k1_pay8 v s) c = fun l => max (c l) (mxs v s l) := by
  unfold k1_pay65 k1_pay8 k1_pay7
  simp only [up_one, up_two, up_four, up_eight, sel_max]
  rfl

/-- The printed sum scan, first register. -/
theorem pay_d1 (v : IVec S16 32) (x : FVec Ideal S16 .f32) :
    k1_pay27 x (k1_pay19 (F := Ideal) io v) (k1_pay20 (F := Ideal) io v) (k1_pay21 (F := Ideal) io v) (k1_pay22 (F := Ideal) io v) = sms v x := by
  unfold k1_pay27 k1_pay22 k1_pay21 k1_pay20 k1_pay19
  simp only [up_one, up_two, up_four, up_eight]
  rw [sel_sum 1 (by omega), sel_sum 2 (by omega), sel_sum 4 (by omega), sel_sum 8 (by omega)]

/-- The printed sum scan, first register, second table. -/
theorem pay_t1 (v : IVec S16 32) (x : FVec Ideal S16 .f32) :
    k1_pay28 (k1_pay22 (F := Ideal) io v) (k1_pay26 x (k1_pay19 (F := Ideal) io v) (k1_pay20 (F := Ideal) io v) (k1_pay21 (F := Ideal) io v)) = sms v x := by
  unfold k1_pay28 k1_pay26 k1_pay22 k1_pay21 k1_pay20 k1_pay19
  simp only [up_one, up_two, up_four, up_eight]
  rw [sel_sum 1 (by omega), sel_sum 2 (by omega), sel_sum 4 (by omega), sel_sum 8 (by omega)]

/-- The printed sum scan, second register. -/
theorem pay_d2 (v : IVec S16 32) (x : FVec Ideal S16 .f32) :
    k1_pay69 (k1_pay34 (F := Ideal) io v)
      (k1_pay36 x (k1_pay31 (F := Ideal) io v) (k1_pay32 (F := Ideal) io v) (k1_pay33 (F := Ideal) io v))
      (k1_pay38 x (k1_pay31 (F := Ideal) io v) (k1_pay32 (F := Ideal) io v) (k1_pay33 (F := Ideal) io v)) = sms v x := by
  unfold k1_pay69 k1_pay38 k1_pay36 k1_pay34 k1_pay33 k1_pay32 k1_pay31
  simp only [up_one, up_two, up_four, up_eight]
  rw [sel_sum 1 (by omega), sel_sum 2 (by omega), sel_sum 4 (by omega), sel_sum 8 (by omega)]

/-- The printed sum scan, second register, second table. -/
theorem pay_t2 (v : IVec S16 32) (x : FVec Ideal S16 .f32) :
    k1_pay70 (k1_pay34 (F := Ideal) io v)
      (k1_pay37 x (k1_pay31 (F := Ideal) io v) (k1_pay32 (F := Ideal) io v) (k1_pay33 (F := Ideal) io v)) = sms v x := by
  unfold k1_pay70 k1_pay37 k1_pay34 k1_pay33 k1_pay32 k1_pay31
  simp only [up_one, up_two, up_four, up_eight]
  rw [sel_sum 1 (by omega), sel_sum 2 (by omega), sel_sum 4 (by omega), sel_sum 8 (by omega)]

/-- The last lanes, first register of the maxima loop. -/
theorem mask_m1 (v : IVec S16 32) (l : S16.Idx) : k1_pay6 (F := Ideal) io v l = 1 ↔ IsLast v l := by
  unfold k1_pay6
  simp only [dn_one]
  exact last_mask v l

/-- The last lanes, second register of the maxima loop. -/
theorem mask_m2 (v : IVec S16 32) (l : S16.Idx) : k1_pay63 (F := Ideal) v l = 1 ↔ IsLast v l := by
  unfold k1_pay63
  simp only [dn_one]
  exact last_mask v l

/-- The last lanes, first register of the sums loop. -/
theorem mask_d1 (v : IVec S16 32) (l : S16.Idx) : k1_pay25 (k1_pay23 (F := Ideal) v) (k1_pay24 io) l = 1 ↔ IsLast v l := by
  unfold k1_pay25 k1_pay24 k1_pay23
  simp only [dn_one]
  exact last_mask v l

/-- The last lanes, second register of the sums loop. -/
theorem mask_d2 (v : IVec S16 32) (l : S16.Idx) : k1_pay35 (F := Ideal) io v l = 1 ↔ IsLast v l := by
  unfold k1_pay35
  simp only [dn_one]
  exact last_mask v l

/-! ## The steps -/

section
variable {i1 i2 : IVec S16 32} {h1 : Small i1} {h2 : Small i2} (a1 : Ascending i1) (a2 : Ascending i2)
include a1 a2

/-- One trip of the maxima loop, at a segment. -/
theorem mStep_at (s1 s2 : FVec Ideal S16 .f32) (M : S256.Idx → EReal) (j : S256.Idx) :
    mStep (F := Ideal) i1 i2 h1 h2 s1 s2 M j = max (max (M j) ((ofId i1 (j 0).val).sup s1)) ((ofId i2 (j 0).val).sup s2) := by
  unfold mStep
  rw [pay_max1]
  refine (congrArg (fun x => storeIdx (F := Ideal) (s := S256) (e := .f32) _ ![i2] x _ false h2 j) (pay_max2 i2 s2 _)).trans ?_
  refine (store_max (f := storeIdx (F := Ideal) (s := S256) (e := .f32) M ![i1] _ _ false h1) (h := h2) a2 (mask_m2 i2) j).trans ?_
  exact congrArg (fun x => max x _) (store_max (f := M) (h := h1) a1 (mask_m1 i1) j)

/-- One trip of the sums loop, at a segment: the denominators. -/
theorem dStep_at (s1 s2 m1 m2 : FVec Ideal S16 .f32) (T : S256.Idx → EReal) (j : S256.Idx) :
    dStep (F := Ideal) i1 i2 h1 h2 s1 s2 m1 m2 T j
      = T j + (∑ l ∈ ofId i1 (j 0).val, Ideal.exp (s1 l - m1 l)) + ∑ l ∈ ofId i2 (j 0).val, Ideal.exp (s2 l - m2 l) := by
  unfold dStep
  rw [pay_d1, pay_d2]
  refine (store_sum (f := storeIdx (F := Ideal) (s := S256) (e := .f32) T ![i1] _ _ true h1) (h := h2) a2 (mask_d2 i2) j).trans ?_
  exact congrArg (fun x => x + _) (store_sum (f := T) (h := h1) a1 (mask_d1 i1) j)

/-- One trip of the sums loop, at a segment: the numerators. -/
theorem tStep_at (s1 s2 t1 t2 m1 m2 : FVec Ideal S16 .f32) (T : S256.Idx → EReal) (j : S256.Idx) :
    tStep (F := Ideal) i1 i2 h1 h2 s1 s2 t1 t2 m1 m2 T j
      = T j + (∑ l ∈ ofId i1 (j 0).val, Ideal.exp (s1 l - m1 l) * t1 l) + ∑ l ∈ ofId i2 (j 0).val, Ideal.exp (s2 l - m2 l) * t2 l := by
  unfold tStep
  rw [pay_t1, pay_t2]
  refine (store_sum (f := storeIdx (F := Ideal) (s := S256) (e := .f32) T ![i1] _ _ true h1) (h := h2) a2 (mask_d2 i2) j).trans ?_
  exact congrArg (fun x => x + _) (store_sum (f := T) (h := h1) a1 (mask_d1 i1) j)

end

end Cert.Proof.Pool

end
-- ==== Proof.TileValue.lean ====
/-
  A tile's finished tables at exact values, the ids ascending: at each segment the maximum of the tile's nodes of that
  segment, and the sums over them.
-/
module

public import proofs.«01_k».proof.Proof.Steps

@[expose] public section

noncomputable section

namespace Cert.Proof.Pool

open Cert.KernelIdeal Cert.KernelIdeal.Gen
open Idealize.ShloMosaic

/-- The segment ids ascend over the nodes. -/
def SortedIds (ids : S100000.Idx → BitVec 32) : Prop := ∀ a b : ℕ, a ≤ b → (ids (node a)).toNat ≤ (ids (node b)).toNat

/-- The nodes of segment `b` from `a` up to `c`. -/
def seg (ids : S100000.Idx → BitVec 32) (a c b : ℕ) : Finset ℕ := (Finset.Ico a c).filter fun n => (ids (node n)).toNat = b

variable {ids : S100000.Idx → BitVec 32}

/-- A register's ids ascend when the nodes' do. -/
theorem SortedIds.ascending (h : SortedIds ids) (o : ℕ) : Ascending (lanes ids o) := fun _ _ hij => h _ _ (by omega)

/-- A register's lanes of a segment are the segment's nodes among its sixteen. -/
theorem image_ofId (ids : S100000.Idx → BitVec 32) (o b : ℕ) : (ofId (lanes ids o) b).image (fun l => o + (l 0).val) = seg ids o (o + 16) b := by
  ext n
  simp only [Finset.mem_image, ofId, seg, Finset.mem_filter, Finset.mem_univ, true_and, Finset.mem_Ico]
  constructor
  · rintro ⟨l, h, rfl⟩
    have := lane_lt l
    exact ⟨by omega, h⟩
  · rintro ⟨h1, h2⟩
    have e : (lane (n - o) 0).val = n - o := lane_val (by omega)
    refine ⟨lane (n - o), ?_, by omega⟩
    show (ids (node (o + (lane (n - o) 0).val))).toNat = b
    rw [show o + (lane (n - o) 0).val = n by omega]
    exact h2

/-- A maximum over a register's lanes of a segment. -/
theorem sup_ofId (ids : S100000.Idx → BitVec 32) (o b : ℕ) (f : ℕ → EReal) :
    (ofId (lanes ids o) b).sup (fun l => f (o + (l 0).val)) = (seg ids o (o + 16) b).sup f := by
  rw [← image_ofId, Finset.sup_image]
  rfl

/-- A sum over a register's lanes of a segment. -/
theorem sum_ofId (ids : S100000.Idx → BitVec 32) (o b : ℕ) (f : ℕ → EReal) :
    (∑ l ∈ ofId (lanes ids o) b, f (o + (l 0).val)) = ∑ n ∈ seg ids o (o + 16) b, f n := by
  rw [← image_ofId, Finset.sum_image]
  intro i _ j _ h
  exact lane_ext (by have h : o + (i 0).val = o + (j 0).val := h; omega)

/-- A segment's nodes in a range are those in its two parts. -/
theorem seg_split (ids : S100000.Idx → BitVec 32) {a c e : ℕ} (b : ℕ) (h1 : a ≤ c) (h2 : c ≤ e) : seg ids a e b = seg ids a c b ∪ seg ids c e b := by
  unfold seg
  rw [← Finset.filter_union, Finset.Ico_union_Ico_eq_Ico h1 h2]

/-- The two parts share no node. -/
theorem seg_disjoint (ids : S100000.Idx → BitVec 32) (a c e b : ℕ) : Disjoint (seg ids a c b) (seg ids c e b) :=
  Finset.disjoint_filter_filter (Finset.Ico_disjoint_Ico_consecutive a c e)

/-- A maximum over a segment's nodes, in two parts. -/
theorem sup_seg (ids : S100000.Idx → BitVec 32) {a c e : ℕ} (b : ℕ) (h1 : a ≤ c) (h2 : c ≤ e) (f : ℕ → EReal) :
    (seg ids a e b).sup f = max ((seg ids a c b).sup f) ((seg ids c e b).sup f) := by
  rw [seg_split ids b h1 h2, Finset.sup_union]

/-- A sum over a segment's nodes, in two parts. -/
theorem sum_seg (ids : S100000.Idx → BitVec 32) {a c e : ℕ} (b : ℕ) (h1 : a ≤ c) (h2 : c ≤ e) (f : ℕ → EReal) :
    ∑ n ∈ seg ids a e b, f n = (∑ n ∈ seg ids a c b, f n) + ∑ n ∈ seg ids c e b, f n := by
  rw [seg_split ids b h1 h2, Finset.sum_union (seg_disjoint ids a c e b)]

/-- An empty range has no node. -/
theorem seg_none (ids : S100000.Idx → BitVec 32) (a b : ℕ) : seg ids a a b = ∅ := by
  unfold seg
  rw [Finset.Ico_self, Finset.filter_empty]

variable (hs : SortedIds ids) (hr : InRange ids)
include hs

/-- The maxima table after `k` trips. -/
theorem mTab_at (s : S100000.Idx → EReal) (base k : ℕ) (j : S256.Idx) :
    mTab (F := Ideal) s ids hr base k j = (seg ids base (base + 32 * k) (j 0).val).sup fun n => s (node n) := by
  induction k with
  | zero =>
    rw [show base + 32 * 0 = base by omega, seg_none, Finset.sup_empty]
    exact ofBits_neg_inf
  | succ k ih =>
    refine (mStep_at (hs.ascending _) (hs.ascending _) _ _ (mTab (F := Ideal) s ids hr base k) j).trans ?_
    rw [ih, sup_seg ids (c := base + 32 * k) (e := base + 32 * (k + 1)) (j 0).val (by omega) (by omega),
      sup_seg ids (c := base + 32 * k + 16) (e := base + 32 * (k + 1)) (j 0).val (by omega) (by omega), ← max_assoc]
    exact congrArg₂ max (congrArg₂ max rfl (sup_ofId ids _ _ fun n => s (node n))) (sup_ofId ids _ _ fun n => s (node n))

omit hs in
/-- A lane of a segment reads that segment's maximum. -/
theorem mLanes_at (M : S256.Idx → EReal) (o : ℕ) (j : S256.Idx) {l : S16.Idx} (hl : l ∈ ofId (lanes ids o) (j 0).val) :
    mLanes (F := Ideal) ids hr M o l = M j := by
  refine congrArg M (funext fun a => ?_)
  obtain rfl : a = 0 := Subsingleton.elim _ _
  exact Fin.ext (Finset.mem_filter.1 hl).2

/-- The denominators' table after `k` trips. -/
theorem dTab_at (s : S100000.Idx → EReal) (base : ℕ) (M : S256.Idx → EReal) (k : ℕ) (j : S256.Idx) :
    dTab (F := Ideal) s ids hr base M k j = ∑ n ∈ seg ids base (base + 32 * k) (j 0).val, Ideal.exp (s (node n) - M j) := by
  induction k with
  | zero =>
    rw [show base + 32 * 0 = base by omega, seg_none, Finset.sum_empty]
    exact Ideal.ofBits_zero_f32
  | succ k ih =>
    refine (dStep_at (hs.ascending _) (hs.ascending _) _ _ _ _ (dTab (F := Ideal) s ids hr base M k) j).trans ?_
    rw [ih, sum_seg ids (c := base + 32 * k) (e := base + 32 * (k + 1)) (j 0).val (by omega) (by omega),
      sum_seg ids (c := base + 32 * k + 16) (e := base + 32 * (k + 1)) (j 0).val (by omega) (by omega), ← add_assoc]
    refine congrArg₂ (· + ·) (congrArg₂ (· + ·) rfl ?_) ?_
    · refine Eq.trans (Finset.sum_congr rfl fun l hl => ?_) (sum_ofId ids _ _ fun n => Ideal.exp (s (node n) - M j))
      rw [mLanes_at hr M _ j hl]
      rfl
    · refine Eq.trans (Finset.sum_congr rfl fun l hl => ?_) (sum_ofId ids _ _ fun n => Ideal.exp (s (node n) - M j))
      rw [mLanes_at hr M _ j hl]
      rfl

/-- The numerators' table after `k` trips. -/
theorem tTab_at (s t : S100000.Idx → EReal) (base : ℕ) (M : S256.Idx → EReal) (k : ℕ) (j : S256.Idx) :
    tTab (F := Ideal) s t ids hr base M k j
      = ∑ n ∈ seg ids base (base + 32 * k) (j 0).val, Ideal.exp (s (node n) - M j) * t (node n) := by
  induction k with
  | zero =>
    rw [show base + 32 * 0 = base by omega, seg_none, Finset.sum_empty]
    exact Ideal.ofBits_zero_f32
  | succ k ih =>
    refine (tStep_at (hs.ascending _) (hs.ascending _) _ _ _ _ _ _ (tTab (F := Ideal) s t ids hr base M k) j).trans ?_
    rw [ih, sum_seg ids (c := base + 32 * k) (e := base + 32 * (k + 1)) (j 0).val (by omega) (by omega),
      sum_seg ids (c := base + 32 * k + 16) (e := base + 32 * (k + 1)) (j 0).val (by omega) (by omega), ← add_assoc]
    refine congrArg₂ (· + ·) (congrArg₂ (· + ·) rfl ?_) ?_
    · refine Eq.trans (Finset.sum_congr rfl fun l hl => ?_) (sum_ofId ids _ _ fun n => Ideal.exp (s (node n) - M j) * t (node n))
      rw [mLanes_at hr M _ j hl]
      rfl
    · refine Eq.trans (Finset.sum_congr rfl fun l hl => ?_) (sum_ofId ids _ _ fun n => Ideal.exp (s (node n) - M j) * t (node n))
      rw [mLanes_at hr M _ j hl]
      rfl

omit hs

/-- Tile `w`'s nodes of segment `b`. -/
def tileSeg (ids : S100000.Idx → BitVec 32) (w b : ℕ) : Finset ℕ := seg ids (3136 * w) (3136 * w + 32 * tripsOf w) b

include hs

/-- A tile's maximum of a segment is over the segment's nodes in the tile. -/
theorem tileM_at (s : S100000.Idx → EReal) (w : ℕ) (j : S256.Idx) :
    tileM (F := Ideal) s ids hr w j = (tileSeg ids w (j 0).val).sup fun n => s (node n) := mTab_at hs hr s _ _ j

/-- A tile's denominator of a segment sums the exponentials, less the tile's maximum, over the segment's nodes in the tile. -/
theorem tileD_at (s : S100000.Idx → EReal) (w : ℕ) (j : S256.Idx) : tileD (F := Ideal) s ids hr w j
    = ∑ n ∈ tileSeg ids w (j 0).val, Ideal.exp (s (node n) - (tileSeg ids w (j 0).val).sup fun n => s (node n)) := by
  rw [← tileM_at hs hr s w j]
  exact dTab_at hs hr s _ _ _ j

/-- A tile's numerator sums the same exponentials, each times its node's weight. -/
theorem tileT_at (s t : S100000.Idx → EReal) (w : ℕ) (j : S256.Idx) : tileT (F := Ideal) s t ids hr w j
    = ∑ n ∈ tileSeg ids w (j 0).val, Ideal.exp (s (node n) - (tileSeg ids w (j 0).val).sup fun n => s (node n)) * t (node n) := by
  rw [← tileM_at hs hr s w j]
  exact tTab_at hs hr s t _ _ _ j

end Cert.Proof.Pool

end
-- ==== Proof.PayValue.lean ====
/-
  What the two TensorCore calls compute at exact values, element by element.
-/
module

public import proofs.«01_k».proof.Proof.Steps

@[expose] public section

noncomputable section

namespace Cert.Proof.Pool

open Cert.KernelIdeal Cert.KernelIdeal.Gen
open Idealize.ShloMosaic

set_option maxRecDepth 16384

/-- A node's score, from its row. -/
theorem pay_s (wg0 wg1 wo0 wo1 : Vec Ideal S64x1 .f32) (wr : Vec Ideal S128x64 .f32) (B : Vec Ideal S16384x128 .f32) (x : Fin 16384) :
    k0_pay2 (F := Ideal) wg0 wg1 wo0 wo1 wr B (ix1 x)
      = ∑ k : Fin 128, B (ix2 x k) * ∑ h : Fin 64, wr (ix2 k h) * (wg0 (ix2 h 0) + wg1 (ix2 h 0)) := by
  unfold k0_pay2 k0_pay1
  pointwise

/-- A node's weight, from its row. -/
theorem pay_t (wg0 wg1 wo0 wo1 : Vec Ideal S64x1 .f32) (wr : Vec Ideal S128x64 .f32) (B : Vec Ideal S16384x128 .f32) (x : Fin 16384) :
    k0_pay3 (F := Ideal) wg0 wg1 wo0 wo1 wr B (ix1 x)
      = ∑ k : Fin 128, B (ix2 x k) * ∑ h : Fin 64, wr (ix2 k h) * (wo0 (ix2 h 0) + wo1 (ix2 h 0)) := by
  unfold k0_pay3 k0_pay1
  pointwise

/-- A running maximum from minus infinity is the supremum. -/
theorem fold_max {ι : Type} (u : Finset ι) (f : ι → EReal) : u.fold max (Ideal.ofBits .f32 0xFF800000#32) f = u.sup f := by
  rw [show Ideal.ofBits .f32 0xFF800000#32 = (⊥ : EReal) from ofBits_neg_inf]
  rfl

/-- A tile's weight at a segment. -/
theorem pay_scale (M : Vec Ideal S32x256 .f32) (w : Fin 32) (b : Fin 256) : k2_pay2 (F := Ideal) M (ix2 w b)
    = if M (ix2 w b) = (⊥ : EReal) then (0 : EReal)
      else Ideal.exp (M (ix2 w b) - Finset.univ.sup fun w : Fin 32 => (M (ix2 w b) : EReal)) := by
  rw [← fold_max, ← show Ideal.ofBits .f32 0xFF800000#32 = (⊥ : EReal) from ofBits_neg_inf]
  unfold k2_pay2
  pointwise

/-- A segment's denominator. -/
theorem pay_den (M D : Vec Ideal S32x256 .f32) (b : Fin 256) :
    k2_pay3 (F := Ideal) M D (ix2 0 b) = ∑ w : Fin 32, D (ix2 w b) * k2_pay2 (F := Ideal) M (ix2 w b) := by
  unfold k2_pay3
  pointwise

/-- A segment's weighted mean. -/
theorem pay_num (M D T : Vec Ideal S32x256 .f32) (b : Fin 256) : k2_pay4 (F := Ideal) M D T (ix2 0 b)
    = Ideal.div (∑ w : Fin 32, T (ix2 w b) * k2_pay2 (F := Ideal) M (ix2 w b))
      (max (k2_pay3 (F := Ideal) M D (ix2 0 b)) (Ideal.ofBits .f32 0x2B8CBCCC#32)) := by
  unfold k2_pay4
  pointwise

/-- A segment's share of the bias. -/
theorem pay_c (M D : Vec Ideal S32x256 .f32) (w0 w1 : Vec Ideal S64x1 .f32) (br : Vec Ideal S1x64 .f32) (b : Fin 256) :
    k2_pay5 (F := Ideal) M D w0 w1 br (ix2 0 b)
      = (if (0 : EReal) < k2_pay3 (F := Ideal) M D (ix2 0 b) then (1 : EReal) else 0)
        * ∑ h : Fin 64, br (ix2 0 h) * (w0 (ix2 h 0) + w1 (ix2 h 0)) := by
  unfold k2_pay5
  pointwise

/-- The output row. -/
theorem pay_o (x y : FVec Ideal S1x256 .f32) (bo : Vec Ideal S1x1 .f32) (b : Fin 256) :
    k2_pay1 (F := Ideal) x y bo (ix2 0 b) = x (ix2 0 b) + y (ix2 0 b) + bo (ix2 0 0) := by
  unfold k2_pay1
  pointwise

end Cert.Proof.Pool

end
-- ==== Proof.KerValue.lean ====
/-
  What the pooling program leaves in its output at exact values, the ids ascending: each segment's value from the tiles'
  maxima and sums over the segment's nodes.
-/
module

public import proofs.«01_k».proof.Proof.Run
public import proofs.«01_k».proof.Proof.TileValue
public import proofs.«01_k».proof.Proof.PayValue

@[expose] public section

noncomputable section

namespace Cert.Proof.Pool

open Cert.KernelIdeal Cert.KernelIdeal.Gen
open Idealize.ShloMosaic

set_option maxRecDepth 16384

/-- A row of the lower half of a column. -/
def low (h : Fin 64) : Fin 128 := ⟨h.val, by omega⟩
/-- A row of the upper half. -/
def high (h : Fin 64) : Fin 128 := ⟨64 + h.val, by omega⟩

/-- The first call's value of node `n` from the weights `W`: the node's row through the projection and both halves of `W`. -/
def through (A : S100000x128.Idx → EReal) (Wr : S128x64.Idx → EReal) (W : S128x1.Idx → EReal) (n : Fin 100000) : EReal :=
  ∑ k : Fin 128, A (ix2 n k) * ∑ h : Fin 64, Wr (ix2 k h) * (W (ix2 (low h) 0) + W (ix2 (high h) 0))

/-- The bias of the projection through both halves of `W`. -/
def mix (br : S64.Idx → EReal) (W : S128x1.Idx → EReal) : EReal := ∑ h : Fin 64, br (ix1 h) * (W (ix2 (low h) 0) + W (ix2 (high h) 0))

/-- A position of the lower half. -/
theorem topHalf_at (W : Vec Ideal S128x1 .f32) (h : Fin 64) : topHalf (F := Ideal) W (ix2 h 0) = W (ix2 (low h) 0) := by
  refine congrArg W (funext fun a => Fin.ext ?_)
  match a with
  | ⟨0, _⟩ => show 0 + 1 * h.val = h.val; omega
  | ⟨1, _⟩ => rfl

/-- A position of the upper half. -/
theorem botHalf_at (W : Vec Ideal S128x1 .f32) (h : Fin 64) : botHalf (F := Ideal) W (ix2 h 0) = W (ix2 (high h) 0) := by
  refine congrArg W (funext fun a => Fin.ext ?_)
  match a with
  | ⟨0, _⟩ => show 64 + 1 * h.val = 64 + h.val; omega
  | ⟨1, _⟩ => rfl

/-- The two halves' sum. -/
theorem halves_at (W : Vec Ideal S128x1 .f32) (h : Fin 64) :
    (topHalf (F := Ideal) W (ix2 h 0) + botHalf (F := Ideal) W (ix2 h 0) : EReal) = W (ix2 (low h) 0) + W (ix2 (high h) 0) :=
  congrArg₂ (fun x y : EReal => x + y) (topHalf_at W h) (botHalf_at W h)

variable (m : (ℓ : Loc nD τ sig) → Buf (Elt Ideal) ℓ) (d : Dev nD)

/-- What the first call left of each node: its score and its weight. -/
theorem stage1_at {s t : S100000.Idx → EReal} (h : IsStage1 (F := Ideal) m d s t) (j : S100000.Idx) :
    s j = through (m (annLoc d)) (m (wredLoc d)) (m (wgLoc d)) (j 0) ∧ t j = through (m (annLoc d)) (m (wredLoc d)) (m (woLoc d)) (j 0) := by
  have hj : (j 0).val < 100000 := (j 0).isLt
  have hx : (j 0).val % 16384 < 16384 := Nat.mod_lt _ (by omega)
  have e : (j 0).val = 16384 * ((j 0).val / 16384) + (j 0).val % 16384 := by omega
  obtain ⟨⟨B, hB, hs⟩, B', hB', ht⟩ := h ⟨(j 0).val / 16384, by omega⟩
  constructor
  · refine (hs (ix1 ⟨_, hx⟩) j e).trans ((pay_s _ _ _ _ _ _ _).trans ?_)
    unfold through
    refine Finset.sum_congr rfl fun k _ => congrArg₂ (· * ·) (hB (ix2 ⟨_, hx⟩ k) (ix2 (j 0) k) e rfl) ?_
    exact Finset.sum_congr rfl fun h _ => congrArg₂ (fun x y : EReal => x * y) rfl (halves_at _ h)
  · refine (ht (ix1 ⟨_, hx⟩) j e).trans ((pay_t _ _ _ _ _ _ _).trans ?_)
    unfold through
    refine Finset.sum_congr rfl fun k _ => congrArg₂ (· * ·) (hB' (ix2 ⟨_, hx⟩ k) (ix2 (j 0) k) e rfl) ?_
    exact Finset.sum_congr rfl fun h _ => congrArg₂ (fun x y : EReal => x * y) rfl (halves_at _ h)

/-- A tile's maximum over its nodes of a segment. -/
def partMax (ids : S100000.Idx → BitVec 32) (S : ℕ → EReal) (b w : ℕ) : EReal := (tileSeg ids w b).sup S
/-- A tile's sum over its nodes of a segment of the exponentials, weighted by `f`. -/
def partSum (ids : S100000.Idx → BitVec 32) (S f : ℕ → EReal) (b w : ℕ) : EReal :=
  ∑ n ∈ tileSeg ids w b, Ideal.exp (S n - partMax ids S b w) * f n
/-- The maximum over all tiles. -/
def allMax (ids : S100000.Idx → BitVec 32) (S : ℕ → EReal) (b : ℕ) : EReal := Finset.univ.sup fun w : Fin 32 => partMax ids S b w.val
/-- The weight by which a tile's sums enter. -/
def scale (ids : S100000.Idx → BitVec 32) (S : ℕ → EReal) (b w : ℕ) : EReal :=
  if partMax ids S b w = ⊥ then 0 else Ideal.exp (partMax ids S b w - allMax ids S b)
/-- The tiles' sums together. -/
def allSum (ids : S100000.Idx → BitVec 32) (S f : ℕ → EReal) (b : ℕ) : EReal := ∑ w : Fin 32, partSum ids S f b w.val * scale ids S b w.val

/-- A segment's value, from the nodes' scores `S` and weights `T`. -/
def pooledValue (ids : S100000.Idx → BitVec 32) (S T : ℕ → EReal) (c bo : EReal) (b : ℕ) : EReal :=
  Ideal.div (allSum ids S T b) (max (allSum ids S (fun _ => 1) b) (Ideal.ofBits .f32 0x2B8CBCCC#32))
    + (if 0 < allSum ids S (fun _ => 1) b then 1 else 0) * c + bo

/-- The row of a tile holds its maxima and sums. -/
theorem row_at (hpre : PreOK m) (hs : SortedIds (m (idLoc d))) {w : Fin 32} {fM fD fT : S32x256.Idx → EReal}
    (h : IsRow (F := Ideal) m hpre d w.val fM fD fT) (b : Fin 256) :
    (fM (ix2 w b) = partMax (m (idLoc d)) (fun n => through (m (annLoc d)) (m (wredLoc d)) (m (wgLoc d)) (node n 0)) b.val w.val)
    ∧ (fD (ix2 w b) = partSum (m (idLoc d)) (fun n => through (m (annLoc d)) (m (wredLoc d)) (m (wgLoc d)) (node n 0)) (fun _ => 1) b.val w.val)
    ∧ fT (ix2 w b) = partSum (m (idLoc d)) (fun n => through (m (annLoc d)) (m (wredLoc d)) (m (wgLoc d)) (node n 0))
        (fun n => through (m (annLoc d)) (m (wredLoc d)) (m (woLoc d)) (node n 0)) b.val w.val := by
  obtain ⟨s, t, h1, hr⟩ := h
  obtain ⟨hM, hD, hT⟩ := hr (ix2 w b) (ix1 b) rfl rfl
  have es : (fun n => s (node n)) = fun n => through (m (annLoc d)) (m (wredLoc d)) (m (wgLoc d)) (node n 0) := funext fun n => (stage1_at m d h1 (node n)).1
  have et : (fun n => t (node n)) = fun n => through (m (annLoc d)) (m (wredLoc d)) (m (woLoc d)) (node n 0) := funext fun n => (stage1_at m d h1 (node n)).2
  have eM := tileM_at hs (hpre d) s w.val (ix1 b)
  have eD := tileD_at hs (hpre d) s w.val (ix1 b)
  have eT := tileT_at hs (hpre d) s t w.val (ix1 b)
  rw [← es, ← et]
  refine ⟨hM.trans eM, hD.trans (eD.trans ?_), hT.trans eT⟩
  exact Finset.sum_congr rfl fun n _ => (mul_one _).symm

/-- The output at a segment. -/
theorem out_at (hpre : PreOK m) (hs : SortedIds (m (idLoc d))) {o : S256.Idx → EReal} (h : IsOut (F := Ideal) m hpre d o) (b : Fin 256) :
    o (ix1 b) = pooledValue (m (idLoc d)) (fun n => through (m (annLoc d)) (m (wredLoc d)) (m (wgLoc d)) (node n 0))
      (fun n => through (m (annLoc d)) (m (wredLoc d)) (m (woLoc d)) (node n 0))
      (mix (m (bredLoc d)) (m (woLoc d)))
      ((m (boLoc d) : S1.Idx → EReal) (ix1 0)) b.val := by
  obtain ⟨fM, fD, fT, hrow, rfl⟩ := h
  have hw := fun w : Fin 32 => row_at m d hpre hs (hrow w.val w.isLt) b
  have hsc : ∀ w : Fin 32, k2_pay2 (F := Ideal) fM (ix2 w b) = scale (m (idLoc d)) (fun n => through (m (annLoc d)) (m (wredLoc d)) (m (wgLoc d)) (node n 0)) b.val w.val := by
    intro w
    rw [pay_scale, scale, (hw w).1]
    refine if_congr Iff.rfl rfl (congrArg (fun x => Ideal.exp (_ - x)) ?_)
    exact congrArg (Finset.sup Finset.univ) (funext fun w => (hw w).1)
  have hden : k2_pay3 (F := Ideal) fM fD (ix2 0 b) = allSum (m (idLoc d)) (fun n => through (m (annLoc d)) (m (wredLoc d)) (m (wgLoc d)) (node n 0)) (fun _ => 1) b.val := by
    refine (pay_den _ _ _).trans (Finset.sum_congr rfl fun w _ => congrArg₂ (· * ·) (hw w).2.1 (hsc w))
  have hnum : (∑ w : Fin 32, (fT (ix2 w b) : EReal) * k2_pay2 (F := Ideal) fM (ix2 w b)) = allSum (m (idLoc d)) (fun n => through (m (annLoc d)) (m (wredLoc d)) (m (wgLoc d)) (node n 0))
      (fun n => through (m (annLoc d)) (m (wredLoc d)) (m (woLoc d)) (node n 0)) b.val :=
    Finset.sum_congr rfl fun w _ => congrArg₂ (· * ·) (hw w).2.2 (hsc w)
  have e : outOf (F := Ideal) m d fM fD fT (ix1 b) = combined (F := Ideal) fM fD fT (shapeCast S1x64 (m (bredLoc d)) shapeCasts_S64_S1x64) (m (woLoc d)) (shapeCast S1x1 (m (boLoc d)) shapeCasts_S1_S1x1) (ix2 0 b) := by
    unfold outOf
    generalize combined (F := Ideal) fM fD fT _ _ _ = X
    pointwise
  refine e.trans ?_
  unfold combined
  rw [pay_o, pay_num, pay_c, hden, hnum]
  unfold pooledValue mix
  refine congrArg₂ (· + ·) (congrArg₂ (· + ·) rfl (congrArg _ (Finset.sum_congr rfl fun h _ => congrArg₂ (fun x y : EReal => x * y) ?_ (halves_at _ h)))) ?_
  · pointwise
  · pointwise

end Cert.Proof.Pool

end
-- ==== Proof.RefValue.lean ====
/-
  What the reference computes at exact values, element by element.
-/
module

public import proofs.«01_k».proof.Proof.PayValue
public import proofs.«01_k».proof.Defs
public import proofs.«01_k».proof.Proof.Gen.ReferenceIdeal.Run
public import Idealize.ShloMosaic.Lib.Pointwise
public import Idealize.ShloMosaic.Lib.Routing.OpsPair
public import Idealize.ShloMosaic.Lib.Routing.OpsSet

@[expose] public section

noncomputable section

namespace Cert.Proof.Pool.Ref

open Cert.ReferenceIdeal Cert.ReferenceIdeal.Gen
open Idealize.ShloMosaic

set_option maxRecDepth 16384

abbrev Arr (s : Shape) : Type := FVec Ideal s .f32

/-- The nodes' rows: the projection of each node's row, twice side by side. -/
def rows (A : Arr S100000x128) (Wr : Arr S128x64) (br : Arr S64) : Arr S100000x128 :=
  concatenate S100000x128 1 [⟨S100000x64, (addf (Host.dotGeneral dot_S100000x128_S128x64_S100000x64_1_0_0_1_n_n none A Wr) (broadcastInDim S100000x64 ![0, 1] bcast_S1x64_S100000x64_0_1 (broadcastInDim S1x64 ![1] bcast_S64_S1x64_1 br)))⟩, ⟨S100000x64, (addf (Host.dotGeneral dot_S100000x128_S128x64_S100000x64_1_0_0_1_n_n none A Wr) (broadcastInDim S100000x64 ![0, 1] bcast_S1x64_S100000x64_0_1 (broadcastInDim S1x64 ![1] bcast_S64_S1x64_1 br)))⟩] concatenates_S100000x64_S100000x64_S100000x128_d1

/-- The nodes' scores. -/
def scores (R : Arr S100000x128) (Wg : Arr S128x1) (bg : Arr S1) : Arr S100000 :=
  shapeCast _ (addf (Host.dotGeneral dot_S100000x128_S128x1_S100000x1_1_0_0_1_n_n none R Wg) (broadcastInDim S100000x1 ![0, 1] bcast_S1x1_S100000x1_0_1 (broadcastInDim S1x1 ![1] bcast_S1_S1x1_1 bg))) shapeCasts_S100000x1_S100000

/-- The segments' maxima. -/
def maxima (ids : IVec S100000 32) (sc : Arr S100000) : Arr S256 :=
  Host.reduce FloatOps.maximumf (select (cmpi .eq (broadcastInDim S100000x256 ![0, 1] bcast_S100000x1_S100000x256_0_1 (broadcastInDim S100000x1 ![0] bcast_S100000_S100000x1_0 ids)) (broadcastInDim S100000x256 ![0, 1] bcast_S1x256_S100000x256_0_1 (broadcastInDim S1x256 ![1] bcast_S256_S1x256_1 (iotaInDim S256 32 0)))) (broadcastInDim S100000x256 ![0, 1] bcast_S100000x1_S100000x256_0_1 (broadcastInDim S100000x1 ![0] bcast_S100000_S100000x1_0 sc)) (broadcastInDim S100000x256 ![] bcast_S_S100000x256 (id (constant S_ .f32 0xFF800000#32)))) (constant S_ .f32 0xFF800000#32) reducesTo_S100000x256_S256_d0 h_S_

/-- The maxima, zero where one is not finite. -/
def guarded (M : Arr S256) : Arr S256 :=
  select (cmpf .olt (Host.absf M) (broadcastInDim S256 ![] bcast_S_S256 (constant S_ .f32 0x7F800000#32))) M (broadcastInDim S256 ![] bcast_S_S256 (id (constant S_ .f32 0x00000000#32)))

/-- The ids as a column of row numbers, negative ones wrapped. -/
def wrapped (ids : IVec S100000 32) : IVec S100000x1 32 :=
  broadcastInDim S100000x1 ![0] bcast_S100000_S100000x1_0 (select (cmpi .slt ids (broadcastInDim S100000 ![] bcast_S_S100000 (constantI S_ 32 0#32))) (addi ids (broadcastInDim S100000 ![] bcast_S_S100000 (constantI S_ 32 256#32))) ids)

/-- The nodes' exponentials. -/
def exps (ids : IVec S100000 32) (sc : Arr S100000) (G : Arr S256) : Arr S100000 :=
  Host.exp (subf sc (Host.gather gather_S256_S100000x1_S100000_n_0_n_n_0_1_1 G (wrapped ids)))

/-- The segments' sums of the exponentials. -/
def sums (ids : IVec S100000 32) (e : Arr S100000) : Arr S256 :=
  Host.scatterAdd scatter_S256_S100000x1_S100000_n_0_0_1 (broadcastInDim S256 ![] bcast_S_S256 (constant S_ .f32 0x00000000#32)) (broadcastInDim S100000x1 ![0] bcast_S100000_S100000x1_0 ids) e

/-- The nodes' shares of their segments. -/
def shares (ids : IVec S100000 32) (e : Arr S100000) : Arr S100000 :=
  Host.divf e (maximumf (Host.gather gather_S256_S100000x1_S100000_n_0_n_n_0_1_1 (sums ids e) (wrapped ids)) (broadcastInDim S100000 ![] bcast_S_S100000 (constant S_ .f32 0x2B8CBCCC#32)))

/-- The segments' weighted sums of rows. -/
def pooled (ids : IVec S100000 32) (a : Arr S100000) (R : Arr S100000x128) : Arr S256x128 :=
  Host.scatterAdd scatter_S256x128_S100000x1_S100000x128_1_0_0_1 (broadcastInDim S256x128 ![] bcast_S_S256x128 (constant S_ .f32 0x00000000#32)) (broadcastInDim S100000x1 ![0] bcast_S100000_S100000x1_0 ids) (mulf (broadcastInDim S100000x128 ![0, 1] bcast_S100000x1_S100000x128_0_1 (broadcastInDim S100000x1 ![0] bcast_S100000_S100000x1_0 a)) R)

/-- The result from the pooled rows. -/
def final (P : Arr S256x128) (Wo : Arr S128x1) (bo : Arr S1) : Arr S256 :=
  shapeCast _ (addf (Host.dotGeneral dot_S256x128_S128x1_S256x1_1_0_0_1_n_n none P Wo) (broadcastInDim S256x1 ![0, 1] bcast_S1x1_S256x1_0_1 (broadcastInDim S1x1 ![1] bcast_S1_S1x1_1 bo))) shapeCasts_S256x1_S256

/-- The reference's result from its arguments. -/
def result (A : Arr S100000x128) (ids : IVec S100000 32) (Wr : Arr S128x64) (br : Arr S64) (Wg : Arr S128x1) (bg : Arr S1) (Wo : Arr S128x1) (bo : Arr S1) : Arr S256 :=
  final (pooled ids (shares ids (exps ids (scores (rows A Wr br) Wg bg) (guarded (maxima ids (scores (rows A Wr br) Wg bg))))) (rows A Wr br)) Wo bo

/-- The reference's result is the composition of the stages named above. -/
theorem res_eq (m : (ℓ : Loc nD τ sig) → Buf (Elt Ideal) ℓ) (c : Dev nD) :
    Cert.ReferenceIdeal.Value.res_main_v55 (F := Ideal) m c
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-- The column of the projection at a column of the rows. -/
def half (c : Fin 128) : Fin 64 := ⟨c.val % 64, Nat.mod_lt _ (by omega)⟩

/-- A row's entry is the node's projected entry plus the bias, the same in both halves. -/
theorem rows_at (A : Arr S100000x128) (Wr : Arr S128x64) (br : Arr S64) (n : Fin 100000) (c : Fin 128) :
    rows A Wr br (ix2 n c) = (∑ x : Fin 128, A (ix2 n x) * Wr (ix2 x (half c))) + br (ix1 (half c)) := by
  unfold rows
  pointwise
  split_ifs with h h'
  · rw [show half c = (⟨c.val, h⟩ : Fin 64) from Fin.ext (Nat.mod_eq_of_lt h)]
  · rw [show half c = (⟨c.val - 64, by omega⟩ : Fin 64) from Fin.ext (show c.val % 64 = c.val - 64 by omega)]
  · exact absurd rfl h'

/-- A node's score is its row's product with the gate's weights, plus the gate's bias. -/
theorem scores_at (R : Arr S100000x128) (Wg : Arr S128x1) (bg : Arr S1) (n : Fin 100000) :
    scores R Wg bg (ix1 n) = (∑ x : Fin 128, R (ix2 n x) * Wg (ix2 x 0)) + bg (ix1 0) := by
  unfold scores
  pointwise

/-- The nodes of a segment. -/
def members (ids : IVec S100000 32) (b : ℕ) : Finset (Fin 100000) := Finset.univ.filter fun n => (ids (ix1 n)).toNat = b

/-- A masked maximum over all is the maximum over the mask. -/
theorem sup_mask {ι : Type} (u : Finset ι) (p : ι → Prop) [DecidablePred p] (f : ι → EReal) :
    (u.sup fun i => if p i then f i else ⊥) = (u.filter p).sup f := by
  apply le_antisymm
  · refine Finset.sup_le fun i hi => ?_
    split_ifs with h
    · exact Finset.le_sup (f := f) (Finset.mem_filter.2 ⟨hi, h⟩)
    · exact bot_le
  · refine Finset.sup_le fun i hi => ?_
    have h := Finset.mem_filter.1 hi
    refine le_trans (le_of_eq (if_pos h.2).symm) (Finset.le_sup (f := fun i => if p i then f i else ⊥) h.1)

/-- A segment's maximum is the greatest score of its members. -/
theorem maxima_at (ids : IVec S100000 32) (sc : Arr S100000) (b : Fin 256) :
    maxima ids sc (ix1 b) = (members ids b.val).sup fun n => (sc (ix1 n) : EReal) := by
  unfold maxima
  pointwise
  refine (fold_max _ _).trans ?_
  unfold members
  rw [← sup_mask]
  refine congrArg (Finset.sup Finset.univ) (funext fun n => ?_)
  have e : IntOp.cmpi .eq (ids (ix1 n)) (BitVec.ofNat 32 b.val) = 1#1 ↔ (ids (ix1 n)).toNat = b.val := by
    rw [cmpi_eq_iff]
    constructor
    · intro h
      rw [h, BitVec.toNat_ofNat]
      have := b.isLt
      omega
    · intro h
      rw [← h, BitVec.ofNat_toNat, BitVec.setWidth_eq]
  show (if IntOp.cmpi .eq (ids (ix1 n)) (BitVec.ofNat 32 b.val) = 1#1 then sc (ix1 n) else (Scalar.ofBits .f32 0xFF800000#32 : Ideal .f32)) = _
  rw [ofBits_neg_inf]
  exact if_congr e rfl rfl

/-- The word of positive infinity denotes the greatest extended real. -/
theorem ofBits_pos_inf : Ideal.ofBits .f32 0x7F800000#32 = ⊤ := by
  simp [Ideal.ofBits, Ideal.ieee]

/-- The guarded maximum is the maximum where it is finite, and zero elsewhere. -/
theorem guarded_at (M : Arr S256) (b : Fin 256) :
    guarded M (ix1 b) = if max (M (ix1 b) : EReal) (-(M (ix1 b) : EReal)) < ⊤ then M (ix1 b) else (0 : EReal) := by
  unfold guarded
  pointwise
  rw [ofBits_pos_inf]
  refine if_congr Iff.rfl rfl ?_
  exact Ideal.ofBits_zero_f32

/-- An id in range isn't changed by the wrap of negative indices. -/
theorem wrapped_at (ids : IVec S100000 32) (hr : ∀ j, (ids j).toNat < 256) (n : Fin 100000) : wrapped ids (ix2 n 0) = ids (ix1 n) := by
  unfold wrapped
  pointwise
  exact Routing.wrap_of_lt _ _ (lt_trans (hr _) (by norm_num))

/-- A node's entry of a table over the segments. -/
theorem gather_at (ids : IVec S100000 32) (hr : ∀ j, (ids j).toNat < 256) (G : Arr S256) (n : Fin 100000) :
    Host.gather gather_S256_S100000x1_S100000_n_0_n_n_0_1_1 G (wrapped ids) (ix1 n) = G (ix1 ⟨(ids (ix1 n)).toNat, hr _⟩) := by
  refine Routing.gather_take1 (N := 256) (n := 100000) gather_S256_S100000x1_S100000_n_0_n_n_0_1_1 rfl rfl rfl rfl G (wrapped ids) n _ ?_ (by norm_num)
  refine (wrapped_at ids hr n).trans ?_
  simp

/-- A node's exponential is of its score less its segment's guarded maximum. -/
theorem exps_at (ids : IVec S100000 32) (hr : ∀ j, (ids j).toNat < 256) (sc : Arr S100000) (G : Arr S256) (n : Fin 100000) :
    exps ids sc G (ix1 n) = Ideal.exp (sc (ix1 n) - G (ix1 ⟨(ids (ix1 n)).toNat, hr _⟩)) := by
  unfold exps
  pointwise
  rw [gather_at ids hr]

/-- A scatter with an add body, element by element. -/
theorem scatterAdd_eq {s si su : Shape} (d : ScatterDims s si su) (x : FVec Ideal s .f32) (idx : IVec si 32) (upd : FVec Ideal su .f32) (i : s.Idx) :
    Host.scatterAdd d x idx upd i = (x i + ∑ j ∈ Finset.univ.filter (fun j => d.resultIdx? j idx = some i), upd j : EReal) := rfl

/-- Where an update of the sums lands. -/
theorem lands_sums (ids : IVec S100000 32) (hr : ∀ j, (ids j).toNat < 256) (k : S100000.Idx) (b : Fin 256) :
    scatter_S256_S100000x1_S100000_n_0_0_1.resultIdx? k (broadcastInDim S100000x1 ![0] bcast_S100000_S100000x1_0 ids) = some (ix1 b) ↔ (ids k).toNat = b.val := by
  refine (Routing.resultIdx?_ix1 (N := 256) scatter_S256_S100000x1_S100000_n_0_0_1 k _ b).trans ?_
  have h1 : scatter_S256_S100000x1_S100000_n_0_0_1.start k (broadcastInDim S100000x1 ![0] bcast_S100000_S100000x1_0 ids) 0 = (ids k).toInt := by
    unfold ScatterDims.start
    refine (dif_pos (List.mem_singleton.2 rfl)).trans ?_
    refine congrArg BitVec.toInt (congrArg ids (funext fun a => ?_))
    obtain rfl : a = 0 := Subsingleton.elim _ _
    rfl
  have h2 : scatter_S256_S100000x1_S100000_n_0_0_1.window k 0 = 0 := by
    unfold ScatterDims.window
    exact dif_neg (by decide)
  rw [h1, h2]
  have := hr k
  rw [BitVec.toInt_eq_toNat_of_lt (by omega)]
  omega

/-- Where an update of the pooled rows lands. -/
theorem lands_pooled (ids : IVec S100000 32) (hr : ∀ j, (ids j).toNat < 256) (k : S100000x128.Idx) (b : Fin 256) (c : Fin 128) :
    scatter_S256x128_S100000x1_S100000x128_1_0_0_1.resultIdx? k (broadcastInDim S100000x1 ![0] bcast_S100000_S100000x1_0 ids) = some (ix2 b c)
      ↔ (ids (ix1 (k 0))).toNat = b.val ∧ (k 1).val = c.val := by
  refine (Routing.resultIdx?_ix2 (R := 256) (C := 128) scatter_S256x128_S100000x1_S100000x128_1_0_0_1 k _ b c).trans ?_
  have h1 : scatter_S256x128_S100000x1_S100000x128_1_0_0_1.start k (broadcastInDim S100000x1 ![0] bcast_S100000_S100000x1_0 ids) 0 = (ids (ix1 (k 0))).toInt := by
    unfold ScatterDims.start
    refine (dif_pos (List.mem_singleton.2 rfl)).trans ?_
    refine congrArg BitVec.toInt (congrArg ids (funext fun a => ?_))
    obtain rfl : a = 0 := Subsingleton.elim _ _
    rfl
  have h2 : scatter_S256x128_S100000x1_S100000x128_1_0_0_1.window k 0 = 0 := by
    unfold ScatterDims.window
    exact dif_neg (by decide)
  have h3 : scatter_S256x128_S100000x1_S100000x128_1_0_0_1.start k (broadcastInDim S100000x1 ![0] bcast_S100000_S100000x1_0 ids) 1 = 0 := by
    unfold ScatterDims.start
    exact dif_neg (by decide)
  have h4 : scatter_S256x128_S100000x1_S100000x128_1_0_0_1.window k 1 = (k 1).val := by
    unfold ScatterDims.window
    rw [dif_pos (by decide)]
    rfl
  rw [h1, h2, h3, h4]
  have := hr (ix1 (k 0))
  rw [BitVec.toInt_eq_toNat_of_lt (by omega)]
  omega

/-- A segment's denominator is the sum over its members. -/
theorem sums_at (ids : IVec S100000 32) (hr : ∀ j, (ids j).toNat < 256) (e : Arr S100000) (b : Fin 256) :
    sums ids e (ix1 b) = ∑ n ∈ members ids b.val, (e (ix1 n) : EReal) := by
  unfold sums
  refine (scatterAdd_eq _ _ _ _ _).trans ?_
  refine (congrArg₂ (· + ·) Ideal.ofBits_zero_f32 rfl).trans ?_
  rw [zero_add]
  simp only [lands_sums ids hr]
  refine Finset.sum_bij (fun j _ => (j 0 : Fin 100000)) ?_ ?_ ?_ ?_
  · intro j hj
    have h := (Finset.mem_filter.1 hj).2
    rw [eq_ix1 j] at h
    exact Finset.mem_filter.2 ⟨Finset.mem_univ _, h⟩
  · intro i _ j _ h
    rw [eq_ix1 i, eq_ix1 j]
    exact congrArg ix1 h
  · intro n hn
    exact ⟨ix1 n, Finset.mem_filter.2 ⟨Finset.mem_univ _, (Finset.mem_filter.1 hn).2⟩, rfl⟩
  · intro j _
    exact congrArg e (eq_ix1 j)

/-- A node's share is its exponential over its segment's denominator, kept from zero. -/
theorem shares_at (ids : IVec S100000 32) (hr : ∀ j, (ids j).toNat < 256) (e : Arr S100000) (n : Fin 100000) :
    shares ids e (ix1 n) = Ideal.div (e (ix1 n)) (max (sums ids e (ix1 ⟨(ids (ix1 n)).toNat, hr _⟩) : EReal) (Ideal.ofBits .f32 0x2B8CBCCC#32)) := by
  unfold shares
  pointwise
  rw [gather_at ids hr]

/-- A segment's pooled row is its members' rows added, each times its share. -/
theorem pooled_at (ids : IVec S100000 32) (hr : ∀ j, (ids j).toNat < 256) (a : Arr S100000) (R : Arr S100000x128) (b : Fin 256) (c : Fin 128) :
    pooled ids a R (ix2 b c) = ∑ n ∈ members ids b.val, (a (ix1 n) * R (ix2 n c) : EReal) := by
  have hu : ∀ (n : Fin 100000) (c : Fin 128), mulf (broadcastInDim S100000x128 ![0, 1] bcast_S100000x1_S100000x128_0_1 (broadcastInDim S100000x1 ![0] bcast_S100000_S100000x1_0 a)) R (ix2 n c) = (a (ix1 n) * R (ix2 n c) : EReal) := by
    intro n c
    pointwise
  unfold pooled
  refine (scatterAdd_eq _ _ _ _ _).trans ?_
  refine (congrArg₂ (· + ·) Ideal.ofBits_zero_f32 rfl).trans ?_
  rw [zero_add]
  simp only [lands_pooled ids hr]
  refine Finset.sum_bij (fun j _ => (j 0 : Fin 100000)) ?_ ?_ ?_ ?_
  · intro j hj
    exact Finset.mem_filter.2 ⟨Finset.mem_univ _, (Finset.mem_filter.1 hj).2.1⟩
  · intro i hi j hj h
    rw [Finset.mem_filter] at hi hj
    rw [eq_ix2 i, eq_ix2 j]
    exact congrArg₂ ix2 h (Fin.ext (hi.2.2.trans hj.2.2.symm))
  · intro n hn
    exact ⟨ix2 n c, Finset.mem_filter.2 ⟨Finset.mem_univ _, (Finset.mem_filter.1 hn).2, rfl⟩, rfl⟩
  · intro j hj
    rw [Finset.mem_filter] at hj
    have e : j = ix2 (j 0) c := (eq_ix2 j).trans (congrArg (ix2 (j 0)) (Fin.ext hj.2.2))
    exact (congrArg _ e).trans (hu (j 0) c)

/-- A segment's result is its pooled row's product with the output's weights, plus the output's bias. -/
theorem final_at (P : Arr S256x128) (Wo : Arr S128x1) (bo : Arr S1) (b : Fin 256) :
    final P Wo bo (ix1 b) = (∑ x : Fin 128, P (ix2 b x) * Wo (ix2 x 0)) + bo (ix1 0) := by
  unfold final
  pointwise

end Cert.Proof.Pool.Ref

end
-- ==== Proof.Reals.lean ====
/-
  The two programs' values at finite inputs: both are real numbers, and the same ones.
-/
module

public import proofs.«01_k».proof.Proof.KerValue
public import proofs.«01_k».proof.Proof.RefValue

@[expose] public section

noncomputable section

namespace Cert.Proof.Pool

open Cert.KernelIdeal Cert.KernelIdeal.Gen
open Idealize.ShloMosaic

set_option maxRecDepth 16384

/-- A finite sum of reals, read as extended reals. -/
theorem real_sum {ι : Type} (u : Finset ι) (f : ι → ℝ) : ∑ i ∈ u, (f i : EReal) = ((∑ i ∈ u, f i : ℝ) : EReal) := by
  classical
  induction u using Finset.induction_on with
  | empty => simp
  | insert a u ha ih => rw [Finset.sum_insert ha, Finset.sum_insert ha, ih, EReal.coe_add]

/-- The maximum of reals, where it is attained. -/
theorem real_sup {ι : Type} {u : Finset ι} {f : ι → ℝ} {i : ι} (hi : i ∈ u) (h : ∀ j ∈ u, f j ≤ f i) : (u.sup fun j => (f j : EReal)) = (f i : EReal) :=
  le_antisymm (Finset.sup_le fun j hj => EReal.coe_le_coe_iff.2 (h j hj)) (Finset.le_sup (f := fun j => (f j : EReal)) hi)

/-- The word of 1e-12 is a real number above zero and at most one. -/
theorem eps_real : ∃ e : ℝ, 0 < e ∧ e ≤ 1 ∧ Ideal.ofBits .f32 0x2B8CBCCC#32 = (e : EReal) := by
  simp only [Ideal.ofBits, Ideal.ieee]
  simp
  exact ⟨9223372 * (2 ^ 63)⁻¹, by norm_num, by norm_num, (EReal.coe_mul _ _).symm⟩

/-- Zero over anything real and above zero. -/
theorem div_zero {e : ℝ} (h : 0 < e) : Ideal.div 0 (e : EReal) = 0 := by
  rw [Ideal.div_coe (ne_of_gt h), zero_mul]

/-- A quotient of reals. -/
theorem div_real {x e : ℝ} (h : 0 < e) : Ideal.div (x : EReal) (e : EReal) = ((x / e : ℝ) : EReal) := by
  rw [Ideal.div_coe (ne_of_gt h), ← EReal.coe_mul, mul_one_div]

/-! ## The tiles' parts of a segment -/

variable (ids : S100000.Idx → BitVec 32)

/-- The tiles' nodes of a segment are the segment's nodes. -/
theorem tiles_cover (b : ℕ) : (Finset.univ.biUnion fun w : Fin 32 => tileSeg ids w.val b) = seg ids 0 100000 b := by
  ext n
  simp only [Finset.mem_biUnion, Finset.mem_univ, true_and, tileSeg, seg, Finset.mem_filter, Finset.mem_Ico, tripsOf]
  constructor
  · rintro ⟨w, ⟨h1, h2⟩, h3⟩
    have := w.isLt
    refine ⟨⟨by omega, ?_⟩, h3⟩
    split at h2 <;> omega
  · rintro ⟨⟨h1, h2⟩, h3⟩
    refine ⟨⟨n / 3136, by omega⟩, ⟨?_, ?_⟩, h3⟩
    · show 3136 * (n / 3136) ≤ n
      omega
    · show n < 3136 * (n / 3136) + 32 * (if n / 3136 = 31 then 87 else 98)
      split <;> omega

/-- Different tiles have different nodes. -/
theorem tiles_disjoint (b : ℕ) : ((Finset.univ : Finset (Fin 32)) : Set (Fin 32)).PairwiseDisjoint fun w : Fin 32 => tileSeg ids w.val b := by
  intro v _ w _ hvw
  refine Finset.disjoint_left.2 fun n hv hw => hvw (Fin.ext ?_)
  have hv := Finset.mem_Ico.1 (Finset.mem_filter.1 hv).1
  have hw := Finset.mem_Ico.1 (Finset.mem_filter.1 hw).1
  have h1 : tripsOf v.val ≤ 98 := by unfold tripsOf; split <;> omega
  have h2 : tripsOf w.val ≤ 98 := by unfold tripsOf; split <;> omega
  omega

/-- The maximum over all tiles is the maximum over the segment. -/
theorem allMax_eq (S : ℕ → EReal) (b : ℕ) : allMax ids S b = (seg ids 0 100000 b).sup S := by
  rw [← tiles_cover, Finset.sup_biUnion]
  rfl

/-- A tile's part of the sum, brought to the maximum `M` over all tiles. -/
theorem part_scaled (S f : ℕ → ℝ) (b w : ℕ) {M : ℝ} (hM : allMax ids (fun n => (S n : EReal)) b = (M : EReal)) :
    partSum ids (fun n => (S n : EReal)) (fun n => (f n : EReal)) b w * scale ids (fun n => (S n : EReal)) b w
      = ((∑ n ∈ tileSeg ids w b, Real.exp (S n - M) * f n : ℝ) : EReal) := by
  rcases Finset.eq_empty_or_nonempty (tileSeg ids w b) with h | h
  · unfold partSum
    rw [h, Finset.sum_empty, Finset.sum_empty, zero_mul, EReal.coe_zero]
  · obtain ⟨i, hi, hmax⟩ := Finset.exists_max_image (tileSeg ids w b) S h
    have e : partMax ids (fun n => (S n : EReal)) b w = (S i : EReal) := real_sup hi hmax
    unfold partSum scale
    rw [e, if_neg (EReal.coe_ne_bot _), hM, ← EReal.coe_sub, Ideal.exp_coe]
    have e2 : ∀ n ∈ tileSeg ids w b, Ideal.exp ((S n : EReal) - (S i : EReal)) * (f n : EReal) = ((Real.exp (S n - S i) * f n : ℝ) : EReal) := fun n _ => by
      rw [← EReal.coe_sub, Ideal.exp_coe, EReal.coe_mul]
    rw [Finset.sum_congr rfl e2, real_sum, ← EReal.coe_mul, Finset.sum_mul]
    refine congrArg _ (Finset.sum_congr rfl fun n _ => ?_)
    rw [mul_right_comm, ← Real.exp_add]
    congr 2
    ring

/-- The tiles' sums together are the segment's sum. -/
theorem allSum_eq (S f : ℕ → ℝ) (b : ℕ) {M : ℝ} (hM : allMax ids (fun n => (S n : EReal)) b = (M : EReal)) :
    allSum ids (fun n => (S n : EReal)) (fun n => (f n : EReal)) b = ((∑ n ∈ seg ids 0 100000 b, Real.exp (S n - M) * f n : ℝ) : EReal) := by
  unfold allSum
  rw [Finset.sum_congr rfl fun (w : Fin 32) _ => part_scaled ids S f b w.val hM, real_sum, ← tiles_cover, Finset.sum_biUnion (tiles_disjoint ids b)]

/-- At a segment with no node the tiles' sums are zero. -/
theorem allSum_none (S f : ℕ → EReal) (b : ℕ) (h : seg ids 0 100000 b = ∅) : allSum ids S f b = 0 := by
  refine Finset.sum_eq_zero fun w _ => ?_
  have e : tileSeg ids w.val b = ∅ := by
    rw [Finset.eq_empty_iff_forall_notMem]
    intro n hn
    have : n ∈ seg ids 0 100000 b := by
      rw [← tiles_cover]
      exact Finset.mem_biUnion.2 ⟨w, Finset.mem_univ _, hn⟩
    rw [h] at this
    exact absurd this (Finset.notMem_empty n)
  unfold partSum
  rw [e, Finset.sum_empty, zero_mul]

/-- The program's value at a segment with no node. -/
theorem pooledValue_none (S T : ℕ → EReal) (c bo : EReal) (b : ℕ) (h : seg ids 0 100000 b = ∅) : pooledValue ids S T c bo b = bo := by
  obtain ⟨e, he, -, hb⟩ := eps_real
  unfold pooledValue
  rw [allSum_none ids S T b h, allSum_none ids S _ b h, hb, max_eq_right (EReal.coe_nonneg.2 he.le), div_zero he, if_neg (lt_irrefl _), zero_mul, zero_add, zero_add]

/-- The program's value at a segment whose largest score is node `i`'s. -/
theorem pooledValue_some (S T : ℕ → ℝ) (c : ℝ) (bo : EReal) (b : ℕ) {i : ℕ} (hi : i ∈ seg ids 0 100000 b) (hmax : ∀ n ∈ seg ids 0 100000 b, S n ≤ S i) :
    pooledValue ids (fun n => (S n : EReal)) (fun n => (T n : EReal)) (c : EReal) bo b
      = (((∑ n ∈ seg ids 0 100000 b, Real.exp (S n - S i) * T n) / (∑ n ∈ seg ids 0 100000 b, Real.exp (S n - S i)) + c : ℝ) : EReal) + bo := by
  obtain ⟨e, he, he1, hb⟩ := eps_real
  have hM : allMax ids (fun n => (S n : EReal)) b = (S i : EReal) := (allMax_eq ids _ b).trans (real_sup hi hmax)
  have h1 : (1 : ℝ) ≤ ∑ n ∈ seg ids 0 100000 b, Real.exp (S n - S i) := by
    have := Finset.single_le_sum (f := fun n => Real.exp (S n - S i)) (fun n _ => (Real.exp_pos _).le) hi
    simpa using this
  have hd : allSum ids (fun n => (S n : EReal)) (fun _ => 1) b = ((∑ n ∈ seg ids 0 100000 b, Real.exp (S n - S i) : ℝ) : EReal) := by
    have := allSum_eq ids S (fun _ => 1) b hM
    simpa using this
  unfold pooledValue
  rw [allSum_eq ids S T b hM, hd, hb, max_eq_left (EReal.coe_le_coe_iff.2 (he1.trans h1)), div_real (by linarith), if_pos (EReal.coe_pos.2 (by linarith)), one_mul,
    EReal.coe_add]

/-! ## The same node sums on both sides -/

/-- A node's index from its number. -/
theorem node_ix1 (n : ℕ) : ix1 (node n 0 : Fin 100000) = node n := (eq_ix1 _).symm

/-- A segment's nodes, by number. -/
theorem mem_seg {b n : ℕ} (hn : n ∈ seg ids 0 100000 b) : (node n 0 : Fin 100000) ∈ Ref.members ids b :=
  Finset.mem_filter.2 ⟨Finset.mem_univ _, (congrArg (fun j => (ids j).toNat) (node_ix1 n)).trans (Finset.mem_filter.1 hn).2⟩

/-- A sum over a segment's nodes, by number and by index. -/
theorem sum_members (b : ℕ) (f : Fin 100000 → ℝ) : ∑ n ∈ seg ids 0 100000 b, f (node n 0) = ∑ n ∈ Ref.members ids b, f n := by
  refine Finset.sum_bij (fun n _ => (node n 0 : Fin 100000)) ?_ ?_ ?_ ?_
  · intro n hn
    exact mem_seg ids hn
  · intro n hn k hk h
    have hn := (Finset.mem_Ico.1 (Finset.mem_filter.1 hn).1).2
    have hk := (Finset.mem_Ico.1 (Finset.mem_filter.1 hk).1).2
    have h := congrArg Fin.val h
    rwa [node_val hn, node_val hk] at h
  · intro n hn
    have hv : node n.val = ix1 n := node_eq (ix1 n)
    refine ⟨n.val, Finset.mem_filter.2 ⟨Finset.mem_Ico.2 ⟨Nat.zero_le _, n.isLt⟩, ?_⟩, congrFun hv 0⟩
    rw [hv]
    exact (Finset.mem_filter.1 hn).2
  · intro n _
    rfl

/-- And by index. -/
theorem mem_members {b : ℕ} {n : Fin 100000} (hn : n ∈ Ref.members ids b) : n.val ∈ seg ids 0 100000 b ∧ (node n.val 0 : Fin 100000) = n := by
  have hv : node n.val = ix1 n := node_eq (ix1 n)
  refine ⟨Finset.mem_filter.2 ⟨Finset.mem_Ico.2 ⟨Nat.zero_le _, n.isLt⟩, ?_⟩, congrFun hv 0⟩
  rw [hv]
  exact (Finset.mem_filter.1 hn).2

/-! ## The reference at finite inputs -/

variable (A : S100000x128.Idx → ℝ) (Wr : S128x64.Idx → ℝ) (br : S64.Idx → ℝ) (Wg : S128x1.Idx → ℝ) (bg : S1.Idx → ℝ) (Wo : S128x1.Idx → ℝ)

/-- `through`, of reals. -/
def throughR (W : S128x1.Idx → ℝ) (n : Fin 100000) : ℝ :=
  ∑ k : Fin 128, A (ix2 n k) * ∑ h : Fin 64, Wr (ix2 k h) * (W (ix2 (low h) 0) + W (ix2 (high h) 0))

/-- `mix`, of reals. -/
def mixR (W : S128x1.Idx → ℝ) : ℝ := ∑ h : Fin 64, br (ix1 h) * (W (ix2 (low h) 0) + W (ix2 (high h) 0))

/-- A column of a node's row, of reals. -/
def rowR (n : Fin 100000) (c : Fin 128) : ℝ := (∑ x : Fin 128, A (ix2 n x) * Wr (ix2 x (Ref.half c))) + br (ix1 (Ref.half c))

/-- At finite inputs a node's product through the kernel's mixed matrix is a real number. -/
theorem through_real (W : S128x1.Idx → ℝ) (n : Fin 100000) :
    through (fun j => (A j : EReal)) (fun j => (Wr j : EReal)) (fun j => (W j : EReal)) n = (throughR A Wr W n : EReal) := by
  unfold through throughR
  simp only [← EReal.coe_add, ← EReal.coe_mul, real_sum]

/-- At finite inputs the bias's product with the added halves is a real number. -/
theorem mix_real (W : S128x1.Idx → ℝ) : mix (fun j => (br j : EReal)) (fun j => (W j : EReal)) = (mixR br W : EReal) := by
  unfold mix mixR
  simp only [← EReal.coe_add, ← EReal.coe_mul, real_sum]

/-- At finite inputs the reference's rows are real numbers. -/
theorem rows_real (n : Fin 100000) (c : Fin 128) :
    Ref.rows (fun j => (A j : EReal)) (fun j => (Wr j : EReal)) (fun j => (br j : EReal)) (ix2 n c) = (rowR A Wr br n c : EReal) := by
  rw [Ref.rows_at]
  unfold rowR
  simp only [← EReal.coe_add, ← EReal.coe_mul, real_sum]

/-- A sum over a row's columns, by halves. -/
theorem sum_halves (f : Fin 128 → ℝ) : ∑ c : Fin 128, f c = ∑ h : Fin 64, (f (low h) + f (high h)) := by
  rw [Finset.sum_add_distrib]
  exact Fin.sum_univ_add (a := 64) (b := 64) f

/-- A node's row through `W`, regrouped. -/
theorem row_through (W : S128x1.Idx → ℝ) (n : Fin 100000) : ∑ c : Fin 128, rowR A Wr br n c * W (ix2 c 0) = throughR A Wr W n + mixR br W := by
  have hl : ∀ h : Fin 64, Ref.half (low h) = h := fun h => Fin.ext (Nat.mod_eq_of_lt h.isLt)
  have hh : ∀ h : Fin 64, Ref.half (high h) = h := fun h => Fin.ext (by show (64 + h.val) % 64 = h.val; omega)
  have e : ∀ h : Fin 64, rowR A Wr br n (low h) * W (ix2 (low h) 0) + rowR A Wr br n (high h) * W (ix2 (high h) 0)
      = (∑ k : Fin 128, A (ix2 n k) * Wr (ix2 k h)) * (W (ix2 (low h) 0) + W (ix2 (high h) 0)) + br (ix1 h) * (W (ix2 (low h) 0) + W (ix2 (high h) 0)) := fun h => by
    unfold rowR
    rw [hl, hh]
    ring
  rw [sum_halves, Finset.sum_congr rfl fun h _ => e h, Finset.sum_add_distrib]
  refine congrArg₂ (· + ·) ?_ rfl
  unfold throughR
  simp only [Finset.mul_sum, Finset.sum_mul]
  rw [Finset.sum_comm]
  exact Finset.sum_congr rfl fun k _ => Finset.sum_congr rfl fun h _ => mul_assoc _ _ _

/-- At finite inputs the reference's score of a node is the kernel's plus a constant. -/
theorem scores_real (n : Fin 100000) :
    Ref.scores (Ref.rows (fun j => (A j : EReal)) (fun j => (Wr j : EReal)) (fun j => (br j : EReal))) (fun j => (Wg j : EReal)) (fun j => (bg j : EReal)) (ix1 n)
      = ((throughR A Wr Wg n + (mixR br Wg + bg (ix1 0)) : ℝ) : EReal) := by
  rw [Ref.scores_at, ← add_assoc, ← row_through A Wr br Wg n]
  simp only [rows_real, ← EReal.coe_add, ← EReal.coe_mul, real_sum]

/-- The reference's value at a segment with no node. -/
theorem result_none (hr : InRange ids) (bo : S1.Idx → EReal) (b : Fin 256) (h : Ref.members ids b.val = ∅) (A Wr br Wg bg) :
    Ref.result A ids Wr br Wg bg (fun j => (Wo j : EReal)) bo (ix1 b) = bo (ix1 0) := by
  unfold Ref.result
  rw [Ref.final_at]
  have e : ∀ x : Fin 128, Ref.pooled ids (Ref.shares ids (Ref.exps ids (Ref.scores (Ref.rows A Wr br) Wg bg) (Ref.guarded (Ref.maxima ids (Ref.scores (Ref.rows A Wr br) Wg bg)))))
      (Ref.rows A Wr br) (ix2 b x) = (0 : EReal) := fun x => by
    rw [Ref.pooled_at ids hr, h, Finset.sum_empty]
  simp only [e, zero_mul, Finset.sum_const_zero, zero_add]

/-- The reference's value at a segment whose largest score is node `i`'s. -/
theorem result_some (hr : InRange ids) (bo : S1.Idx → EReal) (b : Fin 256) {i : Fin 100000} (hi : i ∈ Ref.members ids b.val)
    (hmax : ∀ n ∈ Ref.members ids b.val, throughR A Wr Wg n ≤ throughR A Wr Wg i) :
    Ref.result (fun j => (A j : EReal)) ids (fun j => (Wr j : EReal)) (fun j => (br j : EReal)) (fun j => (Wg j : EReal)) (fun j => (bg j : EReal)) (fun j => (Wo j : EReal)) bo (ix1 b)
      = (((∑ n ∈ Ref.members ids b.val, Real.exp (throughR A Wr Wg n - throughR A Wr Wg i) * throughR A Wr Wo n)
          / (∑ n ∈ Ref.members ids b.val, Real.exp (throughR A Wr Wg n - throughR A Wr Wg i)) + mixR br Wo : ℝ) : EReal) + bo (ix1 0) := by
  obtain ⟨ε, he, he1, hb⟩ := eps_real
  generalize hR : Ref.rows (fun j => (A j : EReal)) (fun j => (Wr j : EReal)) (fun j => (br j : EReal)) = R
  generalize hS : Ref.scores R (fun j => (Wg j : EReal)) (fun j => (bg j : EReal)) = sc
  have hrow : ∀ n c, R (ix2 n c) = (rowR A Wr br n c : EReal) := fun n c => by rw [← hR, rows_real]
  have hsc : ∀ n, sc (ix1 n) = ((throughR A Wr Wg n + (mixR br Wg + bg (ix1 0)) : ℝ) : EReal) := fun n => by rw [← hS, ← hR, scores_real]
  have hM : Ref.guarded (Ref.maxima ids sc) (ix1 b) = ((throughR A Wr Wg i + (mixR br Wg + bg (ix1 0)) : ℝ) : EReal) := by
    have e : Ref.maxima ids sc (ix1 b) = ((throughR A Wr Wg i + (mixR br Wg + bg (ix1 0)) : ℝ) : EReal) := by
      rw [Ref.maxima_at]
      simp only [hsc]
      exact real_sup (f := fun n => throughR A Wr Wg n + (mixR br Wg + bg (ix1 0))) hi fun n hn => add_le_add (hmax n hn) le_rfl
    rw [Ref.guarded_at, e, ← EReal.coe_neg]
    exact if_pos (max_lt (EReal.coe_lt_top _) (EReal.coe_lt_top _))
  generalize hG : Ref.guarded (Ref.maxima ids sc) = G at hM
  have hseg : ∀ n ∈ Ref.members ids b.val, (⟨(ids (ix1 n)).toNat, hr _⟩ : Fin 256) = b := fun n hn => Fin.ext (Finset.mem_filter.1 hn).2
  have hexp : ∀ n ∈ Ref.members ids b.val, Ref.exps ids sc G (ix1 n) = (Real.exp (throughR A Wr Wg n - throughR A Wr Wg i) : EReal) := fun n hn => by
    rw [Ref.exps_at ids hr, hseg n hn, hsc, hM, ← EReal.coe_sub, Ideal.exp_coe, add_sub_add_right_eq_sub]
  generalize hE : Ref.exps ids sc G = E at hexp
  have h1 : (1 : ℝ) ≤ ∑ n ∈ Ref.members ids b.val, Real.exp (throughR A Wr Wg n - throughR A Wr Wg i) := by
    have := Finset.single_le_sum (f := fun n => Real.exp (throughR A Wr Wg n - throughR A Wr Wg i)) (fun n _ => (Real.exp_pos _).le) hi
    simpa using this
  have hsum : Ref.sums ids E (ix1 b) = ((∑ n ∈ Ref.members ids b.val, Real.exp (throughR A Wr Wg n - throughR A Wr Wg i) : ℝ) : EReal) := by
    rw [Ref.sums_at ids hr, Finset.sum_congr rfl hexp, real_sum]
  generalize hD : (∑ n ∈ Ref.members ids b.val, Real.exp (throughR A Wr Wg n - throughR A Wr Wg i)) = D at h1 hsum
  have hshare : ∀ n ∈ Ref.members ids b.val, Ref.shares ids E (ix1 n) = ((Real.exp (throughR A Wr Wg n - throughR A Wr Wg i) / D : ℝ) : EReal) := fun n hn => by
    rw [Ref.shares_at ids hr, hseg n hn, hsum, hexp n hn, hb, max_eq_left (EReal.coe_le_coe_iff.2 (he1.trans h1)), div_real (by linarith)]
  have hpool : ∀ c, Ref.pooled ids (Ref.shares ids E) R (ix2 b c)
      = ((∑ n ∈ Ref.members ids b.val, Real.exp (throughR A Wr Wg n - throughR A Wr Wg i) / D * rowR A Wr br n c : ℝ) : EReal) := fun c => by
    rw [Ref.pooled_at ids hr, ← real_sum]
    refine Finset.sum_congr rfl fun n hn => ?_
    rw [hshare n hn, hrow, EReal.coe_mul]
  unfold Ref.result
  rw [hR, hS, hG, hE, Ref.final_at]
  refine congrArg (fun x : EReal => x + bo (ix1 0)) ?_
  simp only [hpool, ← EReal.coe_mul, real_sum]
  refine congrArg _ ?_
  have hD0 : D ≠ 0 := by linarith
  simp only [Finset.sum_mul]
  rw [Finset.sum_comm]
  have e : ∀ n, ∑ c : Fin 128, Real.exp (throughR A Wr Wg n - throughR A Wr Wg i) / D * rowR A Wr br n c * Wo (ix2 c 0)
      = Real.exp (throughR A Wr Wg n - throughR A Wr Wg i) * throughR A Wr Wo n / D + Real.exp (throughR A Wr Wg n - throughR A Wr Wg i) * (mixR br Wo / D) := fun n => by
    simp only [mul_assoc]
    rw [← Finset.mul_sum, row_through]
    ring
  rw [Finset.sum_congr rfl fun n _ => e n, Finset.sum_add_distrib, ← Finset.sum_div, ← Finset.sum_mul, hD]
  refine congrArg₂ (· + ·) rfl ?_
  field_simp

/-! ## The two together -/

/-- At ids in range and finite inputs the two programs' values agree at every segment. -/
theorem values_agree (hr : InRange ids) (bo : S1.Idx → EReal) (b : Fin 256) :
    pooledValue ids (fun n => through (fun j => (A j : EReal)) (fun j => (Wr j : EReal)) (fun j => (Wg j : EReal)) (node n 0))
      (fun n => through (fun j => (A j : EReal)) (fun j => (Wr j : EReal)) (fun j => (Wo j : EReal)) (node n 0))
      (mix (fun j => (br j : EReal)) (fun j => (Wo j : EReal))) (bo (ix1 0)) b.val
      = Ref.result (fun j => (A j : EReal)) ids (fun j => (Wr j : EReal)) (fun j => (br j : EReal)) (fun j => (Wg j : EReal)) (fun j => (bg j : EReal)) (fun j => (Wo j : EReal)) bo (ix1 b) := by
  have eS : ∀ W : S128x1.Idx → ℝ, (fun n => through (fun j => (A j : EReal)) (fun j => (Wr j : EReal)) (fun j => (W j : EReal)) (node n 0)) = fun n => (throughR A Wr W (node n 0) : EReal) :=
    fun W => funext fun n => through_real A Wr W (node n 0)
  rw [eS Wg, eS Wo, mix_real]
  rcases Finset.eq_empty_or_nonempty (Ref.members ids b.val) with h | h
  · rw [result_none ids Wo hr bo b h]
    refine pooledValue_none ids _ _ _ _ _ ?_
    rw [Finset.eq_empty_iff_forall_notMem]
    intro n hn
    have := mem_seg ids hn
    rw [h] at this
    exact absurd this (Finset.notMem_empty _)
  · obtain ⟨i, hi, hmax⟩ := Finset.exists_max_image _ (throughR A Wr Wg) h
    obtain ⟨hi', hn⟩ := mem_members ids hi
    have hle : ∀ n ∈ seg ids 0 100000 b.val, throughR A Wr Wg (node n 0) ≤ throughR A Wr Wg (node i.val 0) := fun n hn' => by
      rw [hn]
      exact hmax _ (mem_seg ids hn')
    have key := pooledValue_some ids (fun n => throughR A Wr Wg (node n 0)) (fun n => throughR A Wr Wo (node n 0)) (mixR br Wo) (bo (ix1 0)) b.val hi' hle
    have e1 := sum_members ids b.val fun n => Real.exp (throughR A Wr Wg n - throughR A Wr Wg i) * throughR A Wr Wo n
    have e2 := sum_members ids b.val fun n => Real.exp (throughR A Wr Wg n - throughR A Wr Wg i)
    have r := result_some ids A Wr br Wg bg Wo hr bo b hi hmax
    rw [← e1, ← e2] at r
    simp only [hn] at key
    exact key.trans r.symm

end Cert.Proof.Pool

end
-- ==== Proof.Algebraic.lean ====
/-
  The values: at ids in range and ascending and at finite inputs, the pooling program and the reference end with equal results.
-/
module

public import proofs.«01_k».proof.Proof.Frames
public import proofs.«01_k».proof.Proof.Reals

@[expose] public section

noncomputable section

namespace Cert.Proof.Pool

open Cert.KernelIdeal Cert.KernelIdeal.Gen
open Idealize.ShloMosaic Idealize.SL.Sem

/-- An array whose elements' absolute values are all below infinity holds reals. -/
theorem finite_of_all {s t u : Shape} {axes : List (Fin s.rank)} [Subsingleton t.Idx] (x : s.Idx → EReal)
    (hb : Cert.Pre_inputs_tame.S_.BroadcastsInDim s (![] : Fin 0 → Fin s.rank)) (init : u.Idx → BitVec 1) (h : s.ReducesTo axes t) (hu : 0 < u.numel) (j : t.Idx)
    (e : Host.reduce IntOp.andi (cmpf (F := Ideal) (φ := .f32) .olt (Host.absf (F := Ideal) (φ := .f32) x) (broadcastInDim s ![] hb (constant (F := Ideal) Cert.Pre_inputs_tame.S_ .f32 0x7F800000#32))) init h hu j = 1#1) :
    ∃ r : s.Idx → ℝ, x = fun i => (r i : EReal) := by
  refine ⟨fun i => (x i).toReal, funext fun i => ?_⟩
  have e : Ideal.cmp .olt (max (x i) (-(x i))) (Ideal.ofBits .f32 0x7F800000#32) = 1#1 := Host.reduce_andi_all _ _ _ _ j e i
  rw [Ref.ofBits_pos_inf] at e
  have e := of_decide_eq_true ((WordCmp.ofBool_eq_one_iff _).1 e)
  have e := max_lt_iff.1 e
  refine (EReal.coe_toReal (ne_of_lt e.1) fun hbot => ?_).symm
  rw [hbot, EReal.neg_bot] at e
  exact lt_irrefl _ e.2

/-- Ids in range of which each is at most the next ascend. -/
theorem sorted_of_all (ids : S100000.Idx → BitVec 32) (hr : InRange ids) (j0) (init)
    (h : Host.reduce IntOp.andi (cmpi .sle (extractStridedSlice Cert.Pre_inputs_tame.S99999 ![0] ids Cert.Pre_inputs_tame.Gen.facts.slices_S100000_S99999_0)
      (extractStridedSlice Cert.Pre_inputs_tame.S99999 ![1] ids Cert.Pre_inputs_tame.Gen.facts.slices_S100000_S99999_1)) init
      Cert.Pre_inputs_tame.Gen.facts.reducesTo_S99999_S_d0 Cert.Pre_inputs_tame.Gen.facts.h_S_ j0 = 1#1) : SortedIds ids := by
  haveI : Subsingleton Cert.Pre_inputs_tame.S_.Idx := ⟨fun a b => funext fun k => k.elim0⟩
  have step : ∀ n, n < 99999 → (ids (node n)).toNat ≤ (ids (node (n + 1))).toNat := fun n hn => by
    have e : cmpi .sle (extractStridedSlice Cert.Pre_inputs_tame.S99999 ![0] ids Cert.Pre_inputs_tame.Gen.facts.slices_S100000_S99999_0)
      (extractStridedSlice Cert.Pre_inputs_tame.S99999 ![1] ids Cert.Pre_inputs_tame.Gen.facts.slices_S100000_S99999_1) (ix1 ⟨n, hn⟩) = 1#1 := Host.reduce_andi_all _ _ _ _ j0 h _
    have e1 : extractStridedSlice Cert.Pre_inputs_tame.S99999 ![0] ids Cert.Pre_inputs_tame.Gen.facts.slices_S100000_S99999_0 (ix1 ⟨n, hn⟩) = ids (node n) := by
      refine congrArg ids (funext fun a => Fin.ext ?_)
      obtain rfl : a = 0 := Subsingleton.elim _ _
      rw [node_val (by omega)]
      show 0 + n = n
      omega
    have e2 : extractStridedSlice Cert.Pre_inputs_tame.S99999 ![1] ids Cert.Pre_inputs_tame.Gen.facts.slices_S100000_S99999_1 (ix1 ⟨n, hn⟩) = ids (node (n + 1)) := by
      refine congrArg ids (funext fun a => Fin.ext ?_)
      obtain rfl : a = 0 := Subsingleton.elim _ _
      rw [node_val (by omega)]
      show 1 + n = n + 1
      omega
    have e : IntOp.cmpi .sle (ids (node n)) (ids (node (n + 1))) = 1#1 := by
      rw [← e1, ← e2]
      exact e
    rw [WordCmp.cmpi_sle_of_lt (lt_trans (hr _) (by norm_num)) (lt_trans (hr _) (by norm_num))] at e
    exact of_decide_eq_true ((WordCmp.ofBool_eq_one_iff _).1 e)
  have clamp : ∀ n, 99999 ≤ n → node n = node 99999 := fun n hn => by
    funext a
    obtain rfl : a = 0 := Subsingleton.elim _ _
    exact Fin.ext (by show min n 99999 = min 99999 99999; omega)
  intro a b hab
  induction b, hab using Nat.le_induction with
  | base => exact le_rfl
  | succ n hn ih =>
    rcases Nat.lt_or_ge n 99999 with h | h
    · exact ih.trans (step n h)
    · rw [clamp (n + 1) (by omega)]
      rw [clamp n h] at ih
      exact ih

/-- `values_agree` at arrays that hold reals. -/
theorem values_agree_of (A : S100000x128.Idx → EReal) (ids : S100000.Idx → BitVec 32) (Wr : S128x64.Idx → EReal) (br : S64.Idx → EReal) (Wg : S128x1.Idx → EReal)
    (bg : S1.Idx → EReal) (Wo : S128x1.Idx → EReal) (bo : S1.Idx → EReal) (hr : InRange ids)
    (hA : ∃ r : S100000x128.Idx → ℝ, A = fun i => (r i : EReal)) (hWr : ∃ r : S128x64.Idx → ℝ, Wr = fun i => (r i : EReal)) (hbr : ∃ r : S64.Idx → ℝ, br = fun i => (r i : EReal))
    (hWg : ∃ r : S128x1.Idx → ℝ, Wg = fun i => (r i : EReal)) (hbg : ∃ r : S1.Idx → ℝ, bg = fun i => (r i : EReal)) (hWo : ∃ r : S128x1.Idx → ℝ, Wo = fun i => (r i : EReal)) (b : Fin 256) :
    pooledValue ids (fun n => through A Wr Wg (node n 0)) (fun n => through A Wr Wo (node n 0)) (mix br Wo) (bo (ix1 0)) b.val = Ref.result A ids Wr br Wg bg Wo bo (ix1 b) := by
  obtain ⟨A, rfl⟩ := hA
  obtain ⟨Wr, rfl⟩ := hWr
  obtain ⟨br, rfl⟩ := hbr
  obtain ⟨Wg, rfl⟩ := hWg
  obtain ⟨bg, rfl⟩ := hbg
  obtain ⟨Wo, rfl⟩ := hWo
  exact values_agree ids A Wr br Wg bg Wo hr bo b

set_option maxRecDepth 100000 in
/-- Under the second precondition the program's output is the reference's result. -/
theorem out_eq (m : (ℓ : Loc nD τ sig) → Buf (Elt Ideal) ℓ)
    (h : ∀ c : Dev nD, Cert.Pre_inputs_tame.fn (F := Ideal) (m (annLoc c)) (m (idLoc c)) (m (wredLoc c)) (m (bredLoc c)) (m (wgLoc c)) (m (bgLoc c)) (m (woLoc c)) (m (boLoc c)) = fun _ => 1#1)
    (d : Dev nD) {o : S256.Idx → EReal} (ho : IsOut (F := Ideal) m (ok_of_tame m h) d o) :
    o = Ref.result (m (annLoc d)) (m (idLoc d)) (m (wredLoc d)) (m (bredLoc d)) (m (wgLoc d)) (m (bgLoc d)) (m (woLoc d)) (m (boLoc d)) := by
  haveI : Subsingleton Cert.Pre_inputs_tame.S_.Idx := ⟨fun a b => funext fun k => k.elim0⟩
  have e := congrFun (h d) (fun k => k.elim0)
  obtain ⟨e39, e38⟩ := IntOp.andi_eq_one.1 e
  obtain ⟨e33, eWo⟩ := IntOp.andi_eq_one.1 e38
  obtain ⟨e28, ebg⟩ := IntOp.andi_eq_one.1 e33
  obtain ⟨e23, eWg⟩ := IntOp.andi_eq_one.1 e28
  obtain ⟨e18, ebr⟩ := IntOp.andi_eq_one.1 e23
  obtain ⟨eA, eWr⟩ := IntOp.andi_eq_one.1 e18
  have hr := ok_of_tame m h d
  have hs := sorted_of_all (m (idLoc d)) hr _ _ (IntOp.andi_eq_one.1 e39).2
  funext j
  rw [eq_ix1 j]
  refine (out_at m d (ok_of_tame m h) hs ho (j 0)).trans ?_
  exact values_agree_of _ _ _ _ _ _ _ _ hr (finite_of_all _ _ _ _ _ _ eA) (finite_of_all _ _ _ _ _ _ eWr) (finite_of_all _ _ _ _ _ _ ebr)
    (finite_of_all _ _ _ _ _ _ eWg) (finite_of_all _ _ _ _ _ _ ebg) (finite_of_all _ _ _ _ _ _ eWo) (j 0)

end Cert.Proof.Pool

namespace Cert.Proof

open Idealize.ShloMosaic Idealize.SL.Sem Cert.Proof.Pool

/-- `Cert.algebraic_KernelIdeal_ReferenceIdeal_pre_inputs_tame` (Defs.lean). -/
theorem algebraic : Cert.algebraic_KernelIdeal_ReferenceIdeal_pre_inputs_tame := fun m g m' g' hpre hargs =>
  ⟨fun c => Ref.result (m (annLoc c)) (m (idLoc c)) (m (wredLoc c)) (m (bredLoc c)) (m (wgLoc c)) (m (bgLoc c)) (m (woLoc c)) (m (boLoc c)),
    (θ_run Cert.KernelIdeal.defs _ _).mono (fun _ h c => ⟨out_eq m hpre c (h.1 c).2, (h.1 c).1⟩) (run_main (F := Ideal) m g (ok_of_tame m hpre)),
    (θ_run Cert.ReferenceIdeal.defs _ _).mono (fun _ h c => ⟨(h c).1.trans (by
      obtain ⟨a0, a1, a2, a3, a4, a5, a6, a7⟩ := hargs c
      rw [Ref.res_eq, a0, a1, a2, a3, a4, a5, a6, a7]), (h c).2⟩) (Cert.ReferenceIdeal.Value.run (F := Ideal) m' g')⟩

end Cert.Proof

end
-- ==== Proof.lean ====
module

public import proofs.«01_k».proof.Defs
public import proofs.«01_k».proof.Proof.Frames
public import proofs.«01_k».proof.Proof.Algebraic

@[expose] public section

noncomputable section

namespace Cert.Proof

/-- The certificate's claim. -/
theorem claim : Cert.Claim :=
  ⟨Cert.Kernel.Gen.facts, Cert.KernelIdeal.Gen.facts, Cert.ReferenceIdeal.Gen.facts, Cert.Pre_ids_in_range.Gen.facts, Cert.Pre_inputs_tame.Gen.facts,
    frame_kernel, frame_kernelIdeal, frame_kernelIdeal_tame, frame_reference, frame_reference_tame, preserves, algebraic⟩

end Cert.Proof

end
